-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive [hPre_positive : Cert.Pre_positive.Facts] (m : (ℓ : Loc Cert.KernelIdeal.nD Cert.KernelIdeal.τ Cert.KernelIdeal.sig) → Buf (Elt Ideal) ℓ) : Prop :=
  ∀ c : Dev Cert.KernelIdeal.nD,
    (Cert.Pre_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive [hPre_positive : Cert.Pre_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_positive [hKernelIdeal : Cert.KernelIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_positive [hReferenceIdeal : Cert.ReferenceIdeal.Facts] [hPre_positive : Cert.Pre_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_positive [hKernelIdeal : Cert.KernelIdeal.Facts] [hReferenceIdeal : Cert.ReferenceIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_positive : Cert.Pre_positive.Facts),
    quiescent_Kernel (hKernel := hKernel)
    ∧ quiescent_KernelIdeal (hKernelIdeal := hKernelIdeal)
    ∧ quiescent_KernelIdeal_pre_positive (hKernelIdeal := hKernelIdeal) (hPre_positive := hPre_positive)
    ∧ quiescent_ReferenceIdeal (hReferenceIdeal := hReferenceIdeal)
    ∧ quiescent_ReferenceIdeal_pre_positive (hReferenceIdeal := hReferenceIdeal) (hPre_positive := hPre_positive)
    ∧ preserves_Kernel_KernelIdeal
    ∧ algebraic_KernelIdeal_ReferenceIdeal_pre_positive (hKernelIdeal := hKernelIdeal) (hReferenceIdeal := hReferenceIdeal) (hPre_positive := hPre_positive)
-- ==== Pre_positive.lean ====
abbrev S10x8 : Shape := ⟨2, ![10, 8]⟩
abbrev S1x8192x8 : Shape := ⟨3, ![1, 8192, 8]⟩
abbrev S1x8192 : Shape := ⟨2, ![1, 8192]⟩
abbrev S4096x8192 : Shape := ⟨2, ![4096, 8192]⟩
abbrev S1 : Shape := ⟨1, ![1]⟩
abbrev S_ : Shape := ⟨0, ![]⟩
abbrev S10 : Shape := ⟨1, ![10]⟩

class Facts : Prop where
  reducesTo_S10x8_S10_d1 : S10x8.ReducesTo [1] S10
  h_S_ : 0 < S_.numel
  reducesTo_S10_S_d0 : S10.ReducesTo [0] S_
  reducesTo_S1x8192x8_S1x8192_d2 : S1x8192x8.ReducesTo [2] S1x8192
  shapeCasts_S1_S_ : S1.ShapeCasts S_
  bcast_S_S1x8192 : S_.BroadcastsInDim S1x8192 (![] : Fin 0 → Fin S1x8192.rank)
  reducesTo_S1x8192_S_d0_1 : S1x8192.ReducesTo [0, 1] S_

variable [Facts]

def fn_part1 {F : FTy → Type} [FloatOps F] (main_v2 : FVec F S1x8192 .f32) (main_v11 : IVec S_ 1) (main_v14 : IVec S_ 1) : IVec S_ 1 :=
  let main_v15 : IVec S_ 1 := andi main_v11 main_v14
  let main_cst_7 : FVec F S_ .f32 := constant S_ .f32 0x7F800000#32
  let main_v16 : FVec F S1x8192 .f32 := broadcastInDim S1x8192 ![] bcast_S_S1x8192 main_cst_7
  let main_v17 : IVec S1x8192 1 := cmpf .olt main_v2 main_v16
  let main_c_8 : IVec S_ 1 := constantI S_ 1 1#1
  let main_v18 : IVec S_ 1 := (fun x v => Host.reduce IntOp.andi x v reducesTo_S1x8192_S_d0_1 h_S_) main_v17 main_c_8
  let main_v19 : IVec S_ 1 := andi main_v15 main_v18
  main_v19

def fn {F : FTy → Type} [FloatOps F] (main_arg0 : FVec F S10x8 .f32) (main_arg1 : FVec F S1x8192x8 .f32) (main_arg2 : FVec F S1x8192 .f32) (main_arg3 : FVec F S4096x8192 .f32) (main_arg4 : FVec F S1 .f32) (main_arg5 : FVec F S1 .f32) (main_arg6 : FVec F S1 .f32) : IVec S_ 1 :=
  let main_cst : FVec F S_ .f32 := constant S_ .f32 0x00000000#32
  let main_v0 : FVec F S10 .f32 := (fun x v => Host.reduceAdd x v reducesTo_S10x8_S10_d1 h_S_) main_arg0 main_cst
  let main_cst_0 : FVec F S_ .f32 := constant S_ .f32 0xFF800000#32
  let main_v1 : FVec F S_ .f32 := (fun x v => Host.reduce FloatOps.maximumf x v reducesTo_S10_S_d0 h_S_) main_v0 main_cst_0
  let main_cst_1 : FVec F S_ .f32 := constant S_ .f32 0x00000000#32
  let main_v2 : FVec F S1x8192 .f32 := (fun x v => Host.reduceAdd x v reducesTo_S1x8192x8_S1x8192_d2 h_S_) main_arg1 main_cst_1
  let main_cst_2 : FVec F S_ .f32 := constant S_ .f32 0x00000000#32
  let main_v3 : IVec S_ 1 := cmpf .ogt main_v1 main_cst_2
  let main_cst_3 : FVec F S_ .f32 := constant S_ .f32 0x7F800000#32
  let main_v4 : IVec S_ 1 := cmpf .olt main_v1 main_cst_3
  let main_v5 : IVec S_ 1 := andi main_v3 main_v4
  let main_v6 : FVec F S_ .f32 := shapeCast S_ main_arg6 shapeCasts_S1_S_
  let main_cst_4 : FVec F S_ .f32 := constant S_ .f32 0x00000000#32
  let main_v7 : IVec S_ 1 := cmpf .ogt main_v6 main_cst_4
  let main_v8 : IVec S_ 1 := andi main_v5 main_v7
  let main_v9 : FVec F S_ .f32 := shapeCast S_ main_arg6 shapeCasts_S1_S_
  let main_cst_5 : FVec F S_ .f32 := constant S_ .f32 0x7F800000#32
  let main_v10 : IVec S_ 1 := cmpf .olt main_v9 main_cst_5
  let main_v11 : IVec S_ 1 := andi main_v8 main_v10
  let main_cst_6 : FVec F S_ .f32 := constant S_ .f32 0x00000000#32
  let main_v12 : FVec F S1x8192 .f32 := broadcastInDim S1x8192 ![] bcast_S_S1x8192 main_cst_6
  let main_v13 : IVec S1x8192 1 := cmpf .ogt main_v2 main_v12
  let main_c : IVec S_ 1 := constantI S_ 1 1#1
  let main_v14 : IVec S_ 1 := (fun x v => Host.reduce IntOp.andi x v reducesTo_S1x8192_S_d0_1 h_S_) main_v13 main_c
  fn_part1 (F := F) main_v2 main_v11 main_v14
-- ==== Kernel.lean ====
abbrev S10x8 : Shape := ⟨2, ![10, 8]⟩
abbrev S1x8192x8 : Shape := ⟨3, ![1, 8192, 8]⟩
abbrev S1x8192 : Shape := ⟨2, ![1, 8192]⟩
abbrev S4096x8192 : Shape := ⟨2, ![4096, 8192]⟩
abbrev S1 : Shape := ⟨1, ![1]⟩
abbrev S1x1 : Shape := ⟨2, ![1, 1]⟩
abbrev S64x128 : Shape := ⟨2, ![64, 128]⟩
abbrev S72x128 : Shape := ⟨2, ![72, 128]⟩
abbrev S10 : Shape := ⟨1, ![10]⟩
abbrev S1x10 : Shape := ⟨2, ![1, 10]⟩
abbrev S128x128 : Shape := ⟨2, ![128, 128]⟩
abbrev S64x1 : Shape := ⟨2, ![64, 1]⟩
abbrev S64x64 : Shape := ⟨2, ![64, 64]⟩
abbrev S8x128 : Shape := ⟨2, ![8, 128]⟩
abbrev S1x128 : Shape := ⟨2, ![1, 128]⟩
abbrev S9216 : Shape := ⟨1, ![9216]⟩
abbrev S4096 : Shape := ⟨1, ![4096]⟩
abbrev S144 : Shape := ⟨1, ![144]⟩
abbrev S160 : Shape := ⟨1, ![160]⟩
abbrev S128x8 : Shape := ⟨2, ![128, 8]⟩
abbrev S128 : Shape := ⟨1, ![128]⟩
abbrev S16 : Shape := ⟨1, ![16]⟩
abbrev S_ : Shape := ⟨0, ![]⟩
abbrev S1x128x8 : Shape := ⟨3, ![1, 128, 8]⟩

abbrev nBuf : Table → Nat
  | .hbm => 15
  | .local .tc .vmem => 6
  | .local .scVector .vmem => 9
  | _ => 0

abbrev bufTy : (tb : Table) → Fin (nBuf tb) → BufTy
  | .hbm, ⟨0, _⟩ => ⟨S10x8, .f32⟩
  | .hbm, ⟨1, _⟩ => ⟨S1x8192x8, .f32⟩
  | .hbm, ⟨2, _⟩ => ⟨S1x8192, .f32⟩
  | .hbm, ⟨3, _⟩ => ⟨S4096x8192, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S64x128, .f32⟩
  | .hbm, ⟨11, _⟩ => ⟨S72x128, .f32⟩
  | .hbm, ⟨12, _⟩ => ⟨S9216, .f32⟩
  | .hbm, ⟨13, _⟩ => ⟨S4096, .f32⟩
  | .hbm, ⟨14, _⟩ => ⟨S4096, .f32⟩
  | .local .tc .vmem, ⟨0, _⟩ => ⟨S10x8, .f32⟩
  | .local .tc .vmem, ⟨1, _⟩ => ⟨S64x128, .f32⟩
  | .local .tc .vmem, ⟨2, _⟩ => ⟨S1x1, .f32⟩
  | .local .tc .vmem, ⟨3, _⟩ => ⟨S1x1, .f32⟩
  | .local .tc .vmem, ⟨4, _⟩ => ⟨S1x1, .f32⟩
  | .local .tc .vmem, ⟨5, _⟩ => ⟨S72x128, .f32⟩
  | .local .scVector .vmem, ⟨0, _⟩ => ⟨S144, .f32⟩
  | .local .scVector .vmem, ⟨1, _⟩ => ⟨S160, .f32⟩
  | .local .scVector .vmem, ⟨2, _⟩ => ⟨S128x128, .f32⟩
  | .local .scVector .vmem, ⟨3, _⟩ => ⟨S128x8, .f32⟩
  | .local .scVector .vmem, ⟨4, _⟩ => ⟨S128, .f32⟩
  | .local .scVector .vmem, ⟨5, _⟩ => ⟨S128, .f32⟩
  | .local .scVector .vmem, ⟨6, _⟩ => ⟨S16, .f32⟩
  | .local .scVector .vmem, ⟨7, _⟩ => ⟨S128, .f32⟩
  | .local .scVector .vmem, ⟨8, _⟩ => ⟨S128, .i32⟩
  | _, _ => ⟨S10x8, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v5_scv : Ref sig .scVector := ⟨.hbm, 12, rfl⟩
abbrev main_arg1_scv : Ref sig .scVector := ⟨.hbm, 1, rfl⟩
abbrev main_arg3_scv : Ref sig .scVector := ⟨.hbm, 3, rfl⟩
abbrev main_v6_0_scv : Ref sig .scVector := ⟨.hbm, 13, rfl⟩
abbrev main_v6_1_scv : Ref sig .scVector := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S10x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S72x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_13 : BitVec 32 := 0#32
  ![v2.toNat, 0]

def k1_chk1 (v46 : IVec S16 32) (v48 : IVec S16 32) : Prop :=
  (∀ a x, ((![v46, v48] : Fin 2 → IVec S16 32) a x).toNat < S128x8.size a)
theorem k1_idx1_inb : ∀ (v46 : IVec S16 32) (v48 : IVec S16 32) (k1_hw1 : k1_chk1 v46 v48), ∀ a x, ((![v46, v48] : Fin 2 → IVec S16 32) a x).toNat < S128x8.size a := fun v46 v48 k1_hw1 => k1_hw1

def k1_chk2 (v46 : IVec S16 32) (v51 : IVec S16 32) : Prop :=
  (∀ a x, ((![v46, v51] : Fin 2 → IVec S16 32) a x).toNat < S128x8.size a)
theorem k1_idx2_inb : ∀ (v46 : IVec S16 32) (v51 : IVec S16 32) (k1_hw2 : k1_chk2 v46 v51), ∀ a x, ((![v46, v51] : Fin 2 → IVec S16 32) a x).toNat < S128x8.size a := fun v46 v51 k1_hw2 => k1_hw2

def k1_chk3 (v46 : IVec S16 32) (v54 : IVec S16 32) : Prop :=
  (∀ a x, ((![v46, v54] : Fin 2 → IVec S16 32) a x).toNat < S128x8.size a)
theorem k1_idx3_inb : ∀ (v46 : IVec S16 32) (v54 : IVec S16 32) (k1_hw3 : k1_chk3 v46 v54), ∀ a x, ((![v46, v54] : Fin 2 → IVec S16 32) a x).toNat < S128x8.size a := fun v46 v54 k1_hw3 => k1_hw3

def k1_chk4 (v46 : IVec S16 32) (v57 : IVec S16 32) : Prop :=
  (∀ a x, ((![v46, v57] : Fin 2 → IVec S16 32) a x).toNat < S128x8.size a)
theorem k1_idx4_inb : ∀ (v46 : IVec S16 32) (v57 : IVec S16 32) (k1_hw4 : k1_chk4 v46 v57), ∀ a x, ((![v46, v57] : Fin 2 → IVec S16 32) a x).toNat < S128x8.size a := fun v46 v57 k1_hw4 => k1_hw4

def k1_chk5 (v46 : IVec S16 32) (v60 : IVec S16 32) : Prop :=
  (∀ a x, ((![v46, v60] : Fin 2 → IVec S16 32) a x).toNat < S128x8.size a)
theorem k1_idx5_inb : ∀ (v46 : IVec S16 32) (v60 : IVec S16 32) (k1_hw5 : k1_chk5 v46 v60), ∀ a x, ((![v46, v60] : Fin 2 → IVec S16 32) a x).toNat < S128x8.size a := fun v46 v60 k1_hw5 => k1_hw5

def k1_chk6 (v46 : IVec S16 32) (v63 : IVec S16 32) : Prop :=
  (∀ a x, ((![v46, v63] : Fin 2 → IVec S16 32) a x).toNat < S128x8.size a)
theorem k1_idx6_inb : ∀ (v46 : IVec S16 32) (v63 : IVec S16 32) (k1_hw6 : k1_chk6 v46 v63), ∀ a x, ((![v46, v63] : Fin 2 → IVec S16 32) a x).toNat < S128x8.size a := fun v46 v63 k1_hw6 => k1_hw6

def k1_chk7 (v46 : IVec S16 32) (v66 : IVec S16 32) : Prop :=
  (∀ a x, ((![v46, v66] : Fin 2 → IVec S16 32) a x).toNat < S128x8.size a)
theorem k1_idx7_inb : ∀ (v46 : IVec S16 32) (v66 : IVec S16 32) (k1_hw7 : k1_chk7 v46 v66), ∀ a x, ((![v46, v66] : Fin 2 → IVec S16 32) a x).toNat < S128x8.size a := fun v46 v66 k1_hw7 => k1_hw7

def k1_chk8 (v46 : IVec S16 32) (v69 : IVec S16 32) : Prop :=
  (∀ a x, ((![v46, v69] : Fin 2 → IVec S16 32) a x).toNat < S128x8.size a)
theorem k1_idx8_inb : ∀ (v46 : IVec S16 32) (v69 : IVec S16 32) (k1_hw8 : k1_chk8 v46 v69), ∀ a x, ((![v46, v69] : Fin 2 → IVec S16 32) a x).toNat < S128x8.size a := fun v46 v69 k1_hw8 => k1_hw8

def k1_chk9 (v76 : IVec S16 32) (v78 : IVec S16 32) : Prop :=
  (∀ a x, ((![v76, v78] : Fin 2 → IVec S16 32) a x).toNat < S128x8.size a)
theorem k1_idx9_inb : ∀ (v76 : IVec S16 32) (v78 : IVec S16 32) (k1_hw9 : k1_chk9 v76 v78), ∀ a x, ((![v76, v78] : Fin 2 → IVec S16 32) a x).toNat < S128x8.size a := fun v76 v78 k1_hw9 => k1_hw9

def k1_chk10 (v76 : IVec S16 32) (v81 : IVec S16 32) : Prop :=
  (∀ a x, ((![v76, v81] : Fin 2 → IVec S16 32) a x).toNat < S128x8.size a)
theorem k1_idx10_inb : ∀ (v76 : IVec S16 32) (v81 : IVec S16 32) (k1_hw10 : k1_chk10 v76 v81), ∀ a x, ((![v76, v81] : Fin 2 → IVec S16 32) a x).toNat < S128x8.size a := fun v76 v81 k1_hw10 => k1_hw10

def k1_chk11 (v76 : IVec S16 32) (v84 : IVec S16 32) : Prop :=
  (∀ a x, ((![v76, v84] : Fin 2 → IVec S16 32) a x).toNat < S128x8.size a)
theorem k1_idx11_inb : ∀ (v76 : IVec S16 32) (v84 : IVec S16 32) (k1_hw11 : k1_chk11 v76 v84), ∀ a x, ((![v76, v84] : Fin 2 → IVec S16 32) a x).toNat < S128x8.size a := fun v76 v84 k1_hw11 => k1_hw11

def k1_chk12 (v76 : IVec S16 32) (v87 : IVec S16 32) : Prop :=
  (∀ a x, ((![v76, v87] : Fin 2 → IVec S16 32) a x).toNat < S128x8.size a)
theorem k1_idx12_inb : ∀ (v76 : IVec S16 32) (v87 : IVec S16 32) (k1_hw12 : k1_chk12 v76 v87), ∀ a x, ((![v76, v87] : Fin 2 → IVec S16 32) a x).toNat < S128x8.size a := fun v76 v87 k1_hw12 => k1_hw12

def k1_chk13 (v76 : IVec S16 32) (v90 : IVec S16 32) : Prop :=
  (∀ a x, ((![v76, v90] : Fin 2 → IVec S16 32) a x).toNat < S128x8.size a)
theorem k1_idx13_inb : ∀ (v76 : IVec S16 32) (v90 : IVec S16 32) (k1_hw13 : k1_chk13 v76 v90), ∀ a x, ((![v76, v90] : Fin 2 → IVec S16 32) a x).toNat < S128x8.size a := fun v76 v90 k1_hw13 => k1_hw13

def k1_chk14 (v76 : IVec S16 32) (v93 : IVec S16 32) : Prop :=
  (∀ a x, ((![v76, v93] : Fin 2 → IVec S16 32) a x).toNat < S128x8.size a)
theorem k1_idx14_inb : ∀ (v76 : IVec S16 32) (v93 : IVec S16 32) (k1_hw14 : k1_chk14 v76 v93), ∀ a x, ((![v76, v93] : Fin 2 → IVec S16 32) a x).toNat < S128x8.size a := fun v76 v93 k1_hw14 => k1_hw14

def k1_chk15 (v76 : IVec S16 32) (v96 : IVec S16 32) : Prop :=
  (∀ a x, ((![v76, v96] : Fin 2 → IVec S16 32) a x).toNat < S128x8.size a)
theorem k1_idx15_inb : ∀ (v76 : IVec S16 32) (v96 : IVec S16 32) (k1_hw15 : k1_chk15 v76 v96), ∀ a x, ((![v76, v96] : Fin 2 → IVec S16 32) a x).toNat < S128x8.size a := fun v76 v96 k1_hw15 => k1_hw15

def k1_chk16 (v76 : IVec S16 32) (v99 : IVec S16 32) : Prop :=
  (∀ a x, ((![v76, v99] : Fin 2 → IVec S16 32) a x).toNat < S128x8.size a)
theorem k1_idx16_inb : ∀ (v76 : IVec S16 32) (v99 : IVec S16 32) (k1_hw16 : k1_chk16 v76 v99), ∀ a x, ((![v76, v99] : Fin 2 → IVec S16 32) a x).toNat < S128x8.size a := fun v76 v99 k1_hw16 => k1_hw16

def k1_chk17 (v106 : IVec S16 32) (v108 : IVec S16 32) : Prop :=
  (∀ a x, ((![v106, v108] : Fin 2 → IVec S16 32) a x).toNat < S128x8.size a)
theorem k1_idx17_inb : ∀ (v106 : IVec S16 32) (v108 : IVec S16 32) (k1_hw17 : k1_chk17 v106 v108), ∀ a x, ((![v106, v108] : Fin 2 → IVec S16 32) a x).toNat < S128x8.size a := fun v106 v108 k1_hw17 => k1_hw17

def k1_chk18 (v106 : IVec S16 32) (v111 : IVec S16 32) : Prop :=
  (∀ a x, ((![v106, v111] : Fin 2 → IVec S16 32) a x).toNat < S128x8.size a)
theorem k1_idx18_inb : ∀ (v106 : IVec S16 32) (v111 : IVec S16 32) (k1_hw18 : k1_chk18 v106 v111), ∀ a x, ((![v106, v111] : Fin 2 → IVec S16 32) a x).toNat < S128x8.size a := fun v106 v111 k1_hw18 => k1_hw18

def k1_chk19 (v106 : IVec S16 32) (v114 : IVec S16 32) : Prop :=
  (∀ a x, ((![v106, v114] : Fin 2 → IVec S16 32) a x).toNat < S128x8.size a)
theorem k1_idx19_inb : ∀ (v106 : IVec S16 32) (v114 : IVec S16 32) (k1_hw19 : k1_chk19 v106 v114), ∀ a x, ((![v106, v114] : Fin 2 → IVec S16 32) a x).toNat < S128x8.size a := fun v106 v114 k1_hw19 => k1_hw19

def k1_chk20 (v106 : IVec S16 32) (v117 : IVec S16 32) : Prop :=
  (∀ a x, ((![v106, v117] : Fin 2 → IVec S16 32) a x).toNat < S128x8.size a)
theorem k1_idx20_inb : ∀ (v106 : IVec S16 32) (v117 : IVec S16 32) (k1_hw20 : k1_chk20 v106 v117), ∀ a x, ((![v106, v117] : Fin 2 → IVec S16 32) a x).toNat < S128x8.size a := fun v106 v117 k1_hw20 => k1_hw20

def k1_chk21 (v106 : IVec S16 32) (v120 : IVec S16 32) : Prop :=
  (∀ a x, ((![v106, v120] : Fin 2 → IVec S16 32) a x).toNat < S128x8.size a)
theorem k1_idx21_inb : ∀ (v106 : IVec S16 32) (v120 : IVec S16 32) (k1_hw21 : k1_chk21 v106 v120), ∀ a x, ((![v106, v120] : Fin 2 → IVec S16 32) a x).toNat < S128x8.size a := fun v106 v120 k1_hw21 => k1_hw21

def k1_chk22 (v106 : IVec S16 32) (v123 : IVec S16 32) : Prop :=
  (∀ a x, ((![v106, v123] : Fin 2 → IVec S16 32) a x).toNat < S128x8.size a)
theorem k1_idx22_inb : ∀ (v106 : IVec S16 32) (v123 : IVec S16 32) (k1_hw22 : k1_chk22 v106 v123), ∀ a x, ((![v106, v123] : Fin 2 → IVec S16 32) a x).toNat < S128x8.size a := fun v106 v123 k1_hw22 => k1_hw22

def k1_chk23 (v106 : IVec S16 32) (v126 : IVec S16 32) : Prop :=
  (∀ a x, ((![v106, v126] : Fin 2 → IVec S16 32) a x).toNat < S128x8.size a)
theorem k1_idx23_inb : ∀ (v106 : IVec S16 32) (v126 : IVec S16 32) (k1_hw23 : k1_chk23 v106 v126), ∀ a x, ((![v106, v126] : Fin 2 → IVec S16 32) a x).toNat < S128x8.size a := fun v106 v126 k1_hw23 => k1_hw23

def k1_chk24 (v106 : IVec S16 32) (v129 : IVec S16 32) : Prop :=
  (∀ a x, ((![v106, v129] : Fin 2 → IVec S16 32) a x).toNat < S128x8.size a)
theorem k1_idx24_inb : ∀ (v106 : IVec S16 32) (v129 : IVec S16 32) (k1_hw24 : k1_chk24 v106 v129), ∀ a x, ((![v106, v129] : Fin 2 → IVec S16 32) a x).toNat < S128x8.size a := fun v106 v129 k1_hw24 => k1_hw24

def k1_chk25 (v136 : IVec S16 32) (v138 : IVec S16 32) : Prop :=
  (∀ a x, ((![v136, v138] : Fin 2 → IVec S16 32) a x).toNat < S128x8.size a)
theorem k1_idx25_inb : ∀ (v136 : IVec S16 32) (v138 : IVec S16 32) (k1_hw25 : k1_chk25 v136 v138), ∀ a x, ((![v136, v138] : Fin 2 → IVec S16 32) a x).toNat < S128x8.size a := fun v136 v138 k1_hw25 => k1_hw25

def k1_chk26 (v136 : IVec S16 32) (v141 : IVec S16 32) : Prop :=
  (∀ a x, ((![v136, v141] : Fin 2 → IVec S16 32) a x).toNat < S128x8.size a)
theorem k1_idx26_inb : ∀ (v136 : IVec S16 32) (v141 : IVec S16 32) (k1_hw26 : k1_chk26 v136 v141), ∀ a x, ((![v136, v141] : Fin 2 → IVec S16 32) a x).toNat < S128x8.size a := fun v136 v141 k1_hw26 => k1_hw26

def k1_chk27 (v136 : IVec S16 32) (v144 : IVec S16 32) : Prop :=
  (∀ a x, ((![v136, v144] : Fin 2 → IVec S16 32) a x).toNat < S128x8.size a)
theorem k1_idx27_inb : ∀ (v136 : IVec S16 32) (v144 : IVec S16 32) (k1_hw27 : k1_chk27 v136 v144), ∀ a x, ((![v136, v144] : Fin 2 → IVec S16 32) a x).toNat < S128x8.size a := fun v136 v144 k1_hw27 => k1_hw27

def k1_chk28 (v136 : IVec S16 32) (v147 : IVec S16 32) : Prop :=
  (∀ a x, ((![v136, v147] : Fin 2 → IVec S16 32) a x).toNat < S128x8.size a)
theorem k1_idx28_inb : ∀ (v136 : IVec S16 32) (v147 : IVec S16 32) (k1_hw28 : k1_chk28 v136 v147), ∀ a x, ((![v136, v147] : Fin 2 → IVec S16 32) a x).toNat < S128x8.size a := fun v136 v147 k1_hw28 => k1_hw28

def k1_chk29 (v136 : IVec S16 32) (v150 : IVec S16 32) : Prop :=
  (∀ a x, ((![v136, v150] : Fin 2 → IVec S16 32) a x).toNat < S128x8.size a)
theorem k1_idx29_inb : ∀ (v136 : IVec S16 32) (v150 : IVec S16 32) (k1_hw29 : k1_chk29 v136 v150), ∀ a x, ((![v136, v150] : Fin 2 → IVec S16 32) a x).toNat < S128x8.size a := fun v136 v150 k1_hw29 => k1_hw29

def k1_chk30 (v136 : IVec S16 32) (v153 : IVec S16 32) : Prop :=
  (∀ a x, ((![v136, v153] : Fin 2 → IVec S16 32) a x).toNat < S128x8.size a)
theorem k1_idx30_inb : ∀ (v136 : IVec S16 32) (v153 : IVec S16 32) (k1_hw30 : k1_chk30 v136 v153), ∀ a x, ((![v136, v153] : Fin 2 → IVec S16 32) a x).toNat < S128x8.size a := fun v136 v153 k1_hw30 => k1_hw30

def k1_chk31 (v136 : IVec S16 32) (v156 : IVec S16 32) : Prop :=
  (∀ a x, ((![v136, v156] : Fin 2 → IVec S16 32) a x).toNat < S128x8.size a)
theorem k1_idx31_inb : ∀ (v136 : IVec S16 32) (v156 : IVec S16 32) (k1_hw31 : k1_chk31 v136 v156), ∀ a x, ((![v136, v156] : Fin 2 → IVec S16 32) a x).toNat < S128x8.size a := fun v136 v156 k1_hw31 => k1_hw31

def k1_chk32 (v136 : IVec S16 32) (v159 : IVec S16 32) : Prop :=
  (∀ a x, ((![v136, v159] : Fin 2 → IVec S16 32) a x).toNat < S128x8.size a)
theorem k1_idx32_inb : ∀ (v136 : IVec S16 32) (v159 : IVec S16 32) (k1_hw32 : k1_chk32 v136 v159), ∀ a x, ((![v136, v159] : Fin 2 → IVec S16 32) a x).toNat < S128x8.size a := fun v136 v159 k1_hw32 => k1_hw32

def k1_chk33 (v166 : IVec S16 32) (v168 : IVec S16 32) : Prop :=
  (∀ a x, ((![v166, v168] : Fin 2 → IVec S16 32) a x).toNat < S128x8.size a)
theorem k1_idx33_inb : ∀ (v166 : IVec S16 32) (v168 : IVec S16 32) (k1_hw33 : k1_chk33 v166 v168), ∀ a x, ((![v166, v168] : Fin 2 → IVec S16 32) a x).toNat < S128x8.size a := fun v166 v168 k1_hw33 => k1_hw33

def k1_chk34 (v166 : IVec S16 32) (v171 : IVec S16 32) : Prop :=
  (∀ a x, ((![v166, v171] : Fin 2 → IVec S16 32) a x).toNat < S128x8.size a)
theorem k1_idx34_inb : ∀ (v166 : IVec S16 32) (v171 : IVec S16 32) (k1_hw34 : k1_chk34 v166 v171), ∀ a x, ((![v166, v171] : Fin 2 → IVec S16 32) a x).toNat < S128x8.size a := fun v166 v171 k1_hw34 => k1_hw34

def k1_chk35 (v166 : IVec S16 32) (v174 : IVec S16 32) : Prop :=
  (∀ a x, ((![v166, v174] : Fin 2 → IVec S16 32) a x).toNat < S128x8.size a)
theorem k1_idx35_inb : ∀ (v166 : IVec S16 32) (v174 : IVec S16 32) (k1_hw35 : k1_chk35 v166 v174), ∀ a x, ((![v166, v174] : Fin 2 → IVec S16 32) a x).toNat < S128x8.size a := fun v166 v174 k1_hw35 => k1_hw35

def k1_chk36 (v166 : IVec S16 32) (v177 : IVec S16 32) : Prop :=
  (∀ a x, ((![v166, v177] : Fin 2 → IVec S16 32) a x).toNat < S128x8.size a)
theorem k1_idx36_inb : ∀ (v166 : IVec S16 32) (v177 : IVec S16 32) (k1_hw36 : k1_chk36 v166 v177), ∀ a x, ((![v166, v177] : Fin 2 → IVec S16 32) a x).toNat < S128x8.size a := fun v166 v177 k1_hw36 => k1_hw36

def k1_chk37 (v166 : IVec S16 32) (v180 : IVec S16 32) : Prop :=
  (∀ a x, ((![v166, v180] : Fin 2 → IVec S16 32) a x).toNat < S128x8.size a)
theorem k1_idx37_inb : ∀ (v166 : IVec S16 32) (v180 : IVec S16 32) (k1_hw37 : k1_chk37 v166 v180), ∀ a x, ((![v166, v180] : Fin 2 → IVec S16 32) a x).toNat < S128x8.size a := fun v166 v180 k1_hw37 => k1_hw37

def k1_chk38 (v166 : IVec S16 32) (v183 : IVec S16 32) : Prop :=
  (∀ a x, ((![v166, v183] : Fin 2 → IVec S16 32) a x).toNat < S128x8.size a)
theorem k1_idx38_inb : ∀ (v166 : IVec S16 32) (v183 : IVec S16 32) (k1_hw38 : k1_chk38 v166 v183), ∀ a x, ((![v166, v183] : Fin 2 → IVec S16 32) a x).toNat < S128x8.size a := fun v166 v183 k1_hw38 => k1_hw38

def k1_chk39 (v166 : IVec S16 32) (v186 : IVec S16 32) : Prop :=
  (∀ a x, ((![v166, v186] : Fin 2 → IVec S16 32) a x).toNat < S128x8.size a)
theorem k1_idx39_inb : ∀ (v166 : IVec S16 32) (v186 : IVec S16 32) (k1_hw39 : k1_chk39 v166 v186), ∀ a x, ((![v166, v186] : Fin 2 → IVec S16 32) a x).toNat < S128x8.size a := fun v166 v186 k1_hw39 => k1_hw39

def k1_chk40 (v166 : IVec S16 32) (v189 : IVec S16 32) : Prop :=
  (∀ a x, ((![v166, v189] : Fin 2 → IVec S16 32) a x).toNat < S128x8.size a)
theorem k1_idx40_inb : ∀ (v166 : IVec S16 32) (v189 : IVec S16 32) (k1_hw40 : k1_chk40 v166 v189), ∀ a x, ((![v166, v189] : Fin 2 → IVec S16 32) a x).toNat < S128x8.size a := fun v166 v189 k1_hw40 => k1_hw40

def k1_chk41 (v196 : IVec S16 32) (v198 : IVec S16 32) : Prop :=
  (∀ a x, ((![v196, v198] : Fin 2 → IVec S16 32) a x).toNat < S128x8.size a)
theorem k1_idx41_inb : ∀ (v196 : IVec S16 32) (v198 : IVec S16 32) (k1_hw41 : k1_chk41 v196 v198), ∀ a x, ((![v196, v198] : Fin 2 → IVec S16 32) a x).toNat < S128x8.size a := fun v196 v198 k1_hw41 => k1_hw41

def k1_chk42 (v196 : IVec S16 32) (v201 : IVec S16 32) : Prop :=
  (∀ a x, ((![v196, v201] : Fin 2 → IVec S16 32) a x).toNat < S128x8.size a)
theorem k1_idx42_inb : ∀ (v196 : IVec S16 32) (v201 : IVec S16 32) (k1_hw42 : k1_chk42 v196 v201), ∀ a x, ((![v196, v201] : Fin 2 → IVec S16 32) a x).toNat < S128x8.size a := fun v196 v201 k1_hw42 => k1_hw42

def k1_chk43 (v196 : IVec S16 32) (v204 : IVec S16 32) : Prop :=
  (∀ a x, ((![v196, v204] : Fin 2 → IVec S16 32) a x).toNat < S128x8.size a)
theorem k1_idx43_inb : ∀ (v196 : IVec S16 32) (v204 : IVec S16 32) (k1_hw43 : k1_chk43 v196 v204), ∀ a x, ((![v196, v204] : Fin 2 → IVec S16 32) a x).toNat < S128x8.size a := fun v196 v204 k1_hw43 => k1_hw43

def k1_chk44 (v196 : IVec S16 32) (v207 : IVec S16 32) : Prop :=
  (∀ a x, ((![v196, v207] : Fin 2 → IVec S16 32) a x).toNat < S128x8.size a)
theorem k1_idx44_inb : ∀ (v196 : IVec S16 32) (v207 : IVec S16 32) (k1_hw44 : k1_chk44 v196 v207), ∀ a x, ((![v196, v207] : Fin 2 → IVec S16 32) a x).toNat < S128x8.size a := fun v196 v207 k1_hw44 => k1_hw44

def k1_chk45 (v196 : IVec S16 32) (v210 : IVec S16 32) : Prop :=
  (∀ a x, ((![v196, v210] : Fin 2 → IVec S16 32) a x).toNat < S128x8.size a)
theorem k1_idx45_inb : ∀ (v196 : IVec S16 32) (v210 : IVec S16 32) (k1_hw45 : k1_chk45 v196 v210), ∀ a x, ((![v196, v210] : Fin 2 → IVec S16 32) a x).toNat < S128x8.size a := fun v196 v210 k1_hw45 => k1_hw45

def k1_chk46 (v196 : IVec S16 32) (v213 : IVec S16 32) : Prop :=
  (∀ a x, ((![v196, v213] : Fin 2 → IVec S16 32) a x).toNat < S128x8.size a)
theorem k1_idx46_inb : ∀ (v196 : IVec S16 32) (v213 : IVec S16 32) (k1_hw46 : k1_chk46 v196 v213), ∀ a x, ((![v196, v213] : Fin 2 → IVec S16 32) a x).toNat < S128x8.size a := fun v196 v213 k1_hw46 => k1_hw46

def k1_chk47 (v196 : IVec S16 32) (v216 : IVec S16 32) : Prop :=
  (∀ a x, ((![v196, v216] : Fin 2 → IVec S16 32) a x).toNat < S128x8.size a)
theorem k1_idx47_inb : ∀ (v196 : IVec S16 32) (v216 : IVec S16 32) (k1_hw47 : k1_chk47 v196 v216), ∀ a x, ((![v196, v216] : Fin 2 → IVec S16 32) a x).toNat < S128x8.size a := fun v196 v216 k1_hw47 => k1_hw47

def k1_chk48 (v196 : IVec S16 32) (v219 : IVec S16 32) : Prop :=
  (∀ a x, ((![v196, v219] : Fin 2 → IVec S16 32) a x).toNat < S128x8.size a)
theorem k1_idx48_inb : ∀ (v196 : IVec S16 32) (v219 : IVec S16 32) (k1_hw48 : k1_chk48 v196 v219), ∀ a x, ((![v196, v219] : Fin 2 → IVec S16 32) a x).toNat < S128x8.size a := fun v196 v219 k1_hw48 => k1_hw48

def k1_chk49 (v226 : IVec S16 32) (v228 : IVec S16 32) : Prop :=
  (∀ a x, ((![v226, v228] : Fin 2 → IVec S16 32) a x).toNat < S128x8.size a)
theorem k1_idx49_inb : ∀ (v226 : IVec S16 32) (v228 : IVec S16 32) (k1_hw49 : k1_chk49 v226 v228), ∀ a x, ((![v226, v228] : Fin 2 → IVec S16 32) a x).toNat < S128x8.size a := fun v226 v228 k1_hw49 => k1_hw49

def k1_chk50 (v226 : IVec S16 32) (v231 : IVec S16 32) : Prop :=
  (∀ a x, ((![v226, v231] : Fin 2 → IVec S16 32) a x).toNat < S128x8.size a)
theorem k1_idx50_inb : ∀ (v226 : IVec S16 32) (v231 : IVec S16 32) (k1_hw50 : k1_chk50 v226 v231), ∀ a x, ((![v226, v231] : Fin 2 → IVec S16 32) a x).toNat < S128x8.size a := fun v226 v231 k1_hw50 => k1_hw50

def k1_chk51 (v226 : IVec S16 32) (v234 : IVec S16 32) : Prop :=
  (∀ a x, ((![v226, v234] : Fin 2 → IVec S16 32) a x).toNat < S128x8.size a)
theorem k1_idx51_inb : ∀ (v226 : IVec S16 32) (v234 : IVec S16 32) (k1_hw51 : k1_chk51 v226 v234), ∀ a x, ((![v226, v234] : Fin 2 → IVec S16 32) a x).toNat < S128x8.size a := fun v226 v234 k1_hw51 => k1_hw51

def k1_chk52 (v226 : IVec S16 32) (v237 : IVec S16 32) : Prop :=
  (∀ a x, ((![v226, v237] : Fin 2 → IVec S16 32) a x).toNat < S128x8.size a)
theorem k1_idx52_inb : ∀ (v226 : IVec S16 32) (v237 : IVec S16 32) (k1_hw52 : k1_chk52 v226 v237), ∀ a x, ((![v226, v237] : Fin 2 → IVec S16 32) a x).toNat < S128x8.size a := fun v226 v237 k1_hw52 => k1_hw52

def k1_chk53 (v226 : IVec S16 32) (v240 : IVec S16 32) : Prop :=
  (∀ a x, ((![v226, v240] : Fin 2 → IVec S16 32) a x).toNat < S128x8.size a)
theorem k1_idx53_inb : ∀ (v226 : IVec S16 32) (v240 : IVec S16 32) (k1_hw53 : k1_chk53 v226 v240), ∀ a x, ((![v226, v240] : Fin 2 → IVec S16 32) a x).toNat < S128x8.size a := fun v226 v240 k1_hw53 => k1_hw53

def k1_chk54 (v226 : IVec S16 32) (v243 : IVec S16 32) : Prop :=
  (∀ a x, ((![v226, v243] : Fin 2 → IVec S16 32) a x).toNat < S128x8.size a)
theorem k1_idx54_inb : ∀ (v226 : IVec S16 32) (v243 : IVec S16 32) (k1_hw54 : k1_chk54 v226 v243), ∀ a x, ((![v226, v243] : Fin 2 → IVec S16 32) a x).toNat < S128x8.size a := fun v226 v243 k1_hw54 => k1_hw54

def k1_chk55 (v226 : IVec S16 32) (v246 : IVec S16 32) : Prop :=
  (∀ a x, ((![v226, v246] : Fin 2 → IVec S16 32) a x).toNat < S128x8.size a)
theorem k1_idx55_inb : ∀ (v226 : IVec S16 32) (v246 : IVec S16 32) (k1_hw55 : k1_chk55 v226 v246), ∀ a x, ((![v226, v246] : Fin 2 → IVec S16 32) a x).toNat < S128x8.size a := fun v226 v246 k1_hw55 => k1_hw55

def k1_chk56 (v226 : IVec S16 32) (v249 : IVec S16 32) : Prop :=
  (∀ a x, ((![v226, v249] : Fin 2 → IVec S16 32) a x).toNat < S128x8.size a)
theorem k1_idx56_inb : ∀ (v226 : IVec S16 32) (v249 : IVec S16 32) (k1_hw56 : k1_chk56 v226 v249), ∀ a x, ((![v226, v249] : Fin 2 → IVec S16 32) a x).toNat < S128x8.size a := fun v226 v249 k1_hw56 => k1_hw56

def k1_chk57 (v256 : IVec S16 32) (v258 : IVec S16 32) : Prop :=
  (∀ a x, ((![v256, v258] : Fin 2 → IVec S16 32) a x).toNat < S128x8.size a)
theorem k1_idx57_inb : ∀ (v256 : IVec S16 32) (v258 : IVec S16 32) (k1_hw57 : k1_chk57 v256 v258), ∀ a x, ((![v256, v258] : Fin 2 → IVec S16 32) a x).toNat < S128x8.size a := fun v256 v258 k1_hw57 => k1_hw57

def k1_chk58 (v256 : IVec S16 32) (v261 : IVec S16 32) : Prop :=
  (∀ a x, ((![v256, v261] : Fin 2 → IVec S16 32) a x).toNat < S128x8.size a)
theorem k1_idx58_inb : ∀ (v256 : IVec S16 32) (v261 : IVec S16 32) (k1_hw58 : k1_chk58 v256 v261), ∀ a x, ((![v256, v261] : Fin 2 → IVec S16 32) a x).toNat < S128x8.size a := fun v256 v261 k1_hw58 => k1_hw58

def k1_chk59 (v256 : IVec S16 32) (v264 : IVec S16 32) : Prop :=
  (∀ a x, ((![v256, v264] : Fin 2 → IVec S16 32) a x).toNat < S128x8.size a)
theorem k1_idx59_inb : ∀ (v256 : IVec S16 32) (v264 : IVec S16 32) (k1_hw59 : k1_chk59 v256 v264), ∀ a x, ((![v256, v264] : Fin 2 → IVec S16 32) a x).toNat < S128x8.size a := fun v256 v264 k1_hw59 => k1_hw59

def k1_chk60 (v256 : IVec S16 32) (v267 : IVec S16 32) : Prop :=
  (∀ a x, ((![v256, v267] : Fin 2 → IVec S16 32) a x).toNat < S128x8.size a)
theorem k1_idx60_inb : ∀ (v256 : IVec S16 32) (v267 : IVec S16 32) (k1_hw60 : k1_chk60 v256 v267), ∀ a x, ((![v256, v267] : Fin 2 → IVec S16 32) a x).toNat < S128x8.size a := fun v256 v267 k1_hw60 => k1_hw60

def k1_chk61 (v256 : IVec S16 32) (v270 : IVec S16 32) : Prop :=
  (∀ a x, ((![v256, v270] : Fin 2 → IVec S16 32) a x).toNat < S128x8.size a)
theorem k1_idx61_inb : ∀ (v256 : IVec S16 32) (v270 : IVec S16 32) (k1_hw61 : k1_chk61 v256 v270), ∀ a x, ((![v256, v270] : Fin 2 → IVec S16 32) a x).toNat < S128x8.size a := fun v256 v270 k1_hw61 => k1_hw61

def k1_chk62 (v256 : IVec S16 32) (v273 : IVec S16 32) : Prop :=
  (∀ a x, ((![v256, v273] : Fin 2 → IVec S16 32) a x).toNat < S128x8.size a)
theorem k1_idx62_inb : ∀ (v256 : IVec S16 32) (v273 : IVec S16 32) (k1_hw62 : k1_chk62 v256 v273), ∀ a x, ((![v256, v273] : Fin 2 → IVec S16 32) a x).toNat < S128x8.size a := fun v256 v273 k1_hw62 => k1_hw62

def k1_chk63 (v256 : IVec S16 32) (v276 : IVec S16 32) : Prop :=
  (∀ a x, ((![v256, v276] : Fin 2 → IVec S16 32) a x).toNat < S128x8.size a)
theorem k1_idx63_inb : ∀ (v256 : IVec S16 32) (v276 : IVec S16 32) (k1_hw63 : k1_chk63 v256 v276), ∀ a x, ((![v256, v276] : Fin 2 → IVec S16 32) a x).toNat < S128x8.size a := fun v256 v276 k1_hw63 => k1_hw63

def k1_chk64 (v256 : IVec S16 32) (v279 : IVec S16 32) : Prop :=
  (∀ a x, ((![v256, v279] : Fin 2 → IVec S16 32) a x).toNat < S128x8.size a)
theorem k1_idx64_inb : ∀ (v256 : IVec S16 32) (v279 : IVec S16 32) (k1_hw64 : k1_chk64 v256 v279), ∀ a x, ((![v256, v279] : Fin 2 → IVec S16 32) a x).toNat < S128x8.size a := fun v256 v279 k1_hw64 => k1_hw64
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_98 : BitVec 32 := 0#32
  ![v2.toNat, 0]
@[reducible] def k1_t1_loop : Scf.Loop 32 :=
  let c0_i32_101 : BitVec 32 := 0#32
  let c8_i32 : BitVec 32 := 8#32
  let v287 : BitVec 32 := Scalar.addi c0_i32_101 c8_i32
  let c1_i32_102 : BitVec 32 := 1#32
  ⟨c0_i32_101, v287, c1_i32_102⟩
@[reducible] def k1_t2_loop : Scf.Loop 32 :=
  let c0_i32_119 : BitVec 32 := 0#32
  let c16_i32_120 : BitVec 32 := 16#32
  let v314 : BitVec 32 := Scalar.addi c0_i32_119 c16_i32_120
  let c1_i32_121 : BitVec 32 := 1#32
  ⟨c0_i32_119, v314, c1_i32_121⟩
def k1_off3 (arg27 : BitVec 32) : Fin 1 → Nat :=
  let v337 : Index := Scalar.indexCast arg27
  ![v337.toNat]
def k1_cond1 (arg27 : BitVec 32) (arg28 : BitVec 1) : BitVec 1 :=
  let true_126 : BitVec 1 := 1#1
  let v331 : BitVec 1 := Scalar.xori arg28 true_126
  let c128_i32_127 : BitVec 32 := 128#32
  let v332 : BitVec 1 := Scalar.cmpi .slt arg27 c128_i32_127
  let v333 : BitVec 1 := Scalar.andi v331 v332
  let v334 : BitVec 32 := Scalar.extui v333
  let c0_i32_128 : BitVec 32 := 0#32
  let v335 : BitVec 1 := Scalar.cmpi .ne v334 c0_i32_128
  v335

def k1_chk65 (arg27 : BitVec 32) (arg28 : BitVec 1) : Prop :=
  (∀ (k1_h1 : k1_cond1 arg27 arg28 = 1#1), ∀ a, (k1_off3 arg27) a + S16.size a ≤ S144.size a)
theorem k1_off3_inb : ∀ (arg27 : BitVec 32) (arg28 : BitVec 1) (k1_hw65 : k1_chk65 arg27 arg28), ∀ (k1_h1 : k1_cond1 arg27 arg28 = 1#1), ∀ a, (k1_off3 arg27) a + S16.size a ≤ S144.size a := fun arg27 arg28 k1_hw65 k1_h1 => k1_hw65 k1_h1

def k1_chk66 (v311 : IVec S16 32) (arg27 : BitVec 32) (arg28 : BitVec 1) (v340 : IVec S16 32) : Prop :=
  (∀ (k1_h1 : k1_cond1 arg27 arg28 = 1#1), ∀ a x, ((![v311, v340] : Fin 2 → IVec S16 32) a x).toNat < S128x128.size a)
theorem k1_idx65_inb : ∀ (v311 : IVec S16 32) (arg27 : BitVec 32) (arg28 : BitVec 1) (v340 : IVec S16 32) (k1_hw66 : k1_chk66 v311 arg27 arg28 v340), ∀ (k1_h1 : k1_cond1 arg27 arg28 = 1#1), ∀ a x, ((![v311, v340] : Fin 2 → IVec S16 32) a x).toNat < S128x128.size a := fun v311 arg27 arg28 v340 k1_hw66 k1_h1 => k1_hw66 k1_h1

def k1_chk67 (v311 : IVec S16 32) (arg27 : BitVec 32) (arg28 : BitVec 1) (v352 : IVec S16 32) : Prop :=
  (∀ (k1_h1 : k1_cond1 arg27 arg28 = 1#1), ∀ a x, ((![v311, v352] : Fin 2 → IVec S16 32) a x).toNat < S128x128.size a)
theorem k1_idx66_inb : ∀ (v311 : IVec S16 32) (arg27 : BitVec 32) (arg28 : BitVec 1) (v352 : IVec S16 32) (k1_hw67 : k1_chk67 v311 arg27 arg28 v352), ∀ (k1_h1 : k1_cond1 arg27 arg28 = 1#1), ∀ a x, ((![v311, v352] : Fin 2 → IVec S16 32) a x).toNat < S128x128.size a := fun v311 arg27 arg28 v352 k1_hw67 k1_h1 => k1_hw67 k1_h1

def k1_chk68 (v311 : IVec S16 32) (arg27 : BitVec 32) (arg28 : BitVec 1) (v364 : IVec S16 32) : Prop :=
  (∀ (k1_h1 : k1_cond1 arg27 arg28 = 1#1), ∀ a x, ((![v311, v364] : Fin 2 → IVec S16 32) a x).toNat < S128x128.size a)
theorem k1_idx67_inb : ∀ (v311 : IVec S16 32) (arg27 : BitVec 32) (arg28 : BitVec 1) (v364 : IVec S16 32) (k1_hw68 : k1_chk68 v311 arg27 arg28 v364), ∀ (k1_h1 : k1_cond1 arg27 arg28 = 1#1), ∀ a x, ((![v311, v364] : Fin 2 → IVec S16 32) a x).toNat < S128x128.size a := fun v311 arg27 arg28 v364 k1_hw68 k1_h1 => k1_hw68 k1_h1

def k1_chk69 (v311 : IVec S16 32) (arg27 : BitVec 32) (arg28 : BitVec 1) (v376 : IVec S16 32) : Prop :=
  (∀ (k1_h1 : k1_cond1 arg27 arg28 = 1#1), ∀ a x, ((![v311, v376] : Fin 2 → IVec S16 32) a x).toNat < S128x128.size a)
theorem k1_idx68_inb : ∀ (v311 : IVec S16 32) (arg27 : BitVec 32) (arg28 : BitVec 1) (v376 : IVec S16 32) (k1_hw69 : k1_chk69 v311 arg27 arg28 v376), ∀ (k1_h1 : k1_cond1 arg27 arg28 = 1#1), ∀ a x, ((![v311, v376] : Fin 2 → IVec S16 32) a x).toNat < S128x128.size a := fun v311 arg27 arg28 v376 k1_hw69 k1_h1 => k1_hw69 k1_h1

def k1_chk70 (v311 : IVec S16 32) (arg27 : BitVec 32) (arg28 : BitVec 1) (v388 : IVec S16 32) : Prop :=
  (∀ (k1_h1 : k1_cond1 arg27 arg28 = 1#1), ∀ a x, ((![v311, v388] : Fin 2 → IVec S16 32) a x).toNat < S128x128.size a)
theorem k1_idx69_inb : ∀ (v311 : IVec S16 32) (arg27 : BitVec 32) (arg28 : BitVec 1) (v388 : IVec S16 32) (k1_hw70 : k1_chk70 v311 arg27 arg28 v388), ∀ (k1_h1 : k1_cond1 arg27 arg28 = 1#1), ∀ a x, ((![v311, v388] : Fin 2 → IVec S16 32) a x).toNat < S128x128.size a := fun v311 arg27 arg28 v388 k1_hw70 k1_h1 => k1_hw70 k1_h1

def k1_chk71 (v311 : IVec S16 32) (arg27 : BitVec 32) (arg28 : BitVec 1) (v400 : IVec S16 32) : Prop :=
  (∀ (k1_h1 : k1_cond1 arg27 arg28 = 1#1), ∀ a x, ((![v311, v400] : Fin 2 → IVec S16 32) a x).toNat < S128x128.size a)
theorem k1_idx70_inb : ∀ (v311 : IVec S16 32) (arg27 : BitVec 32) (arg28 : BitVec 1) (v400 : IVec S16 32) (k1_hw71 : k1_chk71 v311 arg27 arg28 v400), ∀ (k1_h1 : k1_cond1 arg27 arg28 = 1#1), ∀ a x, ((![v311, v400] : Fin 2 → IVec S16 32) a x).toNat < S128x128.size a := fun v311 arg27 arg28 v400 k1_hw71 k1_h1 => k1_hw71 k1_h1

def k1_chk72 (v311 : IVec S16 32) (arg27 : BitVec 32) (arg28 : BitVec 1) (v412 : IVec S16 32) : Prop :=
  (∀ (k1_h1 : k1_cond1 arg27 arg28 = 1#1), ∀ a x, ((![v311, v412] : Fin 2 → IVec S16 32) a x).toNat < S128x128.size a)
theorem k1_idx71_inb : ∀ (v311 : IVec S16 32) (arg27 : BitVec 32) (arg28 : BitVec 1) (v412 : IVec S16 32) (k1_hw72 : k1_chk72 v311 arg27 arg28 v412), ∀ (k1_h1 : k1_cond1 arg27 arg28 = 1#1), ∀ a x, ((![v311, v412] : Fin 2 → IVec S16 32) a x).toNat < S128x128.size a := fun v311 arg27 arg28 v412 k1_hw72 k1_h1 => k1_hw72 k1_h1

def k1_chk73 (v311 : IVec S16 32) (arg27 : BitVec 32) (arg28 : BitVec 1) (v424 : IVec S16 32) : Prop :=
  (∀ (k1_h1 : k1_cond1 arg27 arg28 = 1#1), ∀ a x, ((![v311, v424] : Fin 2 → IVec S16 32) a x).toNat < S128x128.size a)
theorem k1_idx72_inb : ∀ (v311 : IVec S16 32) (arg27 : BitVec 32) (arg28 : BitVec 1) (v424 : IVec S16 32) (k1_hw73 : k1_chk73 v311 arg27 arg28 v424), ∀ (k1_h1 : k1_cond1 arg27 arg28 = 1#1), ∀ a x, ((![v311, v424] : Fin 2 → IVec S16 32) a x).toNat < S128x128.size a := fun v311 arg27 arg28 v424 k1_hw73 k1_h1 => k1_hw73 k1_h1

def k1_chk74 (v315_3 : IVec S16 32) : Prop :=
  (∀ a x, ((![v315_3] : Fin 1 → IVec S16 32) a x).toNat < S160.size a)
theorem k1_idx73_inb : ∀ (v315_3 : IVec S16 32) (k1_hw74 : k1_chk74 v315_3), ∀ a x, ((![v315_3] : Fin 1 → IVec S16 32) a x).toNat < S160.size a := fun v315_3 k1_hw74 => k1_hw74
def k1_off4 (k1_t1 : Fin k1_t1_loop.trips) : Fin 1 → Nat :=
  let c0_i32_101 : BitVec 32 := 0#32
  let c1_i32_102 : BitVec 32 := 1#32
  let arg24 : BitVec 32 := Scf.iv c0_i32_101 c1_i32_102 k1_t1
  let c16_i32_123 : BitVec 32 := 16#32
  let v318 : BitVec 32 := Scalar.muli arg24 c16_i32_123
  let v319 : Index := Scalar.indexCast v318
  ![v319.toNat]
@[reducible] def k1_t3_loop : Scf.Loop 32 :=
  let c0_i32_116 : BitVec 32 := 0#32
  let c128_i32_117 : BitVec 32 := 128#32
  let v309 : BitVec 32 := Scalar.addi c0_i32_116 c128_i32_117
  let c1_i32_118 : BitVec 32 := 1#32
  ⟨c0_i32_116, v309, c1_i32_118⟩
def k1_cond2 (v288 : BitVec 32) : BitVec 1 :=
  let c0_i32_104 : BitVec 32 := 0#32
  let v289 : BitVec 1 := Scalar.cmpi .sgt v288 c0_i32_104
  let v290 : BitVec 32 := Scalar.extui v289
  let c0_i32_105 : BitVec 32 := 0#32
  let v291 : BitVec 1 := Scalar.cmpi .ne v290 c0_i32_105
  v291

def k1_chk75 (v288 : BitVec 32) (v310 : IVec S16 32) : Prop :=
  (∀ (k1_h2 : k1_cond2 v288 = 1#1), ∀ a x, ((![v310] : Fin 1 → IVec S16 32) a x).toNat < S128.size a)
theorem k1_idx74_inb : ∀ (v288 : BitVec 32) (v310 : IVec S16 32) (k1_hw75 : k1_chk75 v288 v310), ∀ (k1_h2 : k1_cond2 v288 = 1#1), ∀ a x, ((![v310] : Fin 1 → IVec S16 32) a x).toNat < S128.size a := fun v288 v310 k1_hw75 k1_h2 => k1_hw75 k1_h2
@[reducible] def k1_t4_loop : Scf.Loop 32 :=
  let c0_i32_124 : BitVec 32 := 0#32
  let c63_i32 : BitVec 32 := 63#32
  let v317 : BitVec 32 := Scalar.addi c0_i32_124 c63_i32
  let c1_i32_125 : BitVec 32 := 1#32
  ⟨c0_i32_124, v317, c1_i32_125⟩
def k1_off5 (i : grid1.Coords) (k1_t3 : Fin k1_t3_loop.trips) (arg26 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_116 : BitVec 32 := 0#32
  let c1_i32_118 : BitVec 32 := 1#32
  let arg24 : BitVec 32 := Scf.iv c0_i32_116 c1_i32_118 k1_t3
  let v327 : BitVec 32 := Scalar.addi v2 arg24
  let c128_i32_130 : BitVec 32 := 128#32
  let v328 : BitVec 32 := Scalar.muli arg26 c128_i32_130
  ![v327.toNat, v328.toNat]
def k1_cond3 (v313 : BitVec 32) : BitVec 1 :=
  let c0_i32_120 : BitVec 32 := 0#32
  let v314 : BitVec 1 := Scalar.cmpi .eq v313 c0_i32_120
  let v315 : BitVec 32 := Scalar.extui v314
  let c0_i32_121 : BitVec 32 := 0#32
  let v316 : BitVec 1 := Scalar.cmpi .ne v315 c0_i32_121
  v316

def k1_cond4 (arg26 : BitVec 32) (arg27 : BitVec 1) : BitVec 1 :=
  let v_true : BitVec 1 := 1#1
  let v321 : BitVec 1 := Scalar.xori arg27 v_true
  let c64_i32_128 : BitVec 32 := 64#32
  let v322 : BitVec 1 := Scalar.cmpi .slt arg26 c64_i32_128
  let v323 : BitVec 1 := Scalar.andi v321 v322
  let v324 : BitVec 32 := Scalar.extui v323
  let c0_i32_129 : BitVec 32 := 0#32
  let v325 : BitVec 1 := Scalar.cmpi .ne v324 c0_i32_129
  v325

def k1_off6 (arg26 : BitVec 32) : Fin 3 → Nat :=
  let c0_i32_132 : BitVec 32 := 0#32
  let c128_i32_131 : BitVec 32 := 128#32
  let v333 : BitVec 32 := Scalar.muli arg26 c128_i32_131
  let c0_i32_133 : BitVec 32 := 0#32
  ![0, v333.toNat, 0]

def k1_chk76 (i : grid1.Coords) (v288 : BitVec 32) (k1_t3 : Fin k1_t3_loop.trips) (v313 : BitVec 32) (arg26 : BitVec 32) (arg27 : BitVec 1) : Prop :=
  (∀ (k1_h2 : k1_cond2 v288 = 1#1), ∀ (k1_h3 : k1_cond3 v313 = 1#1), ∀ (k1_h4 : k1_cond4 arg26 arg27 = 1#1), ∀ a, (k1_off5 i k1_t3 arg26) a + S1x128.size a ≤ S4096x8192.size a) ∧
  (∀ (k1_h2 : k1_cond2 v288 = 1#1), ∀ (k1_h3 : k1_cond3 v313 = 1#1), ∀ (k1_h4 : k1_cond4 arg26 arg27 = 1#1), ∀ a, (k1_off6 arg26) a + S1x128x8.size a ≤ S1x8192x8.size a)
theorem k1_off5_inb : ∀ (i : grid1.Coords) (v288 : BitVec 32) (k1_t3 : Fin k1_t3_loop.trips) (v313 : BitVec 32) (arg26 : BitVec 32) (arg27 : BitVec 1) (k1_hw76 : k1_chk76 i v288 k1_t3 v313 arg26 arg27), ∀ (k1_h2 : k1_cond2 v288 = 1#1), ∀ (k1_h3 : k1_cond3 v313 = 1#1), ∀ (k1_h4 : k1_cond4 arg26 arg27 = 1#1), ∀ a, (k1_off5 i k1_t3 arg26) a + S1x128.size a ≤ S4096x8192.size a := fun i v288 k1_t3 v313 arg26 arg27 k1_hw76 k1_h2 k1_h3 k1_h4 => k1_hw76.1 k1_h2 k1_h3 k1_h4
theorem k1_off6_inb : ∀ (i : grid1.Coords) (v288 : BitVec 32) (k1_t3 : Fin k1_t3_loop.trips) (v313 : BitVec 32) (arg26 : BitVec 32) (arg27 : BitVec 1) (k1_hw76 : k1_chk76 i v288 k1_t3 v313 arg26 arg27), ∀ (k1_h2 : k1_cond2 v288 = 1#1), ∀ (k1_h3 : k1_cond3 v313 = 1#1), ∀ (k1_h4 : k1_cond4 arg26 arg27 = 1#1), ∀ a, (k1_off6 arg26) a + S1x128x8.size a ≤ S1x8192x8.size a := fun i v288 k1_t3 v313 arg26 arg27 k1_hw76 k1_h2 k1_h3 k1_h4 => k1_hw76.2 k1_h2 k1_h3 k1_h4

def k1_chk77 (v288 : BitVec 32) (v313 : BitVec 32) (arg26 : BitVec 32) (arg27 : BitVec 1) (v347 : IVec S16 32) (v349 : IVec S16 32) : Prop :=
  (∀ (k1_h2 : k1_cond2 v288 = 1#1), ∀ (k1_h3 : k1_cond3 v313 = 1#1), ∀ (k1_h4 : k1_cond4 arg26 arg27 = 1#1), ∀ a x, ((![v347, v349] : Fin 2 → IVec S16 32) a x).toNat < S128x8.size a)
theorem k1_idx75_inb : ∀ (v288 : BitVec 32) (v313 : BitVec 32) (arg26 : BitVec 32) (arg27 : BitVec 1) (v347 : IVec S16 32) (v349 : IVec S16 32) (k1_hw77 : k1_chk77 v288 v313 arg26 arg27 v347 v349), ∀ (k1_h2 : k1_cond2 v288 = 1#1), ∀ (k1_h3 : k1_cond3 v313 = 1#1), ∀ (k1_h4 : k1_cond4 arg26 arg27 = 1#1), ∀ a x, ((![v347, v349] : Fin 2 → IVec S16 32) a x).toNat < S128x8.size a := fun v288 v313 arg26 arg27 v347 v349 k1_hw77 k1_h2 k1_h3 k1_h4 => k1_hw77 k1_h2 k1_h3 k1_h4

def k1_chk78 (v288 : BitVec 32) (v313 : BitVec 32) (arg26 : BitVec 32) (arg27 : BitVec 1) (v347 : IVec S16 32) (v352 : IVec S16 32) : Prop :=
  (∀ (k1_h2 : k1_cond2 v288 = 1#1), ∀ (k1_h3 : k1_cond3 v313 = 1#1), ∀ (k1_h4 : k1_cond4 arg26 arg27 = 1#1), ∀ a x, ((![v347, v352] : Fin 2 → IVec S16 32) a x).toNat < S128x8.size a)
theorem k1_idx76_inb : ∀ (v288 : BitVec 32) (v313 : BitVec 32) (arg26 : BitVec 32) (arg27 : BitVec 1) (v347 : IVec S16 32) (v352 : IVec S16 32) (k1_hw78 : k1_chk78 v288 v313 arg26 arg27 v347 v352), ∀ (k1_h2 : k1_cond2 v288 = 1#1), ∀ (k1_h3 : k1_cond3 v313 = 1#1), ∀ (k1_h4 : k1_cond4 arg26 arg27 = 1#1), ∀ a x, ((![v347, v352] : Fin 2 → IVec S16 32) a x).toNat < S128x8.size a := fun v288 v313 arg26 arg27 v347 v352 k1_hw78 k1_h2 k1_h3 k1_h4 => k1_hw78 k1_h2 k1_h3 k1_h4

def k1_chk79 (v288 : BitVec 32) (v313 : BitVec 32) (arg26 : BitVec 32) (arg27 : BitVec 1) (v347 : IVec S16 32) (v355 : IVec S16 32) : Prop :=
  (∀ (k1_h2 : k1_cond2 v288 = 1#1), ∀ (k1_h3 : k1_cond3 v313 = 1#1), ∀ (k1_h4 : k1_cond4 arg26 arg27 = 1#1), ∀ a x, ((![v347, v355] : Fin 2 → IVec S16 32) a x).toNat < S128x8.size a)
theorem k1_idx77_inb : ∀ (v288 : BitVec 32) (v313 : BitVec 32) (arg26 : BitVec 32) (arg27 : BitVec 1) (v347 : IVec S16 32) (v355 : IVec S16 32) (k1_hw79 : k1_chk79 v288 v313 arg26 arg27 v347 v355), ∀ (k1_h2 : k1_cond2 v288 = 1#1), ∀ (k1_h3 : k1_cond3 v313 = 1#1), ∀ (k1_h4 : k1_cond4 arg26 arg27 = 1#1), ∀ a x, ((![v347, v355] : Fin 2 → IVec S16 32) a x).toNat < S128x8.size a := fun v288 v313 arg26 arg27 v347 v355 k1_hw79 k1_h2 k1_h3 k1_h4 => k1_hw79 k1_h2 k1_h3 k1_h4

def k1_chk80 (v288 : BitVec 32) (v313 : BitVec 32) (arg26 : BitVec 32) (arg27 : BitVec 1) (v347 : IVec S16 32) (v358 : IVec S16 32) : Prop :=
  (∀ (k1_h2 : k1_cond2 v288 = 1#1), ∀ (k1_h3 : k1_cond3 v313 = 1#1), ∀ (k1_h4 : k1_cond4 arg26 arg27 = 1#1), ∀ a x, ((![v347, v358] : Fin 2 → IVec S16 32) a x).toNat < S128x8.size a)
theorem k1_idx78_inb : ∀ (v288 : BitVec 32) (v313 : BitVec 32) (arg26 : BitVec 32) (arg27 : BitVec 1) (v347 : IVec S16 32) (v358 : IVec S16 32) (k1_hw80 : k1_chk80 v288 v313 arg26 arg27 v347 v358), ∀ (k1_h2 : k1_cond2 v288 = 1#1), ∀ (k1_h3 : k1_cond3 v313 = 1#1), ∀ (k1_h4 : k1_cond4 arg26 arg27 = 1#1), ∀ a x, ((![v347, v358] : Fin 2 → IVec S16 32) a x).toNat < S128x8.size a := fun v288 v313 arg26 arg27 v347 v358 k1_hw80 k1_h2 k1_h3 k1_h4 => k1_hw80 k1_h2 k1_h3 k1_h4

def k1_chk81 (v288 : BitVec 32) (v313 : BitVec 32) (arg26 : BitVec 32) (arg27 : BitVec 1) (v347 : IVec S16 32) (v361 : IVec S16 32) : Prop :=
  (∀ (k1_h2 : k1_cond2 v288 = 1#1), ∀ (k1_h3 : k1_cond3 v313 = 1#1), ∀ (k1_h4 : k1_cond4 arg26 arg27 = 1#1), ∀ a x, ((![v347, v361] : Fin 2 → IVec S16 32) a x).toNat < S128x8.size a)
theorem k1_idx79_inb : ∀ (v288 : BitVec 32) (v313 : BitVec 32) (arg26 : BitVec 32) (arg27 : BitVec 1) (v347 : IVec S16 32) (v361 : IVec S16 32) (k1_hw81 : k1_chk81 v288 v313 arg26 arg27 v347 v361), ∀ (k1_h2 : k1_cond2 v288 = 1#1), ∀ (k1_h3 : k1_cond3 v313 = 1#1), ∀ (k1_h4 : k1_cond4 arg26 arg27 = 1#1), ∀ a x, ((![v347, v361] : Fin 2 → IVec S16 32) a x).toNat < S128x8.size a := fun v288 v313 arg26 arg27 v347 v361 k1_hw81 k1_h2 k1_h3 k1_h4 => k1_hw81 k1_h2 k1_h3 k1_h4

def k1_chk82 (v288 : BitVec 32) (v313 : BitVec 32) (arg26 : BitVec 32) (arg27 : BitVec 1) (v347 : IVec S16 32) (v364 : IVec S16 32) : Prop :=
  (∀ (k1_h2 : k1_cond2 v288 = 1#1), ∀ (k1_h3 : k1_cond3 v313 = 1#1), ∀ (k1_h4 : k1_cond4 arg26 arg27 = 1#1), ∀ a x, ((![v347, v364] : Fin 2 → IVec S16 32) a x).toNat < S128x8.size a)
theorem k1_idx80_inb : ∀ (v288 : BitVec 32) (v313 : BitVec 32) (arg26 : BitVec 32) (arg27 : BitVec 1) (v347 : IVec S16 32) (v364 : IVec S16 32) (k1_hw82 : k1_chk82 v288 v313 arg26 arg27 v347 v364), ∀ (k1_h2 : k1_cond2 v288 = 1#1), ∀ (k1_h3 : k1_cond3 v313 = 1#1), ∀ (k1_h4 : k1_cond4 arg26 arg27 = 1#1), ∀ a x, ((![v347, v364] : Fin 2 → IVec S16 32) a x).toNat < S128x8.size a := fun v288 v313 arg26 arg27 v347 v364 k1_hw82 k1_h2 k1_h3 k1_h4 => k1_hw82 k1_h2 k1_h3 k1_h4

def k1_chk83 (v288 : BitVec 32) (v313 : BitVec 32) (arg26 : BitVec 32) (arg27 : BitVec 1) (v347 : IVec S16 32) (v367 : IVec S16 32) : Prop :=
  (∀ (k1_h2 : k1_cond2 v288 = 1#1), ∀ (k1_h3 : k1_cond3 v313 = 1#1), ∀ (k1_h4 : k1_cond4 arg26 arg27 = 1#1), ∀ a x, ((![v347, v367] : Fin 2 → IVec S16 32) a x).toNat < S128x8.size a)
theorem k1_idx81_inb : ∀ (v288 : BitVec 32) (v313 : BitVec 32) (arg26 : BitVec 32) (arg27 : BitVec 1) (v347 : IVec S16 32) (v367 : IVec S16 32) (k1_hw83 : k1_chk83 v288 v313 arg26 arg27 v347 v367), ∀ (k1_h2 : k1_cond2 v288 = 1#1), ∀ (k1_h3 : k1_cond3 v313 = 1#1), ∀ (k1_h4 : k1_cond4 arg26 arg27 = 1#1), ∀ a x, ((![v347, v367] : Fin 2 → IVec S16 32) a x).toNat < S128x8.size a := fun v288 v313 arg26 arg27 v347 v367 k1_hw83 k1_h2 k1_h3 k1_h4 => k1_hw83 k1_h2 k1_h3 k1_h4

def k1_chk84 (v288 : BitVec 32) (v313 : BitVec 32) (arg26 : BitVec 32) (arg27 : BitVec 1) (v347 : IVec S16 32) (v370 : IVec S16 32) : Prop :=
  (∀ (k1_h2 : k1_cond2 v288 = 1#1), ∀ (k1_h3 : k1_cond3 v313 = 1#1), ∀ (k1_h4 : k1_cond4 arg26 arg27 = 1#1), ∀ a x, ((![v347, v370] : Fin 2 → IVec S16 32) a x).toNat < S128x8.size a)
theorem k1_idx82_inb : ∀ (v288 : BitVec 32) (v313 : BitVec 32) (arg26 : BitVec 32) (arg27 : BitVec 1) (v347 : IVec S16 32) (v370 : IVec S16 32) (k1_hw84 : k1_chk84 v288 v313 arg26 arg27 v347 v370), ∀ (k1_h2 : k1_cond2 v288 = 1#1), ∀ (k1_h3 : k1_cond3 v313 = 1#1), ∀ (k1_h4 : k1_cond4 arg26 arg27 = 1#1), ∀ a x, ((![v347, v370] : Fin 2 → IVec S16 32) a x).toNat < S128x8.size a := fun v288 v313 arg26 arg27 v347 v370 k1_hw84 k1_h2 k1_h3 k1_h4 => k1_hw84 k1_h2 k1_h3 k1_h4

def k1_chk85 (v288 : BitVec 32) (v313 : BitVec 32) (arg26 : BitVec 32) (arg27 : BitVec 1) (v377 : IVec S16 32) (v379 : IVec S16 32) : Prop :=
  (∀ (k1_h2 : k1_cond2 v288 = 1#1), ∀ (k1_h3 : k1_cond3 v313 = 1#1), ∀ (k1_h4 : k1_cond4 arg26 arg27 = 1#1), ∀ a x, ((![v377, v379] : Fin 2 → IVec S16 32) a x).toNat < S128x8.size a)
theorem k1_idx83_inb : ∀ (v288 : BitVec 32) (v313 : BitVec 32) (arg26 : BitVec 32) (arg27 : BitVec 1) (v377 : IVec S16 32) (v379 : IVec S16 32) (k1_hw85 : k1_chk85 v288 v313 arg26 arg27 v377 v379), ∀ (k1_h2 : k1_cond2 v288 = 1#1), ∀ (k1_h3 : k1_cond3 v313 = 1#1), ∀ (k1_h4 : k1_cond4 arg26 arg27 = 1#1), ∀ a x, ((![v377, v379] : Fin 2 → IVec S16 32) a x).toNat < S128x8.size a := fun v288 v313 arg26 arg27 v377 v379 k1_hw85 k1_h2 k1_h3 k1_h4 => k1_hw85 k1_h2 k1_h3 k1_h4

def k1_chk86 (v288 : BitVec 32) (v313 : BitVec 32) (arg26 : BitVec 32) (arg27 : BitVec 1) (v377 : IVec S16 32) (v382 : IVec S16 32) : Prop :=
  (∀ (k1_h2 : k1_cond2 v288 = 1#1), ∀ (k1_h3 : k1_cond3 v313 = 1#1), ∀ (k1_h4 : k1_cond4 arg26 arg27 = 1#1), ∀ a x, ((![v377, v382] : Fin 2 → IVec S16 32) a x).toNat < S128x8.size a)
theorem k1_idx84_inb : ∀ (v288 : BitVec 32) (v313 : BitVec 32) (arg26 : BitVec 32) (arg27 : BitVec 1) (v377 : IVec S16 32) (v382 : IVec S16 32) (k1_hw86 : k1_chk86 v288 v313 arg26 arg27 v377 v382), ∀ (k1_h2 : k1_cond2 v288 = 1#1), ∀ (k1_h3 : k1_cond3 v313 = 1#1), ∀ (k1_h4 : k1_cond4 arg26 arg27 = 1#1), ∀ a x, ((![v377, v382] : Fin 2 → IVec S16 32) a x).toNat < S128x8.size a := fun v288 v313 arg26 arg27 v377 v382 k1_hw86 k1_h2 k1_h3 k1_h4 => k1_hw86 k1_h2 k1_h3 k1_h4

def k1_chk87 (v288 : BitVec 32) (v313 : BitVec 32) (arg26 : BitVec 32) (arg27 : BitVec 1) (v377 : IVec S16 32) (v385 : IVec S16 32) : Prop :=
  (∀ (k1_h2 : k1_cond2 v288 = 1#1), ∀ (k1_h3 : k1_cond3 v313 = 1#1), ∀ (k1_h4 : k1_cond4 arg26 arg27 = 1#1), ∀ a x, ((![v377, v385] : Fin 2 → IVec S16 32) a x).toNat < S128x8.size a)
theorem k1_idx85_inb : ∀ (v288 : BitVec 32) (v313 : BitVec 32) (arg26 : BitVec 32) (arg27 : BitVec 1) (v377 : IVec S16 32) (v385 : IVec S16 32) (k1_hw87 : k1_chk87 v288 v313 arg26 arg27 v377 v385), ∀ (k1_h2 : k1_cond2 v288 = 1#1), ∀ (k1_h3 : k1_cond3 v313 = 1#1), ∀ (k1_h4 : k1_cond4 arg26 arg27 = 1#1), ∀ a x, ((![v377, v385] : Fin 2 → IVec S16 32) a x).toNat < S128x8.size a := fun v288 v313 arg26 arg27 v377 v385 k1_hw87 k1_h2 k1_h3 k1_h4 => k1_hw87 k1_h2 k1_h3 k1_h4

def k1_chk88 (v288 : BitVec 32) (v313 : BitVec 32) (arg26 : BitVec 32) (arg27 : BitVec 1) (v377 : IVec S16 32) (v388 : IVec S16 32) : Prop :=
  (∀ (k1_h2 : k1_cond2 v288 = 1#1), ∀ (k1_h3 : k1_cond3 v313 = 1#1), ∀ (k1_h4 : k1_cond4 arg26 arg27 = 1#1), ∀ a x, ((![v377, v388] : Fin 2 → IVec S16 32) a x).toNat < S128x8.size a)
theorem k1_idx86_inb : ∀ (v288 : BitVec 32) (v313 : BitVec 32) (arg26 : BitVec 32) (arg27 : BitVec 1) (v377 : IVec S16 32) (v388 : IVec S16 32) (k1_hw88 : k1_chk88 v288 v313 arg26 arg27 v377 v388), ∀ (k1_h2 : k1_cond2 v288 = 1#1), ∀ (k1_h3 : k1_cond3 v313 = 1#1), ∀ (k1_h4 : k1_cond4 arg26 arg27 = 1#1), ∀ a x, ((![v377, v388] : Fin 2 → IVec S16 32) a x).toNat < S128x8.size a := fun v288 v313 arg26 arg27 v377 v388 k1_hw88 k1_h2 k1_h3 k1_h4 => k1_hw88 k1_h2 k1_h3 k1_h4

def k1_chk89 (v288 : BitVec 32) (v313 : BitVec 32) (arg26 : BitVec 32) (arg27 : BitVec 1) (v377 : IVec S16 32) (v391 : IVec S16 32) : Prop :=
  (∀ (k1_h2 : k1_cond2 v288 = 1#1), ∀ (k1_h3 : k1_cond3 v313 = 1#1), ∀ (k1_h4 : k1_cond4 arg26 arg27 = 1#1), ∀ a x, ((![v377, v391] : Fin 2 → IVec S16 32) a x).toNat < S128x8.size a)
theorem k1_idx87_inb : ∀ (v288 : BitVec 32) (v313 : BitVec 32) (arg26 : BitVec 32) (arg27 : BitVec 1) (v377 : IVec S16 32) (v391 : IVec S16 32) (k1_hw89 : k1_chk89 v288 v313 arg26 arg27 v377 v391), ∀ (k1_h2 : k1_cond2 v288 = 1#1), ∀ (k1_h3 : k1_cond3 v313 = 1#1), ∀ (k1_h4 : k1_cond4 arg26 arg27 = 1#1), ∀ a x, ((![v377, v391] : Fin 2 → IVec S16 32) a x).toNat < S128x8.size a := fun v288 v313 arg26 arg27 v377 v391 k1_hw89 k1_h2 k1_h3 k1_h4 => k1_hw89 k1_h2 k1_h3 k1_h4

def k1_chk90 (v288 : BitVec 32) (v313 : BitVec 32) (arg26 : BitVec 32) (arg27 : BitVec 1) (v377 : IVec S16 32) (v394 : IVec S16 32) : Prop :=
  (∀ (k1_h2 : k1_cond2 v288 = 1#1), ∀ (k1_h3 : k1_cond3 v313 = 1#1), ∀ (k1_h4 : k1_cond4 arg26 arg27 = 1#1), ∀ a x, ((![v377, v394] : Fin 2 → IVec S16 32) a x).toNat < S128x8.size a)
theorem k1_idx88_inb : ∀ (v288 : BitVec 32) (v313 : BitVec 32) (arg26 : BitVec 32) (arg27 : BitVec 1) (v377 : IVec S16 32) (v394 : IVec S16 32) (k1_hw90 : k1_chk90 v288 v313 arg26 arg27 v377 v394), ∀ (k1_h2 : k1_cond2 v288 = 1#1), ∀ (k1_h3 : k1_cond3 v313 = 1#1), ∀ (k1_h4 : k1_cond4 arg26 arg27 = 1#1), ∀ a x, ((![v377, v394] : Fin 2 → IVec S16 32) a x).toNat < S128x8.size a := fun v288 v313 arg26 arg27 v377 v394 k1_hw90 k1_h2 k1_h3 k1_h4 => k1_hw90 k1_h2 k1_h3 k1_h4

def k1_chk91 (v288 : BitVec 32) (v313 : BitVec 32) (arg26 : BitVec 32) (arg27 : BitVec 1) (v377 : IVec S16 32) (v397 : IVec S16 32) : Prop :=
  (∀ (k1_h2 : k1_cond2 v288 = 1#1), ∀ (k1_h3 : k1_cond3 v313 = 1#1), ∀ (k1_h4 : k1_cond4 arg26 arg27 = 1#1), ∀ a x, ((![v377, v397] : Fin 2 → IVec S16 32) a x).toNat < S128x8.size a)
theorem k1_idx89_inb : ∀ (v288 : BitVec 32) (v313 : BitVec 32) (arg26 : BitVec 32) (arg27 : BitVec 1) (v377 : IVec S16 32) (v397 : IVec S16 32) (k1_hw91 : k1_chk91 v288 v313 arg26 arg27 v377 v397), ∀ (k1_h2 : k1_cond2 v288 = 1#1), ∀ (k1_h3 : k1_cond3 v313 = 1#1), ∀ (k1_h4 : k1_cond4 arg26 arg27 = 1#1), ∀ a x, ((![v377, v397] : Fin 2 → IVec S16 32) a x).toNat < S128x8.size a := fun v288 v313 arg26 arg27 v377 v397 k1_hw91 k1_h2 k1_h3 k1_h4 => k1_hw91 k1_h2 k1_h3 k1_h4

def k1_chk92 (v288 : BitVec 32) (v313 : BitVec 32) (arg26 : BitVec 32) (arg27 : BitVec 1) (v377 : IVec S16 32) (v400 : IVec S16 32) : Prop :=
  (∀ (k1_h2 : k1_cond2 v288 = 1#1), ∀ (k1_h3 : k1_cond3 v313 = 1#1), ∀ (k1_h4 : k1_cond4 arg26 arg27 = 1#1), ∀ a x, ((![v377, v400] : Fin 2 → IVec S16 32) a x).toNat < S128x8.size a)
theorem k1_idx90_inb : ∀ (v288 : BitVec 32) (v313 : BitVec 32) (arg26 : BitVec 32) (arg27 : BitVec 1) (v377 : IVec S16 32) (v400 : IVec S16 32) (k1_hw92 : k1_chk92 v288 v313 arg26 arg27 v377 v400), ∀ (k1_h2 : k1_cond2 v288 = 1#1), ∀ (k1_h3 : k1_cond3 v313 = 1#1), ∀ (k1_h4 : k1_cond4 arg26 arg27 = 1#1), ∀ a x, ((![v377, v400] : Fin 2 → IVec S16 32) a x).toNat < S128x8.size a := fun v288 v313 arg26 arg27 v377 v400 k1_hw92 k1_h2 k1_h3 k1_h4 => k1_hw92 k1_h2 k1_h3 k1_h4

def k1_chk93 (v288 : BitVec 32) (v313 : BitVec 32) (arg26 : BitVec 32) (arg27 : BitVec 1) (v407 : IVec S16 32) (v409 : IVec S16 32) : Prop :=
  (∀ (k1_h2 : k1_cond2 v288 = 1#1), ∀ (k1_h3 : k1_cond3 v313 = 1#1), ∀ (k1_h4 : k1_cond4 arg26 arg27 = 1#1), ∀ a x, ((![v407, v409] : Fin 2 → IVec S16 32) a x).toNat < S128x8.size a)
theorem k1_idx91_inb : ∀ (v288 : BitVec 32) (v313 : BitVec 32) (arg26 : BitVec 32) (arg27 : BitVec 1) (v407 : IVec S16 32) (v409 : IVec S16 32) (k1_hw93 : k1_chk93 v288 v313 arg26 arg27 v407 v409), ∀ (k1_h2 : k1_cond2 v288 = 1#1), ∀ (k1_h3 : k1_cond3 v313 = 1#1), ∀ (k1_h4 : k1_cond4 arg26 arg27 = 1#1), ∀ a x, ((![v407, v409] : Fin 2 → IVec S16 32) a x).toNat < S128x8.size a := fun v288 v313 arg26 arg27 v407 v409 k1_hw93 k1_h2 k1_h3 k1_h4 => k1_hw93 k1_h2 k1_h3 k1_h4

def k1_chk94 (v288 : BitVec 32) (v313 : BitVec 32) (arg26 : BitVec 32) (arg27 : BitVec 1) (v407 : IVec S16 32) (v412 : IVec S16 32) : Prop :=
  (∀ (k1_h2 : k1_cond2 v288 = 1#1), ∀ (k1_h3 : k1_cond3 v313 = 1#1), ∀ (k1_h4 : k1_cond4 arg26 arg27 = 1#1), ∀ a x, ((![v407, v412] : Fin 2 → IVec S16 32) a x).toNat < S128x8.size a)
theorem k1_idx92_inb : ∀ (v288 : BitVec 32) (v313 : BitVec 32) (arg26 : BitVec 32) (arg27 : BitVec 1) (v407 : IVec S16 32) (v412 : IVec S16 32) (k1_hw94 : k1_chk94 v288 v313 arg26 arg27 v407 v412), ∀ (k1_h2 : k1_cond2 v288 = 1#1), ∀ (k1_h3 : k1_cond3 v313 = 1#1), ∀ (k1_h4 : k1_cond4 arg26 arg27 = 1#1), ∀ a x, ((![v407, v412] : Fin 2 → IVec S16 32) a x).toNat < S128x8.size a := fun v288 v313 arg26 arg27 v407 v412 k1_hw94 k1_h2 k1_h3 k1_h4 => k1_hw94 k1_h2 k1_h3 k1_h4

def k1_chk95 (v288 : BitVec 32) (v313 : BitVec 32) (arg26 : BitVec 32) (arg27 : BitVec 1) (v407 : IVec S16 32) (v415 : IVec S16 32) : Prop :=
  (∀ (k1_h2 : k1_cond2 v288 = 1#1), ∀ (k1_h3 : k1_cond3 v313 = 1#1), ∀ (k1_h4 : k1_cond4 arg26 arg27 = 1#1), ∀ a x, ((![v407, v415] : Fin 2 → IVec S16 32) a x).toNat < S128x8.size a)
theorem k1_idx93_inb : ∀ (v288 : BitVec 32) (v313 : BitVec 32) (arg26 : BitVec 32) (arg27 : BitVec 1) (v407 : IVec S16 32) (v415 : IVec S16 32) (k1_hw95 : k1_chk95 v288 v313 arg26 arg27 v407 v415), ∀ (k1_h2 : k1_cond2 v288 = 1#1), ∀ (k1_h3 : k1_cond3 v313 = 1#1), ∀ (k1_h4 : k1_cond4 arg26 arg27 = 1#1), ∀ a x, ((![v407, v415] : Fin 2 → IVec S16 32) a x).toNat < S128x8.size a := fun v288 v313 arg26 arg27 v407 v415 k1_hw95 k1_h2 k1_h3 k1_h4 => k1_hw95 k1_h2 k1_h3 k1_h4

def k1_chk96 (v288 : BitVec 32) (v313 : BitVec 32) (arg26 : BitVec 32) (arg27 : BitVec 1) (v407 : IVec S16 32) (v418 : IVec S16 32) : Prop :=
  (∀ (k1_h2 : k1_cond2 v288 = 1#1), ∀ (k1_h3 : k1_cond3 v313 = 1#1), ∀ (k1_h4 : k1_cond4 arg26 arg27 = 1#1), ∀ a x, ((![v407, v418] : Fin 2 → IVec S16 32) a x).toNat < S128x8.size a)
theorem k1_idx94_inb : ∀ (v288 : BitVec 32) (v313 : BitVec 32) (arg26 : BitVec 32) (arg27 : BitVec 1) (v407 : IVec S16 32) (v418 : IVec S16 32) (k1_hw96 : k1_chk96 v288 v313 arg26 arg27 v407 v418), ∀ (k1_h2 : k1_cond2 v288 = 1#1), ∀ (k1_h3 : k1_cond3 v313 = 1#1), ∀ (k1_h4 : k1_cond4 arg26 arg27 = 1#1), ∀ a x, ((![v407, v418] : Fin 2 → IVec S16 32) a x).toNat < S128x8.size a := fun v288 v313 arg26 arg27 v407 v418 k1_hw96 k1_h2 k1_h3 k1_h4 => k1_hw96 k1_h2 k1_h3 k1_h4

def k1_chk97 (v288 : BitVec 32) (v313 : BitVec 32) (arg26 : BitVec 32) (arg27 : BitVec 1) (v407 : IVec S16 32) (v421 : IVec S16 32) : Prop :=
  (∀ (k1_h2 : k1_cond2 v288 = 1#1), ∀ (k1_h3 : k1_cond3 v313 = 1#1), ∀ (k1_h4 : k1_cond4 arg26 arg27 = 1#1), ∀ a x, ((![v407, v421] : Fin 2 → IVec S16 32) a x).toNat < S128x8.size a)
theorem k1_idx95_inb : ∀ (v288 : BitVec 32) (v313 : BitVec 32) (arg26 : BitVec 32) (arg27 : BitVec 1) (v407 : IVec S16 32) (v421 : IVec S16 32) (k1_hw97 : k1_chk97 v288 v313 arg26 arg27 v407 v421), ∀ (k1_h2 : k1_cond2 v288 = 1#1), ∀ (k1_h3 : k1_cond3 v313 = 1#1), ∀ (k1_h4 : k1_cond4 arg26 arg27 = 1#1), ∀ a x, ((![v407, v421] : Fin 2 → IVec S16 32) a x).toNat < S128x8.size a := fun v288 v313 arg26 arg27 v407 v421 k1_hw97 k1_h2 k1_h3 k1_h4 => k1_hw97 k1_h2 k1_h3 k1_h4

def k1_chk98 (v288 : BitVec 32) (v313 : BitVec 32) (arg26 : BitVec 32) (arg27 : BitVec 1) (v407 : IVec S16 32) (v424 : IVec S16 32) : Prop :=
  (∀ (k1_h2 : k1_cond2 v288 = 1#1), ∀ (k1_h3 : k1_cond3 v313 = 1#1), ∀ (k1_h4 : k1_cond4 arg26 arg27 = 1#1), ∀ a x, ((![v407, v424] : Fin 2 → IVec S16 32) a x).toNat < S128x8.size a)
theorem k1_idx96_inb : ∀ (v288 : BitVec 32) (v313 : BitVec 32) (arg26 : BitVec 32) (arg27 : BitVec 1) (v407 : IVec S16 32) (v424 : IVec S16 32) (k1_hw98 : k1_chk98 v288 v313 arg26 arg27 v407 v424), ∀ (k1_h2 : k1_cond2 v288 = 1#1), ∀ (k1_h3 : k1_cond3 v313 = 1#1), ∀ (k1_h4 : k1_cond4 arg26 arg27 = 1#1), ∀ a x, ((![v407, v424] : Fin 2 → IVec S16 32) a x).toNat < S128x8.size a := fun v288 v313 arg26 arg27 v407 v424 k1_hw98 k1_h2 k1_h3 k1_h4 => k1_hw98 k1_h2 k1_h3 k1_h4

def k1_chk99 (v288 : BitVec 32) (v313 : BitVec 32) (arg26 : BitVec 32) (arg27 : BitVec 1) (v407 : IVec S16 32) (v427 : IVec S16 32) : Prop :=
  (∀ (k1_h2 : k1_cond2 v288 = 1#1), ∀ (k1_h3 : k1_cond3 v313 = 1#1), ∀ (k1_h4 : k1_cond4 arg26 arg27 = 1#1), ∀ a x, ((![v407, v427] : Fin 2 → IVec S16 32) a x).toNat < S128x8.size a)
theorem k1_idx97_inb : ∀ (v288 : BitVec 32) (v313 : BitVec 32) (arg26 : BitVec 32) (arg27 : BitVec 1) (v407 : IVec S16 32) (v427 : IVec S16 32) (k1_hw99 : k1_chk99 v288 v313 arg26 arg27 v407 v427), ∀ (k1_h2 : k1_cond2 v288 = 1#1), ∀ (k1_h3 : k1_cond3 v313 = 1#1), ∀ (k1_h4 : k1_cond4 arg26 arg27 = 1#1), ∀ a x, ((![v407, v427] : Fin 2 → IVec S16 32) a x).toNat < S128x8.size a := fun v288 v313 arg26 arg27 v407 v427 k1_hw99 k1_h2 k1_h3 k1_h4 => k1_hw99 k1_h2 k1_h3 k1_h4

def k1_chk100 (v288 : BitVec 32) (v313 : BitVec 32) (arg26 : BitVec 32) (arg27 : BitVec 1) (v407 : IVec S16 32) (v430 : IVec S16 32) : Prop :=
  (∀ (k1_h2 : k1_cond2 v288 = 1#1), ∀ (k1_h3 : k1_cond3 v313 = 1#1), ∀ (k1_h4 : k1_cond4 arg26 arg27 = 1#1), ∀ a x, ((![v407, v430] : Fin 2 → IVec S16 32) a x).toNat < S128x8.size a)
theorem k1_idx98_inb : ∀ (v288 : BitVec 32) (v313 : BitVec 32) (arg26 : BitVec 32) (arg27 : BitVec 1) (v407 : IVec S16 32) (v430 : IVec S16 32) (k1_hw100 : k1_chk100 v288 v313 arg26 arg27 v407 v430), ∀ (k1_h2 : k1_cond2 v288 = 1#1), ∀ (k1_h3 : k1_cond3 v313 = 1#1), ∀ (k1_h4 : k1_cond4 arg26 arg27 = 1#1), ∀ a x, ((![v407, v430] : Fin 2 → IVec S16 32) a x).toNat < S128x8.size a := fun v288 v313 arg26 arg27 v407 v430 k1_hw100 k1_h2 k1_h3 k1_h4 => k1_hw100 k1_h2 k1_h3 k1_h4

def k1_chk101 (v288 : BitVec 32) (v313 : BitVec 32) (arg26 : BitVec 32) (arg27 : BitVec 1) (v437 : IVec S16 32) (v439 : IVec S16 32) : Prop :=
  (∀ (k1_h2 : k1_cond2 v288 = 1#1), ∀ (k1_h3 : k1_cond3 v313 = 1#1), ∀ (k1_h4 : k1_cond4 arg26 arg27 = 1#1), ∀ a x, ((![v437, v439] : Fin 2 → IVec S16 32) a x).toNat < S128x8.size a)
theorem k1_idx99_inb : ∀ (v288 : BitVec 32) (v313 : BitVec 32) (arg26 : BitVec 32) (arg27 : BitVec 1) (v437 : IVec S16 32) (v439 : IVec S16 32) (k1_hw101 : k1_chk101 v288 v313 arg26 arg27 v437 v439), ∀ (k1_h2 : k1_cond2 v288 = 1#1), ∀ (k1_h3 : k1_cond3 v313 = 1#1), ∀ (k1_h4 : k1_cond4 arg26 arg27 = 1#1), ∀ a x, ((![v437, v439] : Fin 2 → IVec S16 32) a x).toNat < S128x8.size a := fun v288 v313 arg26 arg27 v437 v439 k1_hw101 k1_h2 k1_h3 k1_h4 => k1_hw101 k1_h2 k1_h3 k1_h4

def k1_chk102 (v288 : BitVec 32) (v313 : BitVec 32) (arg26 : BitVec 32) (arg27 : BitVec 1) (v437 : IVec S16 32) (v442 : IVec S16 32) : Prop :=
  (∀ (k1_h2 : k1_cond2 v288 = 1#1), ∀ (k1_h3 : k1_cond3 v313 = 1#1), ∀ (k1_h4 : k1_cond4 arg26 arg27 = 1#1), ∀ a x, ((![v437, v442] : Fin 2 → IVec S16 32) a x).toNat < S128x8.size a)
theorem k1_idx100_inb : ∀ (v288 : BitVec 32) (v313 : BitVec 32) (arg26 : BitVec 32) (arg27 : BitVec 1) (v437 : IVec S16 32) (v442 : IVec S16 32) (k1_hw102 : k1_chk102 v288 v313 arg26 arg27 v437 v442), ∀ (k1_h2 : k1_cond2 v288 = 1#1), ∀ (k1_h3 : k1_cond3 v313 = 1#1), ∀ (k1_h4 : k1_cond4 arg26 arg27 = 1#1), ∀ a x, ((![v437, v442] : Fin 2 → IVec S16 32) a x).toNat < S128x8.size a := fun v288 v313 arg26 arg27 v437 v442 k1_hw102 k1_h2 k1_h3 k1_h4 => k1_hw102 k1_h2 k1_h3 k1_h4

def k1_chk103 (v288 : BitVec 32) (v313 : BitVec 32) (arg26 : BitVec 32) (arg27 : BitVec 1) (v437 : IVec S16 32) (v445 : IVec S16 32) : Prop :=
  (∀ (k1_h2 : k1_cond2 v288 = 1#1), ∀ (k1_h3 : k1_cond3 v313 = 1#1), ∀ (k1_h4 : k1_cond4 arg26 arg27 = 1#1), ∀ a x, ((![v437, v445] : Fin 2 → IVec S16 32) a x).toNat < S128x8.size a)
theorem k1_idx101_inb : ∀ (v288 : BitVec 32) (v313 : BitVec 32) (arg26 : BitVec 32) (arg27 : BitVec 1) (v437 : IVec S16 32) (v445 : IVec S16 32) (k1_hw103 : k1_chk103 v288 v313 arg26 arg27 v437 v445), ∀ (k1_h2 : k1_cond2 v288 = 1#1), ∀ (k1_h3 : k1_cond3 v313 = 1#1), ∀ (k1_h4 : k1_cond4 arg26 arg27 = 1#1), ∀ a x, ((![v437, v445] : Fin 2 → IVec S16 32) a x).toNat < S128x8.size a := fun v288 v313 arg26 arg27 v437 v445 k1_hw103 k1_h2 k1_h3 k1_h4 => k1_hw103 k1_h2 k1_h3 k1_h4

def k1_chk104 (v288 : BitVec 32) (v313 : BitVec 32) (arg26 : BitVec 32) (arg27 : BitVec 1) (v437 : IVec S16 32) (v448 : IVec S16 32) : Prop :=
  (∀ (k1_h2 : k1_cond2 v288 = 1#1), ∀ (k1_h3 : k1_cond3 v313 = 1#1), ∀ (k1_h4 : k1_cond4 arg26 arg27 = 1#1), ∀ a x, ((![v437, v448] : Fin 2 → IVec S16 32) a x).toNat < S128x8.size a)
theorem k1_idx102_inb : ∀ (v288 : BitVec 32) (v313 : BitVec 32) (arg26 : BitVec 32) (arg27 : BitVec 1) (v437 : IVec S16 32) (v448 : IVec S16 32) (k1_hw104 : k1_chk104 v288 v313 arg26 arg27 v437 v448), ∀ (k1_h2 : k1_cond2 v288 = 1#1), ∀ (k1_h3 : k1_cond3 v313 = 1#1), ∀ (k1_h4 : k1_cond4 arg26 arg27 = 1#1), ∀ a x, ((![v437, v448] : Fin 2 → IVec S16 32) a x).toNat < S128x8.size a := fun v288 v313 arg26 arg27 v437 v448 k1_hw104 k1_h2 k1_h3 k1_h4 => k1_hw104 k1_h2 k1_h3 k1_h4

def k1_chk105 (v288 : BitVec 32) (v313 : BitVec 32) (arg26 : BitVec 32) (arg27 : BitVec 1) (v437 : IVec S16 32) (v451 : IVec S16 32) : Prop :=
  (∀ (k1_h2 : k1_cond2 v288 = 1#1), ∀ (k1_h3 : k1_cond3 v313 = 1#1), ∀ (k1_h4 : k1_cond4 arg26 arg27 = 1#1), ∀ a x, ((![v437, v451] : Fin 2 → IVec S16 32) a x).toNat < S128x8.size a)
theorem k1_idx103_inb : ∀ (v288 : BitVec 32) (v313 : BitVec 32) (arg26 : BitVec 32) (arg27 : BitVec 1) (v437 : IVec S16 32) (v451 : IVec S16 32) (k1_hw105 : k1_chk105 v288 v313 arg26 arg27 v437 v451), ∀ (k1_h2 : k1_cond2 v288 = 1#1), ∀ (k1_h3 : k1_cond3 v313 = 1#1), ∀ (k1_h4 : k1_cond4 arg26 arg27 = 1#1), ∀ a x, ((![v437, v451] : Fin 2 → IVec S16 32) a x).toNat < S128x8.size a := fun v288 v313 arg26 arg27 v437 v451 k1_hw105 k1_h2 k1_h3 k1_h4 => k1_hw105 k1_h2 k1_h3 k1_h4

def k1_chk106 (v288 : BitVec 32) (v313 : BitVec 32) (arg26 : BitVec 32) (arg27 : BitVec 1) (v437 : IVec S16 32) (v454 : IVec S16 32) : Prop :=
  (∀ (k1_h2 : k1_cond2 v288 = 1#1), ∀ (k1_h3 : k1_cond3 v313 = 1#1), ∀ (k1_h4 : k1_cond4 arg26 arg27 = 1#1), ∀ a x, ((![v437, v454] : Fin 2 → IVec S16 32) a x).toNat < S128x8.size a)
theorem k1_idx104_inb : ∀ (v288 : BitVec 32) (v313 : BitVec 32) (arg26 : BitVec 32) (arg27 : BitVec 1) (v437 : IVec S16 32) (v454 : IVec S16 32) (k1_hw106 : k1_chk106 v288 v313 arg26 arg27 v437 v454), ∀ (k1_h2 : k1_cond2 v288 = 1#1), ∀ (k1_h3 : k1_cond3 v313 = 1#1), ∀ (k1_h4 : k1_cond4 arg26 arg27 = 1#1), ∀ a x, ((![v437, v454] : Fin 2 → IVec S16 32) a x).toNat < S128x8.size a := fun v288 v313 arg26 arg27 v437 v454 k1_hw106 k1_h2 k1_h3 k1_h4 => k1_hw106 k1_h2 k1_h3 k1_h4

def k1_chk107 (v288 : BitVec 32) (v313 : BitVec 32) (arg26 : BitVec 32) (arg27 : BitVec 1) (v437 : IVec S16 32) (v457 : IVec S16 32) : Prop :=
  (∀ (k1_h2 : k1_cond2 v288 = 1#1), ∀ (k1_h3 : k1_cond3 v313 = 1#1), ∀ (k1_h4 : k1_cond4 arg26 arg27 = 1#1), ∀ a x, ((![v437, v457] : Fin 2 → IVec S16 32) a x).toNat < S128x8.size a)
theorem k1_idx105_inb : ∀ (v288 : BitVec 32) (v313 : BitVec 32) (arg26 : BitVec 32) (arg27 : BitVec 1) (v437 : IVec S16 32) (v457 : IVec S16 32) (k1_hw107 : k1_chk107 v288 v313 arg26 arg27 v437 v457), ∀ (k1_h2 : k1_cond2 v288 = 1#1), ∀ (k1_h3 : k1_cond3 v313 = 1#1), ∀ (k1_h4 : k1_cond4 arg26 arg27 = 1#1), ∀ a x, ((![v437, v457] : Fin 2 → IVec S16 32) a x).toNat < S128x8.size a := fun v288 v313 arg26 arg27 v437 v457 k1_hw107 k1_h2 k1_h3 k1_h4 => k1_hw107 k1_h2 k1_h3 k1_h4

def k1_chk108 (v288 : BitVec 32) (v313 : BitVec 32) (arg26 : BitVec 32) (arg27 : BitVec 1) (v437 : IVec S16 32) (v460 : IVec S16 32) : Prop :=
  (∀ (k1_h2 : k1_cond2 v288 = 1#1), ∀ (k1_h3 : k1_cond3 v313 = 1#1), ∀ (k1_h4 : k1_cond4 arg26 arg27 = 1#1), ∀ a x, ((![v437, v460] : Fin 2 → IVec S16 32) a x).toNat < S128x8.size a)
theorem k1_idx106_inb : ∀ (v288 : BitVec 32) (v313 : BitVec 32) (arg26 : BitVec 32) (arg27 : BitVec 1) (v437 : IVec S16 32) (v460 : IVec S16 32) (k1_hw108 : k1_chk108 v288 v313 arg26 arg27 v437 v460), ∀ (k1_h2 : k1_cond2 v288 = 1#1), ∀ (k1_h3 : k1_cond3 v313 = 1#1), ∀ (k1_h4 : k1_cond4 arg26 arg27 = 1#1), ∀ a x, ((![v437, v460] : Fin 2 → IVec S16 32) a x).toNat < S128x8.size a := fun v288 v313 arg26 arg27 v437 v460 k1_hw108 k1_h2 k1_h3 k1_h4 => k1_hw108 k1_h2 k1_h3 k1_h4

def k1_chk109 (v288 : BitVec 32) (v313 : BitVec 32) (arg26 : BitVec 32) (arg27 : BitVec 1) (v467 : IVec S16 32) (v469 : IVec S16 32) : Prop :=
  (∀ (k1_h2 : k1_cond2 v288 = 1#1), ∀ (k1_h3 : k1_cond3 v313 = 1#1), ∀ (k1_h4 : k1_cond4 arg26 arg27 = 1#1), ∀ a x, ((![v467, v469] : Fin 2 → IVec S16 32) a x).toNat < S128x8.size a)
theorem k1_idx107_inb : ∀ (v288 : BitVec 32) (v313 : BitVec 32) (arg26 : BitVec 32) (arg27 : BitVec 1) (v467 : IVec S16 32) (v469 : IVec S16 32) (k1_hw109 : k1_chk109 v288 v313 arg26 arg27 v467 v469), ∀ (k1_h2 : k1_cond2 v288 = 1#1), ∀ (k1_h3 : k1_cond3 v313 = 1#1), ∀ (k1_h4 : k1_cond4 arg26 arg27 = 1#1), ∀ a x, ((![v467, v469] : Fin 2 → IVec S16 32) a x).toNat < S128x8.size a := fun v288 v313 arg26 arg27 v467 v469 k1_hw109 k1_h2 k1_h3 k1_h4 => k1_hw109 k1_h2 k1_h3 k1_h4

def k1_chk110 (v288 : BitVec 32) (v313 : BitVec 32) (arg26 : BitVec 32) (arg27 : BitVec 1) (v467 : IVec S16 32) (v472 : IVec S16 32) : Prop :=
  (∀ (k1_h2 : k1_cond2 v288 = 1#1), ∀ (k1_h3 : k1_cond3 v313 = 1#1), ∀ (k1_h4 : k1_cond4 arg26 arg27 = 1#1), ∀ a x, ((![v467, v472] : Fin 2 → IVec S16 32) a x).toNat < S128x8.size a)
theorem k1_idx108_inb : ∀ (v288 : BitVec 32) (v313 : BitVec 32) (arg26 : BitVec 32) (arg27 : BitVec 1) (v467 : IVec S16 32) (v472 : IVec S16 32) (k1_hw110 : k1_chk110 v288 v313 arg26 arg27 v467 v472), ∀ (k1_h2 : k1_cond2 v288 = 1#1), ∀ (k1_h3 : k1_cond3 v313 = 1#1), ∀ (k1_h4 : k1_cond4 arg26 arg27 = 1#1), ∀ a x, ((![v467, v472] : Fin 2 → IVec S16 32) a x).toNat < S128x8.size a := fun v288 v313 arg26 arg27 v467 v472 k1_hw110 k1_h2 k1_h3 k1_h4 => k1_hw110 k1_h2 k1_h3 k1_h4

def k1_chk111 (v288 : BitVec 32) (v313 : BitVec 32) (arg26 : BitVec 32) (arg27 : BitVec 1) (v467 : IVec S16 32) (v475 : IVec S16 32) : Prop :=
  (∀ (k1_h2 : k1_cond2 v288 = 1#1), ∀ (k1_h3 : k1_cond3 v313 = 1#1), ∀ (k1_h4 : k1_cond4 arg26 arg27 = 1#1), ∀ a x, ((![v467, v475] : Fin 2 → IVec S16 32) a x).toNat < S128x8.size a)
theorem k1_idx109_inb : ∀ (v288 : BitVec 32) (v313 : BitVec 32) (arg26 : BitVec 32) (arg27 : BitVec 1) (v467 : IVec S16 32) (v475 : IVec S16 32) (k1_hw111 : k1_chk111 v288 v313 arg26 arg27 v467 v475), ∀ (k1_h2 : k1_cond2 v288 = 1#1), ∀ (k1_h3 : k1_cond3 v313 = 1#1), ∀ (k1_h4 : k1_cond4 arg26 arg27 = 1#1), ∀ a x, ((![v467, v475] : Fin 2 → IVec S16 32) a x).toNat < S128x8.size a := fun v288 v313 arg26 arg27 v467 v475 k1_hw111 k1_h2 k1_h3 k1_h4 => k1_hw111 k1_h2 k1_h3 k1_h4

def k1_chk112 (v288 : BitVec 32) (v313 : BitVec 32) (arg26 : BitVec 32) (arg27 : BitVec 1) (v467 : IVec S16 32) (v478 : IVec S16 32) : Prop :=
  (∀ (k1_h2 : k1_cond2 v288 = 1#1), ∀ (k1_h3 : k1_cond3 v313 = 1#1), ∀ (k1_h4 : k1_cond4 arg26 arg27 = 1#1), ∀ a x, ((![v467, v478] : Fin 2 → IVec S16 32) a x).toNat < S128x8.size a)
theorem k1_idx110_inb : ∀ (v288 : BitVec 32) (v313 : BitVec 32) (arg26 : BitVec 32) (arg27 : BitVec 1) (v467 : IVec S16 32) (v478 : IVec S16 32) (k1_hw112 : k1_chk112 v288 v313 arg26 arg27 v467 v478), ∀ (k1_h2 : k1_cond2 v288 = 1#1), ∀ (k1_h3 : k1_cond3 v313 = 1#1), ∀ (k1_h4 : k1_cond4 arg26 arg27 = 1#1), ∀ a x, ((![v467, v478] : Fin 2 → IVec S16 32) a x).toNat < S128x8.size a := fun v288 v313 arg26 arg27 v467 v478 k1_hw112 k1_h2 k1_h3 k1_h4 => k1_hw112 k1_h2 k1_h3 k1_h4

def k1_chk113 (v288 : BitVec 32) (v313 : BitVec 32) (arg26 : BitVec 32) (arg27 : BitVec 1) (v467 : IVec S16 32) (v481 : IVec S16 32) : Prop :=
  (∀ (k1_h2 : k1_cond2 v288 = 1#1), ∀ (k1_h3 : k1_cond3 v313 = 1#1), ∀ (k1_h4 : k1_cond4 arg26 arg27 = 1#1), ∀ a x, ((![v467, v481] : Fin 2 → IVec S16 32) a x).toNat < S128x8.size a)
theorem k1_idx111_inb : ∀ (v288 : BitVec 32) (v313 : BitVec 32) (arg26 : BitVec 32) (arg27 : BitVec 1) (v467 : IVec S16 32) (v481 : IVec S16 32) (k1_hw113 : k1_chk113 v288 v313 arg26 arg27 v467 v481), ∀ (k1_h2 : k1_cond2 v288 = 1#1), ∀ (k1_h3 : k1_cond3 v313 = 1#1), ∀ (k1_h4 : k1_cond4 arg26 arg27 = 1#1), ∀ a x, ((![v467, v481] : Fin 2 → IVec S16 32) a x).toNat < S128x8.size a := fun v288 v313 arg26 arg27 v467 v481 k1_hw113 k1_h2 k1_h3 k1_h4 => k1_hw113 k1_h2 k1_h3 k1_h4

def k1_chk114 (v288 : BitVec 32) (v313 : BitVec 32) (arg26 : BitVec 32) (arg27 : BitVec 1) (v467 : IVec S16 32) (v484 : IVec S16 32) : Prop :=
  (∀ (k1_h2 : k1_cond2 v288 = 1#1), ∀ (k1_h3 : k1_cond3 v313 = 1#1), ∀ (k1_h4 : k1_cond4 arg26 arg27 = 1#1), ∀ a x, ((![v467, v484] : Fin 2 → IVec S16 32) a x).toNat < S128x8.size a)
theorem k1_idx112_inb : ∀ (v288 : BitVec 32) (v313 : BitVec 32) (arg26 : BitVec 32) (arg27 : BitVec 1) (v467 : IVec S16 32) (v484 : IVec S16 32) (k1_hw114 : k1_chk114 v288 v313 arg26 arg27 v467 v484), ∀ (k1_h2 : k1_cond2 v288 = 1#1), ∀ (k1_h3 : k1_cond3 v313 = 1#1), ∀ (k1_h4 : k1_cond4 arg26 arg27 = 1#1), ∀ a x, ((![v467, v484] : Fin 2 → IVec S16 32) a x).toNat < S128x8.size a := fun v288 v313 arg26 arg27 v467 v484 k1_hw114 k1_h2 k1_h3 k1_h4 => k1_hw114 k1_h2 k1_h3 k1_h4

def k1_chk115 (v288 : BitVec 32) (v313 : BitVec 32) (arg26 : BitVec 32) (arg27 : BitVec 1) (v467 : IVec S16 32) (v487 : IVec S16 32) : Prop :=
  (∀ (k1_h2 : k1_cond2 v288 = 1#1), ∀ (k1_h3 : k1_cond3 v313 = 1#1), ∀ (k1_h4 : k1_cond4 arg26 arg27 = 1#1), ∀ a x, ((![v467, v487] : Fin 2 → IVec S16 32) a x).toNat < S128x8.size a)
theorem k1_idx113_inb : ∀ (v288 : BitVec 32) (v313 : BitVec 32) (arg26 : BitVec 32) (arg27 : BitVec 1) (v467 : IVec S16 32) (v487 : IVec S16 32) (k1_hw115 : k1_chk115 v288 v313 arg26 arg27 v467 v487), ∀ (k1_h2 : k1_cond2 v288 = 1#1), ∀ (k1_h3 : k1_cond3 v313 = 1#1), ∀ (k1_h4 : k1_cond4 arg26 arg27 = 1#1), ∀ a x, ((![v467, v487] : Fin 2 → IVec S16 32) a x).toNat < S128x8.size a := fun v288 v313 arg26 arg27 v467 v487 k1_hw115 k1_h2 k1_h3 k1_h4 => k1_hw115 k1_h2 k1_h3 k1_h4

def k1_chk116 (v288 : BitVec 32) (v313 : BitVec 32) (arg26 : BitVec 32) (arg27 : BitVec 1) (v467 : IVec S16 32) (v490 : IVec S16 32) : Prop :=
  (∀ (k1_h2 : k1_cond2 v288 = 1#1), ∀ (k1_h3 : k1_cond3 v313 = 1#1), ∀ (k1_h4 : k1_cond4 arg26 arg27 = 1#1), ∀ a x, ((![v467, v490] : Fin 2 → IVec S16 32) a x).toNat < S128x8.size a)
theorem k1_idx114_inb : ∀ (v288 : BitVec 32) (v313 : BitVec 32) (arg26 : BitVec 32) (arg27 : BitVec 1) (v467 : IVec S16 32) (v490 : IVec S16 32) (k1_hw116 : k1_chk116 v288 v313 arg26 arg27 v467 v490), ∀ (k1_h2 : k1_cond2 v288 = 1#1), ∀ (k1_h3 : k1_cond3 v313 = 1#1), ∀ (k1_h4 : k1_cond4 arg26 arg27 = 1#1), ∀ a x, ((![v467, v490] : Fin 2 → IVec S16 32) a x).toNat < S128x8.size a := fun v288 v313 arg26 arg27 v467 v490 k1_hw116 k1_h2 k1_h3 k1_h4 => k1_hw116 k1_h2 k1_h3 k1_h4

def k1_chk117 (v288 : BitVec 32) (v313 : BitVec 32) (arg26 : BitVec 32) (arg27 : BitVec 1) (v497 : IVec S16 32) (v499 : IVec S16 32) : Prop :=
  (∀ (k1_h2 : k1_cond2 v288 = 1#1), ∀ (k1_h3 : k1_cond3 v313 = 1#1), ∀ (k1_h4 : k1_cond4 arg26 arg27 = 1#1), ∀ a x, ((![v497, v499] : Fin 2 → IVec S16 32) a x).toNat < S128x8.size a)
theorem k1_idx115_inb : ∀ (v288 : BitVec 32) (v313 : BitVec 32) (arg26 : BitVec 32) (arg27 : BitVec 1) (v497 : IVec S16 32) (v499 : IVec S16 32) (k1_hw117 : k1_chk117 v288 v313 arg26 arg27 v497 v499), ∀ (k1_h2 : k1_cond2 v288 = 1#1), ∀ (k1_h3 : k1_cond3 v313 = 1#1), ∀ (k1_h4 : k1_cond4 arg26 arg27 = 1#1), ∀ a x, ((![v497, v499] : Fin 2 → IVec S16 32) a x).toNat < S128x8.size a := fun v288 v313 arg26 arg27 v497 v499 k1_hw117 k1_h2 k1_h3 k1_h4 => k1_hw117 k1_h2 k1_h3 k1_h4

def k1_chk118 (v288 : BitVec 32) (v313 : BitVec 32) (arg26 : BitVec 32) (arg27 : BitVec 1) (v497 : IVec S16 32) (v502 : IVec S16 32) : Prop :=
  (∀ (k1_h2 : k1_cond2 v288 = 1#1), ∀ (k1_h3 : k1_cond3 v313 = 1#1), ∀ (k1_h4 : k1_cond4 arg26 arg27 = 1#1), ∀ a x, ((![v497, v502] : Fin 2 → IVec S16 32) a x).toNat < S128x8.size a)
theorem k1_idx116_inb : ∀ (v288 : BitVec 32) (v313 : BitVec 32) (arg26 : BitVec 32) (arg27 : BitVec 1) (v497 : IVec S16 32) (v502 : IVec S16 32) (k1_hw118 : k1_chk118 v288 v313 arg26 arg27 v497 v502), ∀ (k1_h2 : k1_cond2 v288 = 1#1), ∀ (k1_h3 : k1_cond3 v313 = 1#1), ∀ (k1_h4 : k1_cond4 arg26 arg27 = 1#1), ∀ a x, ((![v497, v502] : Fin 2 → IVec S16 32) a x).toNat < S128x8.size a := fun v288 v313 arg26 arg27 v497 v502 k1_hw118 k1_h2 k1_h3 k1_h4 => k1_hw118 k1_h2 k1_h3 k1_h4

def k1_chk119 (v288 : BitVec 32) (v313 : BitVec 32) (arg26 : BitVec 32) (arg27 : BitVec 1) (v497 : IVec S16 32) (v505 : IVec S16 32) : Prop :=
  (∀ (k1_h2 : k1_cond2 v288 = 1#1), ∀ (k1_h3 : k1_cond3 v313 = 1#1), ∀ (k1_h4 : k1_cond4 arg26 arg27 = 1#1), ∀ a x, ((![v497, v505] : Fin 2 → IVec S16 32) a x).toNat < S128x8.size a)
theorem k1_idx117_inb : ∀ (v288 : BitVec 32) (v313 : BitVec 32) (arg26 : BitVec 32) (arg27 : BitVec 1) (v497 : IVec S16 32) (v505 : IVec S16 32) (k1_hw119 : k1_chk119 v288 v313 arg26 arg27 v497 v505), ∀ (k1_h2 : k1_cond2 v288 = 1#1), ∀ (k1_h3 : k1_cond3 v313 = 1#1), ∀ (k1_h4 : k1_cond4 arg26 arg27 = 1#1), ∀ a x, ((![v497, v505] : Fin 2 → IVec S16 32) a x).toNat < S128x8.size a := fun v288 v313 arg26 arg27 v497 v505 k1_hw119 k1_h2 k1_h3 k1_h4 => k1_hw119 k1_h2 k1_h3 k1_h4

def k1_chk120 (v288 : BitVec 32) (v313 : BitVec 32) (arg26 : BitVec 32) (arg27 : BitVec 1) (v497 : IVec S16 32) (v508 : IVec S16 32) : Prop :=
  (∀ (k1_h2 : k1_cond2 v288 = 1#1), ∀ (k1_h3 : k1_cond3 v313 = 1#1), ∀ (k1_h4 : k1_cond4 arg26 arg27 = 1#1), ∀ a x, ((![v497, v508] : Fin 2 → IVec S16 32) a x).toNat < S128x8.size a)
theorem k1_idx118_inb : ∀ (v288 : BitVec 32) (v313 : BitVec 32) (arg26 : BitVec 32) (arg27 : BitVec 1) (v497 : IVec S16 32) (v508 : IVec S16 32) (k1_hw120 : k1_chk120 v288 v313 arg26 arg27 v497 v508), ∀ (k1_h2 : k1_cond2 v288 = 1#1), ∀ (k1_h3 : k1_cond3 v313 = 1#1), ∀ (k1_h4 : k1_cond4 arg26 arg27 = 1#1), ∀ a x, ((![v497, v508] : Fin 2 → IVec S16 32) a x).toNat < S128x8.size a := fun v288 v313 arg26 arg27 v497 v508 k1_hw120 k1_h2 k1_h3 k1_h4 => k1_hw120 k1_h2 k1_h3 k1_h4

def k1_chk121 (v288 : BitVec 32) (v313 : BitVec 32) (arg26 : BitVec 32) (arg27 : BitVec 1) (v497 : IVec S16 32) (v511 : IVec S16 32) : Prop :=
  (∀ (k1_h2 : k1_cond2 v288 = 1#1), ∀ (k1_h3 : k1_cond3 v313 = 1#1), ∀ (k1_h4 : k1_cond4 arg26 arg27 = 1#1), ∀ a x, ((![v497, v511] : Fin 2 → IVec S16 32) a x).toNat < S128x8.size a)
theorem k1_idx119_inb : ∀ (v288 : BitVec 32) (v313 : BitVec 32) (arg26 : BitVec 32) (arg27 : BitVec 1) (v497 : IVec S16 32) (v511 : IVec S16 32) (k1_hw121 : k1_chk121 v288 v313 arg26 arg27 v497 v511), ∀ (k1_h2 : k1_cond2 v288 = 1#1), ∀ (k1_h3 : k1_cond3 v313 = 1#1), ∀ (k1_h4 : k1_cond4 arg26 arg27 = 1#1), ∀ a x, ((![v497, v511] : Fin 2 → IVec S16 32) a x).toNat < S128x8.size a := fun v288 v313 arg26 arg27 v497 v511 k1_hw121 k1_h2 k1_h3 k1_h4 => k1_hw121 k1_h2 k1_h3 k1_h4

def k1_chk122 (v288 : BitVec 32) (v313 : BitVec 32) (arg26 : BitVec 32) (arg27 : BitVec 1) (v497 : IVec S16 32) (v514 : IVec S16 32) : Prop :=
  (∀ (k1_h2 : k1_cond2 v288 = 1#1), ∀ (k1_h3 : k1_cond3 v313 = 1#1), ∀ (k1_h4 : k1_cond4 arg26 arg27 = 1#1), ∀ a x, ((![v497, v514] : Fin 2 → IVec S16 32) a x).toNat < S128x8.size a)
theorem k1_idx120_inb : ∀ (v288 : BitVec 32) (v313 : BitVec 32) (arg26 : BitVec 32) (arg27 : BitVec 1) (v497 : IVec S16 32) (v514 : IVec S16 32) (k1_hw122 : k1_chk122 v288 v313 arg26 arg27 v497 v514), ∀ (k1_h2 : k1_cond2 v288 = 1#1), ∀ (k1_h3 : k1_cond3 v313 = 1#1), ∀ (k1_h4 : k1_cond4 arg26 arg27 = 1#1), ∀ a x, ((![v497, v514] : Fin 2 → IVec S16 32) a x).toNat < S128x8.size a := fun v288 v313 arg26 arg27 v497 v514 k1_hw122 k1_h2 k1_h3 k1_h4 => k1_hw122 k1_h2 k1_h3 k1_h4

def k1_chk123 (v288 : BitVec 32) (v313 : BitVec 32) (arg26 : BitVec 32) (arg27 : BitVec 1) (v497 : IVec S16 32) (v517 : IVec S16 32) : Prop :=
  (∀ (k1_h2 : k1_cond2 v288 = 1#1), ∀ (k1_h3 : k1_cond3 v313 = 1#1), ∀ (k1_h4 : k1_cond4 arg26 arg27 = 1#1), ∀ a x, ((![v497, v517] : Fin 2 → IVec S16 32) a x).toNat < S128x8.size a)
theorem k1_idx121_inb : ∀ (v288 : BitVec 32) (v313 : BitVec 32) (arg26 : BitVec 32) (arg27 : BitVec 1) (v497 : IVec S16 32) (v517 : IVec S16 32) (k1_hw123 : k1_chk123 v288 v313 arg26 arg27 v497 v517), ∀ (k1_h2 : k1_cond2 v288 = 1#1), ∀ (k1_h3 : k1_cond3 v313 = 1#1), ∀ (k1_h4 : k1_cond4 arg26 arg27 = 1#1), ∀ a x, ((![v497, v517] : Fin 2 → IVec S16 32) a x).toNat < S128x8.size a := fun v288 v313 arg26 arg27 v497 v517 k1_hw123 k1_h2 k1_h3 k1_h4 => k1_hw123 k1_h2 k1_h3 k1_h4

def k1_chk124 (v288 : BitVec 32) (v313 : BitVec 32) (arg26 : BitVec 32) (arg27 : BitVec 1) (v497 : IVec S16 32) (v520 : IVec S16 32) : Prop :=
  (∀ (k1_h2 : k1_cond2 v288 = 1#1), ∀ (k1_h3 : k1_cond3 v313 = 1#1), ∀ (k1_h4 : k1_cond4 arg26 arg27 = 1#1), ∀ a x, ((![v497, v520] : Fin 2 → IVec S16 32) a x).toNat < S128x8.size a)
theorem k1_idx122_inb : ∀ (v288 : BitVec 32) (v313 : BitVec 32) (arg26 : BitVec 32) (arg27 : BitVec 1) (v497 : IVec S16 32) (v520 : IVec S16 32) (k1_hw124 : k1_chk124 v288 v313 arg26 arg27 v497 v520), ∀ (k1_h2 : k1_cond2 v288 = 1#1), ∀ (k1_h3 : k1_cond3 v313 = 1#1), ∀ (k1_h4 : k1_cond4 arg26 arg27 = 1#1), ∀ a x, ((![v497, v520] : Fin 2 → IVec S16 32) a x).toNat < S128x8.size a := fun v288 v313 arg26 arg27 v497 v520 k1_hw124 k1_h2 k1_h3 k1_h4 => k1_hw124 k1_h2 k1_h3 k1_h4

def k1_chk125 (v288 : BitVec 32) (v313 : BitVec 32) (arg26 : BitVec 32) (arg27 : BitVec 1) (v527 : IVec S16 32) (v529 : IVec S16 32) : Prop :=
  (∀ (k1_h2 : k1_cond2 v288 = 1#1), ∀ (k1_h3 : k1_cond3 v313 = 1#1), ∀ (k1_h4 : k1_cond4 arg26 arg27 = 1#1), ∀ a x, ((![v527, v529] : Fin 2 → IVec S16 32) a x).toNat < S128x8.size a)
theorem k1_idx123_inb : ∀ (v288 : BitVec 32) (v313 : BitVec 32) (arg26 : BitVec 32) (arg27 : BitVec 1) (v527 : IVec S16 32) (v529 : IVec S16 32) (k1_hw125 : k1_chk125 v288 v313 arg26 arg27 v527 v529), ∀ (k1_h2 : k1_cond2 v288 = 1#1), ∀ (k1_h3 : k1_cond3 v313 = 1#1), ∀ (k1_h4 : k1_cond4 arg26 arg27 = 1#1), ∀ a x, ((![v527, v529] : Fin 2 → IVec S16 32) a x).toNat < S128x8.size a := fun v288 v313 arg26 arg27 v527 v529 k1_hw125 k1_h2 k1_h3 k1_h4 => k1_hw125 k1_h2 k1_h3 k1_h4

def k1_chk126 (v288 : BitVec 32) (v313 : BitVec 32) (arg26 : BitVec 32) (arg27 : BitVec 1) (v527 : IVec S16 32) (v532 : IVec S16 32) : Prop :=
  (∀ (k1_h2 : k1_cond2 v288 = 1#1), ∀ (k1_h3 : k1_cond3 v313 = 1#1), ∀ (k1_h4 : k1_cond4 arg26 arg27 = 1#1), ∀ a x, ((![v527, v532] : Fin 2 → IVec S16 32) a x).toNat < S128x8.size a)
theorem k1_idx124_inb : ∀ (v288 : BitVec 32) (v313 : BitVec 32) (arg26 : BitVec 32) (arg27 : BitVec 1) (v527 : IVec S16 32) (v532 : IVec S16 32) (k1_hw126 : k1_chk126 v288 v313 arg26 arg27 v527 v532), ∀ (k1_h2 : k1_cond2 v288 = 1#1), ∀ (k1_h3 : k1_cond3 v313 = 1#1), ∀ (k1_h4 : k1_cond4 arg26 arg27 = 1#1), ∀ a x, ((![v527, v532] : Fin 2 → IVec S16 32) a x).toNat < S128x8.size a := fun v288 v313 arg26 arg27 v527 v532 k1_hw126 k1_h2 k1_h3 k1_h4 => k1_hw126 k1_h2 k1_h3 k1_h4

def k1_chk127 (v288 : BitVec 32) (v313 : BitVec 32) (arg26 : BitVec 32) (arg27 : BitVec 1) (v527 : IVec S16 32) (v535 : IVec S16 32) : Prop :=
  (∀ (k1_h2 : k1_cond2 v288 = 1#1), ∀ (k1_h3 : k1_cond3 v313 = 1#1), ∀ (k1_h4 : k1_cond4 arg26 arg27 = 1#1), ∀ a x, ((![v527, v535] : Fin 2 → IVec S16 32) a x).toNat < S128x8.size a)
theorem k1_idx125_inb : ∀ (v288 : BitVec 32) (v313 : BitVec 32) (arg26 : BitVec 32) (arg27 : BitVec 1) (v527 : IVec S16 32) (v535 : IVec S16 32) (k1_hw127 : k1_chk127 v288 v313 arg26 arg27 v527 v535), ∀ (k1_h2 : k1_cond2 v288 = 1#1), ∀ (k1_h3 : k1_cond3 v313 = 1#1), ∀ (k1_h4 : k1_cond4 arg26 arg27 = 1#1), ∀ a x, ((![v527, v535] : Fin 2 → IVec S16 32) a x).toNat < S128x8.size a := fun v288 v313 arg26 arg27 v527 v535 k1_hw127 k1_h2 k1_h3 k1_h4 => k1_hw127 k1_h2 k1_h3 k1_h4

def k1_chk128 (v288 : BitVec 32) (v313 : BitVec 32) (arg26 : BitVec 32) (arg27 : BitVec 1) (v527 : IVec S16 32) (v538 : IVec S16 32) : Prop :=
  (∀ (k1_h2 : k1_cond2 v288 = 1#1), ∀ (k1_h3 : k1_cond3 v313 = 1#1), ∀ (k1_h4 : k1_cond4 arg26 arg27 = 1#1), ∀ a x, ((![v527, v538] : Fin 2 → IVec S16 32) a x).toNat < S128x8.size a)
theorem k1_idx126_inb : ∀ (v288 : BitVec 32) (v313 : BitVec 32) (arg26 : BitVec 32) (arg27 : BitVec 1) (v527 : IVec S16 32) (v538 : IVec S16 32) (k1_hw128 : k1_chk128 v288 v313 arg26 arg27 v527 v538), ∀ (k1_h2 : k1_cond2 v288 = 1#1), ∀ (k1_h3 : k1_cond3 v313 = 1#1), ∀ (k1_h4 : k1_cond4 arg26 arg27 = 1#1), ∀ a x, ((![v527, v538] : Fin 2 → IVec S16 32) a x).toNat < S128x8.size a := fun v288 v313 arg26 arg27 v527 v538 k1_hw128 k1_h2 k1_h3 k1_h4 => k1_hw128 k1_h2 k1_h3 k1_h4

def k1_chk129 (v288 : BitVec 32) (v313 : BitVec 32) (arg26 : BitVec 32) (arg27 : BitVec 1) (v527 : IVec S16 32) (v541 : IVec S16 32) : Prop :=
  (∀ (k1_h2 : k1_cond2 v288 = 1#1), ∀ (k1_h3 : k1_cond3 v313 = 1#1), ∀ (k1_h4 : k1_cond4 arg26 arg27 = 1#1), ∀ a x, ((![v527, v541] : Fin 2 → IVec S16 32) a x).toNat < S128x8.size a)
theorem k1_idx127_inb : ∀ (v288 : BitVec 32) (v313 : BitVec 32) (arg26 : BitVec 32) (arg27 : BitVec 1) (v527 : IVec S16 32) (v541 : IVec S16 32) (k1_hw129 : k1_chk129 v288 v313 arg26 arg27 v527 v541), ∀ (k1_h2 : k1_cond2 v288 = 1#1), ∀ (k1_h3 : k1_cond3 v313 = 1#1), ∀ (k1_h4 : k1_cond4 arg26 arg27 = 1#1), ∀ a x, ((![v527, v541] : Fin 2 → IVec S16 32) a x).toNat < S128x8.size a := fun v288 v313 arg26 arg27 v527 v541 k1_hw129 k1_h2 k1_h3 k1_h4 => k1_hw129 k1_h2 k1_h3 k1_h4

def k1_chk130 (v288 : BitVec 32) (v313 : BitVec 32) (arg26 : BitVec 32) (arg27 : BitVec 1) (v527 : IVec S16 32) (v544 : IVec S16 32) : Prop :=
  (∀ (k1_h2 : k1_cond2 v288 = 1#1), ∀ (k1_h3 : k1_cond3 v313 = 1#1), ∀ (k1_h4 : k1_cond4 arg26 arg27 = 1#1), ∀ a x, ((![v527, v544] : Fin 2 → IVec S16 32) a x).toNat < S128x8.size a)
theorem k1_idx128_inb : ∀ (v288 : BitVec 32) (v313 : BitVec 32) (arg26 : BitVec 32) (arg27 : BitVec 1) (v527 : IVec S16 32) (v544 : IVec S16 32) (k1_hw130 : k1_chk130 v288 v313 arg26 arg27 v527 v544), ∀ (k1_h2 : k1_cond2 v288 = 1#1), ∀ (k1_h3 : k1_cond3 v313 = 1#1), ∀ (k1_h4 : k1_cond4 arg26 arg27 = 1#1), ∀ a x, ((![v527, v544] : Fin 2 → IVec S16 32) a x).toNat < S128x8.size a := fun v288 v313 arg26 arg27 v527 v544 k1_hw130 k1_h2 k1_h3 k1_h4 => k1_hw130 k1_h2 k1_h3 k1_h4

def k1_chk131 (v288 : BitVec 32) (v313 : BitVec 32) (arg26 : BitVec 32) (arg27 : BitVec 1) (v527 : IVec S16 32) (v547 : IVec S16 32) : Prop :=
  (∀ (k1_h2 : k1_cond2 v288 = 1#1), ∀ (k1_h3 : k1_cond3 v313 = 1#1), ∀ (k1_h4 : k1_cond4 arg26 arg27 = 1#1), ∀ a x, ((![v527, v547] : Fin 2 → IVec S16 32) a x).toNat < S128x8.size a)
theorem k1_idx129_inb : ∀ (v288 : BitVec 32) (v313 : BitVec 32) (arg26 : BitVec 32) (arg27 : BitVec 1) (v527 : IVec S16 32) (v547 : IVec S16 32) (k1_hw131 : k1_chk131 v288 v313 arg26 arg27 v527 v547), ∀ (k1_h2 : k1_cond2 v288 = 1#1), ∀ (k1_h3 : k1_cond3 v313 = 1#1), ∀ (k1_h4 : k1_cond4 arg26 arg27 = 1#1), ∀ a x, ((![v527, v547] : Fin 2 → IVec S16 32) a x).toNat < S128x8.size a := fun v288 v313 arg26 arg27 v527 v547 k1_hw131 k1_h2 k1_h3 k1_h4 => k1_hw131 k1_h2 k1_h3 k1_h4

def k1_chk132 (v288 : BitVec 32) (v313 : BitVec 32) (arg26 : BitVec 32) (arg27 : BitVec 1) (v527 : IVec S16 32) (v550 : IVec S16 32) : Prop :=
  (∀ (k1_h2 : k1_cond2 v288 = 1#1), ∀ (k1_h3 : k1_cond3 v313 = 1#1), ∀ (k1_h4 : k1_cond4 arg26 arg27 = 1#1), ∀ a x, ((![v527, v550] : Fin 2 → IVec S16 32) a x).toNat < S128x8.size a)
theorem k1_idx130_inb : ∀ (v288 : BitVec 32) (v313 : BitVec 32) (arg26 : BitVec 32) (arg27 : BitVec 1) (v527 : IVec S16 32) (v550 : IVec S16 32) (k1_hw132 : k1_chk132 v288 v313 arg26 arg27 v527 v550), ∀ (k1_h2 : k1_cond2 v288 = 1#1), ∀ (k1_h3 : k1_cond3 v313 = 1#1), ∀ (k1_h4 : k1_cond4 arg26 arg27 = 1#1), ∀ a x, ((![v527, v550] : Fin 2 → IVec S16 32) a x).toNat < S128x8.size a := fun v288 v313 arg26 arg27 v527 v550 k1_hw132 k1_h2 k1_h3 k1_h4 => k1_hw132 k1_h2 k1_h3 k1_h4

def k1_chk133 (v288 : BitVec 32) (v313 : BitVec 32) (arg26 : BitVec 32) (arg27 : BitVec 1) (v557 : IVec S16 32) (v559 : IVec S16 32) : Prop :=
  (∀ (k1_h2 : k1_cond2 v288 = 1#1), ∀ (k1_h3 : k1_cond3 v313 = 1#1), ∀ (k1_h4 : k1_cond4 arg26 arg27 = 1#1), ∀ a x, ((![v557, v559] : Fin 2 → IVec S16 32) a x).toNat < S128x8.size a)
theorem k1_idx131_inb : ∀ (v288 : BitVec 32) (v313 : BitVec 32) (arg26 : BitVec 32) (arg27 : BitVec 1) (v557 : IVec S16 32) (v559 : IVec S16 32) (k1_hw133 : k1_chk133 v288 v313 arg26 arg27 v557 v559), ∀ (k1_h2 : k1_cond2 v288 = 1#1), ∀ (k1_h3 : k1_cond3 v313 = 1#1), ∀ (k1_h4 : k1_cond4 arg26 arg27 = 1#1), ∀ a x, ((![v557, v559] : Fin 2 → IVec S16 32) a x).toNat < S128x8.size a := fun v288 v313 arg26 arg27 v557 v559 k1_hw133 k1_h2 k1_h3 k1_h4 => k1_hw133 k1_h2 k1_h3 k1_h4

def k1_chk134 (v288 : BitVec 32) (v313 : BitVec 32) (arg26 : BitVec 32) (arg27 : BitVec 1) (v557 : IVec S16 32) (v562 : IVec S16 32) : Prop :=
  (∀ (k1_h2 : k1_cond2 v288 = 1#1), ∀ (k1_h3 : k1_cond3 v313 = 1#1), ∀ (k1_h4 : k1_cond4 arg26 arg27 = 1#1), ∀ a x, ((![v557, v562] : Fin 2 → IVec S16 32) a x).toNat < S128x8.size a)
theorem k1_idx132_inb : ∀ (v288 : BitVec 32) (v313 : BitVec 32) (arg26 : BitVec 32) (arg27 : BitVec 1) (v557 : IVec S16 32) (v562 : IVec S16 32) (k1_hw134 : k1_chk134 v288 v313 arg26 arg27 v557 v562), ∀ (k1_h2 : k1_cond2 v288 = 1#1), ∀ (k1_h3 : k1_cond3 v313 = 1#1), ∀ (k1_h4 : k1_cond4 arg26 arg27 = 1#1), ∀ a x, ((![v557, v562] : Fin 2 → IVec S16 32) a x).toNat < S128x8.size a := fun v288 v313 arg26 arg27 v557 v562 k1_hw134 k1_h2 k1_h3 k1_h4 => k1_hw134 k1_h2 k1_h3 k1_h4

def k1_chk135 (v288 : BitVec 32) (v313 : BitVec 32) (arg26 : BitVec 32) (arg27 : BitVec 1) (v557 : IVec S16 32) (v565 : IVec S16 32) : Prop :=
  (∀ (k1_h2 : k1_cond2 v288 = 1#1), ∀ (k1_h3 : k1_cond3 v313 = 1#1), ∀ (k1_h4 : k1_cond4 arg26 arg27 = 1#1), ∀ a x, ((![v557, v565] : Fin 2 → IVec S16 32) a x).toNat < S128x8.size a)
theorem k1_idx133_inb : ∀ (v288 : BitVec 32) (v313 : BitVec 32) (arg26 : BitVec 32) (arg27 : BitVec 1) (v557 : IVec S16 32) (v565 : IVec S16 32) (k1_hw135 : k1_chk135 v288 v313 arg26 arg27 v557 v565), ∀ (k1_h2 : k1_cond2 v288 = 1#1), ∀ (k1_h3 : k1_cond3 v313 = 1#1), ∀ (k1_h4 : k1_cond4 arg26 arg27 = 1#1), ∀ a x, ((![v557, v565] : Fin 2 → IVec S16 32) a x).toNat < S128x8.size a := fun v288 v313 arg26 arg27 v557 v565 k1_hw135 k1_h2 k1_h3 k1_h4 => k1_hw135 k1_h2 k1_h3 k1_h4

def k1_chk136 (v288 : BitVec 32) (v313 : BitVec 32) (arg26 : BitVec 32) (arg27 : BitVec 1) (v557 : IVec S16 32) (v568 : IVec S16 32) : Prop :=
  (∀ (k1_h2 : k1_cond2 v288 = 1#1), ∀ (k1_h3 : k1_cond3 v313 = 1#1), ∀ (k1_h4 : k1_cond4 arg26 arg27 = 1#1), ∀ a x, ((![v557, v568] : Fin 2 → IVec S16 32) a x).toNat < S128x8.size a)
theorem k1_idx134_inb : ∀ (v288 : BitVec 32) (v313 : BitVec 32) (arg26 : BitVec 32) (arg27 : BitVec 1) (v557 : IVec S16 32) (v568 : IVec S16 32) (k1_hw136 : k1_chk136 v288 v313 arg26 arg27 v557 v568), ∀ (k1_h2 : k1_cond2 v288 = 1#1), ∀ (k1_h3 : k1_cond3 v313 = 1#1), ∀ (k1_h4 : k1_cond4 arg26 arg27 = 1#1), ∀ a x, ((![v557, v568] : Fin 2 → IVec S16 32) a x).toNat < S128x8.size a := fun v288 v313 arg26 arg27 v557 v568 k1_hw136 k1_h2 k1_h3 k1_h4 => k1_hw136 k1_h2 k1_h3 k1_h4

def k1_chk137 (v288 : BitVec 32) (v313 : BitVec 32) (arg26 : BitVec 32) (arg27 : BitVec 1) (v557 : IVec S16 32) (v571 : IVec S16 32) : Prop :=
  (∀ (k1_h2 : k1_cond2 v288 = 1#1), ∀ (k1_h3 : k1_cond3 v313 = 1#1), ∀ (k1_h4 : k1_cond4 arg26 arg27 = 1#1), ∀ a x, ((![v557, v571] : Fin 2 → IVec S16 32) a x).toNat < S128x8.size a)
theorem k1_idx135_inb : ∀ (v288 : BitVec 32) (v313 : BitVec 32) (arg26 : BitVec 32) (arg27 : BitVec 1) (v557 : IVec S16 32) (v571 : IVec S16 32) (k1_hw137 : k1_chk137 v288 v313 arg26 arg27 v557 v571), ∀ (k1_h2 : k1_cond2 v288 = 1#1), ∀ (k1_h3 : k1_cond3 v313 = 1#1), ∀ (k1_h4 : k1_cond4 arg26 arg27 = 1#1), ∀ a x, ((![v557, v571] : Fin 2 → IVec S16 32) a x).toNat < S128x8.size a := fun v288 v313 arg26 arg27 v557 v571 k1_hw137 k1_h2 k1_h3 k1_h4 => k1_hw137 k1_h2 k1_h3 k1_h4

def k1_chk138 (v288 : BitVec 32) (v313 : BitVec 32) (arg26 : BitVec 32) (arg27 : BitVec 1) (v557 : IVec S16 32) (v574 : IVec S16 32) : Prop :=
  (∀ (k1_h2 : k1_cond2 v288 = 1#1), ∀ (k1_h3 : k1_cond3 v313 = 1#1), ∀ (k1_h4 : k1_cond4 arg26 arg27 = 1#1), ∀ a x, ((![v557, v574] : Fin 2 → IVec S16 32) a x).toNat < S128x8.size a)
theorem k1_idx136_inb : ∀ (v288 : BitVec 32) (v313 : BitVec 32) (arg26 : BitVec 32) (arg27 : BitVec 1) (v557 : IVec S16 32) (v574 : IVec S16 32) (k1_hw138 : k1_chk138 v288 v313 arg26 arg27 v557 v574), ∀ (k1_h2 : k1_cond2 v288 = 1#1), ∀ (k1_h3 : k1_cond3 v313 = 1#1), ∀ (k1_h4 : k1_cond4 arg26 arg27 = 1#1), ∀ a x, ((![v557, v574] : Fin 2 → IVec S16 32) a x).toNat < S128x8.size a := fun v288 v313 arg26 arg27 v557 v574 k1_hw138 k1_h2 k1_h3 k1_h4 => k1_hw138 k1_h2 k1_h3 k1_h4

def k1_chk139 (v288 : BitVec 32) (v313 : BitVec 32) (arg26 : BitVec 32) (arg27 : BitVec 1) (v557 : IVec S16 32) (v577 : IVec S16 32) : Prop :=
  (∀ (k1_h2 : k1_cond2 v288 = 1#1), ∀ (k1_h3 : k1_cond3 v313 = 1#1), ∀ (k1_h4 : k1_cond4 arg26 arg27 = 1#1), ∀ a x, ((![v557, v577] : Fin 2 → IVec S16 32) a x).toNat < S128x8.size a)
theorem k1_idx137_inb : ∀ (v288 : BitVec 32) (v313 : BitVec 32) (arg26 : BitVec 32) (arg27 : BitVec 1) (v557 : IVec S16 32) (v577 : IVec S16 32) (k1_hw139 : k1_chk139 v288 v313 arg26 arg27 v557 v577), ∀ (k1_h2 : k1_cond2 v288 = 1#1), ∀ (k1_h3 : k1_cond3 v313 = 1#1), ∀ (k1_h4 : k1_cond4 arg26 arg27 = 1#1), ∀ a x, ((![v557, v577] : Fin 2 → IVec S16 32) a x).toNat < S128x8.size a := fun v288 v313 arg26 arg27 v557 v577 k1_hw139 k1_h2 k1_h3 k1_h4 => k1_hw139 k1_h2 k1_h3 k1_h4

def k1_chk140 (v288 : BitVec 32) (v313 : BitVec 32) (arg26 : BitVec 32) (arg27 : BitVec 1) (v557 : IVec S16 32) (v580 : IVec S16 32) : Prop :=
  (∀ (k1_h2 : k1_cond2 v288 = 1#1), ∀ (k1_h3 : k1_cond3 v313 = 1#1), ∀ (k1_h4 : k1_cond4 arg26 arg27 = 1#1), ∀ a x, ((![v557, v580] : Fin 2 → IVec S16 32) a x).toNat < S128x8.size a)
theorem k1_idx138_inb : ∀ (v288 : BitVec 32) (v313 : BitVec 32) (arg26 : BitVec 32) (arg27 : BitVec 1) (v557 : IVec S16 32) (v580 : IVec S16 32) (k1_hw140 : k1_chk140 v288 v313 arg26 arg27 v557 v580), ∀ (k1_h2 : k1_cond2 v288 = 1#1), ∀ (k1_h3 : k1_cond3 v313 = 1#1), ∀ (k1_h4 : k1_cond4 arg26 arg27 = 1#1), ∀ a x, ((![v557, v580] : Fin 2 → IVec S16 32) a x).toNat < S128x8.size a := fun v288 v313 arg26 arg27 v557 v580 k1_hw140 k1_h2 k1_h3 k1_h4 => k1_hw140 k1_h2 k1_h3 k1_h4
@[reducible] def k1_t5_loop : Scf.Loop 32 :=
  let c0_i32_230 : BitVec 32 := 0#32
  let c8_i32_231 : BitVec 32 := 8#32
  let v589 : BitVec 32 := Scalar.addi c0_i32_230 c8_i32_231
  let c1_i32_232 : BitVec 32 := 1#32
  ⟨c0_i32_230, v589, c1_i32_232⟩
def k1_off7 (arg26 : BitVec 32) (arg30 : BitVec 32) : Fin 1 → Nat :=
  let c8_i32_237 : BitVec 32 := 8#32
  let v598 : BitVec 32 := Scalar.muli arg26 c8_i32_237
  let v599 : BitVec 32 := Scalar.subi arg30 v598
  let c16_i32_238 : BitVec 32 := 16#32
  let v600 : BitVec 32 := Scalar.muli v599 c16_i32_238
  let v601 : Index := Scalar.indexCast v600
  ![v601.toNat]
def k1_cond5 (arg26 : BitVec 32) (arg30 : BitVec 32) (arg31 : BitVec 1) : BitVec 1 :=
  let true_235 : BitVec 1 := 1#1
  let v592 : BitVec 1 := Scalar.xori arg31 true_235
  let c1_i32_227 : BitVec 32 := 1#32
  let v587 : BitVec 32 := Scalar.addi arg26 c1_i32_227
  let c8_i32_228 : BitVec 32 := 8#32
  let v588 : BitVec 32 := Scalar.muli v587 c8_i32_228
  let v593 : BitVec 1 := Scalar.cmpi .slt arg30 v588
  let v594 : BitVec 1 := Scalar.andi v592 v593
  let v595 : BitVec 32 := Scalar.extui v594
  let c0_i32_236 : BitVec 32 := 0#32
  let v596 : BitVec 1 := Scalar.cmpi .ne v595 c0_i32_236
  v596

def k1_chk141 (v288 : BitVec 32) (v313 : BitVec 32) (arg26 : BitVec 32) (arg27 : BitVec 1) (arg30 : BitVec 32) (arg31 : BitVec 1) : Prop :=
  (∀ (k1_h2 : k1_cond2 v288 = 1#1), ∀ (k1_h3 : k1_cond3 v313 = 1#1), ∀ (k1_h4 : k1_cond4 arg26 arg27 = 1#1), ∀ (k1_h5 : k1_cond5 arg26 arg30 arg31 = 1#1), ∀ a, (k1_off7 arg26 arg30) a + S16.size a ≤ S128.size a)
theorem k1_off7_inb : ∀ (v288 : BitVec 32) (v313 : BitVec 32) (arg26 : BitVec 32) (arg27 : BitVec 1) (arg30 : BitVec 32) (arg31 : BitVec 1) (k1_hw141 : k1_chk141 v288 v313 arg26 arg27 arg30 arg31), ∀ (k1_h2 : k1_cond2 v288 = 1#1), ∀ (k1_h3 : k1_cond3 v313 = 1#1), ∀ (k1_h4 : k1_cond4 arg26 arg27 = 1#1), ∀ (k1_h5 : k1_cond5 arg26 arg30 arg31 = 1#1), ∀ a, (k1_off7 arg26 arg30) a + S16.size a ≤ S128.size a := fun v288 v313 arg26 arg27 arg30 arg31 k1_hw141 k1_h2 k1_h3 k1_h4 k1_h5 => k1_hw141 k1_h2 k1_h3 k1_h4 k1_h5

def k1_mult1 (v318_2 : BitVec 32) : BitVec 32 :=
  let c_m8_i32 : BitVec 32 := 4294967288#32
  let v321 : BitVec 32 := Scalar.andi v318_2 c_m8_i32
  v321
def k1_cond6 (v318_1 : BitVec 1) : BitVec 1 :=
  let v319 : BitVec 32 := Scalar.extui v318_1
  let c0_i32_127 : BitVec 32 := 0#32
  let v320 : BitVec 1 := Scalar.cmpi .ne v319 c0_i32_127
  v320

def k1_off8 (v318_2 : BitVec 32) : Fin 1 → Nat :=
  let c_m8_i32 : BitVec 32 := 4294967288#32
  let v321 : BitVec 32 := Scalar.andi v318_2 c_m8_i32
  let v322 : BitVec 32 := v321
  ![v322.toNat]

def k1_chk142 (v288 : BitVec 32) (v313 : BitVec 32) (v318_1 : BitVec 1) (v318_2 : BitVec 32) : Prop :=
  (∀ (k1_h2 : k1_cond2 v288 = 1#1), ∀ (k1_h3 : k1_cond3 v313 = 1#1), ∀ (k1_h6 : k1_cond6 v318_1 = 1#1), 8 ∣ (k1_mult1 v318_2).toNat) ∧
  (∀ (k1_h2 : k1_cond2 v288 = 1#1), ∀ (k1_h3 : k1_cond3 v313 = 1#1), ∀ (k1_h6 : k1_cond6 v318_1 = 1#1), ∀ a, (k1_off8 v318_2) a + S16.size a ≤ S9216.size a)
theorem k1_mult1_dvd : ∀ (v288 : BitVec 32) (v313 : BitVec 32) (v318_1 : BitVec 1) (v318_2 : BitVec 32) (k1_hw142 : k1_chk142 v288 v313 v318_1 v318_2), ∀ (k1_h2 : k1_cond2 v288 = 1#1), ∀ (k1_h3 : k1_cond3 v313 = 1#1), ∀ (k1_h6 : k1_cond6 v318_1 = 1#1), 8 ∣ (k1_mult1 v318_2).toNat := fun v288 v313 v318_1 v318_2 k1_hw142 k1_h2 k1_h3 k1_h6 => k1_hw142.1 k1_h2 k1_h3 k1_h6
theorem k1_off8_inb : ∀ (v288 : BitVec 32) (v313 : BitVec 32) (v318_1 : BitVec 1) (v318_2 : BitVec 32) (k1_hw142 : k1_chk142 v288 v313 v318_1 v318_2), ∀ (k1_h2 : k1_cond2 v288 = 1#1), ∀ (k1_h3 : k1_cond3 v313 = 1#1), ∀ (k1_h6 : k1_cond6 v318_1 = 1#1), ∀ a, (k1_off8 v318_2) a + S16.size a ≤ S9216.size a := fun v288 v313 v318_1 v318_2 k1_hw142 k1_h2 k1_h3 k1_h6 => k1_hw142.2 k1_h2 k1_h3 k1_h6

def k1_chk143 (v288 : BitVec 32) (v313 : BitVec 32) (v318_1 : BitVec 1) (v328 : IVec S16 32) : Prop :=
  (∀ (k1_h2 : k1_cond2 v288 = 1#1), ∀ (k1_h3 : k1_cond3 v313 = 1#1), ∀ (k1_h6 : k1_cond6 v318_1 = 1#1), ∀ a x, ((![v328] : Fin 1 → IVec S16 32) a x).toNat < S16.size a)
theorem k1_idx139_inb : ∀ (v288 : BitVec 32) (v313 : BitVec 32) (v318_1 : BitVec 1) (v328 : IVec S16 32) (k1_hw143 : k1_chk143 v288 v313 v318_1 v328), ∀ (k1_h2 : k1_cond2 v288 = 1#1), ∀ (k1_h3 : k1_cond3 v313 = 1#1), ∀ (k1_h6 : k1_cond6 v318_1 = 1#1), ∀ a x, ((![v328] : Fin 1 → IVec S16 32) a x).toNat < S16.size a := fun v288 v313 v318_1 v328 k1_hw143 k1_h2 k1_h3 k1_h6 => k1_hw143 k1_h2 k1_h3 k1_h6

def k1_chk144 (v288 : BitVec 32) (v313 : BitVec 32) (v318_1 : BitVec 1) (v332 : IVec S16 32) : Prop :=
  (∀ (k1_h2 : k1_cond2 v288 = 1#1), ∀ (k1_h3 : k1_cond3 v313 = 1#1), ∀ (k1_h6 : k1_cond6 v318_1 = 1#1), ∀ a x, ((![v332] : Fin 1 → IVec S16 32) a x).toNat < S128.size a)
theorem k1_idx140_inb : ∀ (v288 : BitVec 32) (v313 : BitVec 32) (v318_1 : BitVec 1) (v332 : IVec S16 32) (k1_hw144 : k1_chk144 v288 v313 v318_1 v332), ∀ (k1_h2 : k1_cond2 v288 = 1#1), ∀ (k1_h3 : k1_cond3 v313 = 1#1), ∀ (k1_h6 : k1_cond6 v318_1 = 1#1), ∀ a x, ((![v332] : Fin 1 → IVec S16 32) a x).toNat < S128.size a := fun v288 v313 v318_1 v332 k1_hw144 k1_h2 k1_h3 k1_h6 => k1_hw144 k1_h2 k1_h3 k1_h6
def k1_off9 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10x8 : Shape := ⟨2, ![10, 8]⟩
abbrev S1x8192x8 : Shape := ⟨3, ![1, 8192, 8]⟩
abbrev S1x8192 : Shape := ⟨2, ![1, 8192]⟩
abbrev S4096x8192 : Shape := ⟨2, ![4096, 8192]⟩
abbrev S1 : Shape := ⟨1, ![1]⟩
abbrev S_ : Shape := ⟨0, ![]⟩
abbrev S10 : Shape := ⟨1, ![10]⟩
abbrev S4096 : Shape := ⟨1, ![4096]⟩
abbrev S4096x1 : Shape := ⟨2, ![4096, 1]⟩

abbrev nBuf : Space → Nat
  | .hbm => 77
  | .vmem => 0
  | .smem => 0
  | _ => 0

abbrev bufTy : (tb : Table) → Fin (tcTables nBuf tb) → BufTy
  | .hbm, ⟨0, _⟩ => ⟨S10x8, .f32⟩
  | .hbm, ⟨1, _⟩ => ⟨S1x8192x8, .f32⟩
  | .hbm, ⟨2, _⟩ => ⟨S1x8192, .f32⟩
  | .hbm, ⟨3, _⟩ => ⟨S4096x8192, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S10, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x8192, .f32⟩
  | .hbm, ⟨21, _⟩ => ⟨S1x8192, .f32⟩
  | .hbm, ⟨22, _⟩ => ⟨S_, .f32⟩
  | .hbm, ⟨23, _⟩ => ⟨S1x8192, .f32⟩
  | .hbm, ⟨24, _⟩ => ⟨S1x8192, .f32⟩
  | .hbm, ⟨25, _⟩ => ⟨S1x8192, .f32⟩
  | .hbm, ⟨26, _⟩ => ⟨S1x8192, .f32⟩
  | .hbm, ⟨27, _⟩ => ⟨S1x8192, .f32⟩
  | .hbm, ⟨28, _⟩ => ⟨S1x8192, .f32⟩
  | .hbm, ⟨29, _⟩ => ⟨S1x8192, .f32⟩
  | .hbm, ⟨30, _⟩ => ⟨S_, .f32⟩
  | .hbm, ⟨31, _⟩ => ⟨S_, .f32⟩
  | .hbm, ⟨32, _⟩ => ⟨S1x8192, .f32⟩
  | .hbm, ⟨33, _⟩ => ⟨S1x8192, .f32⟩
  | .hbm, ⟨34, _⟩ => ⟨S1x8192, .f32⟩
  | .hbm, ⟨35, _⟩ => ⟨S_, .f32⟩
  | .hbm, ⟨36, _⟩ => ⟨S1x8192, .f32⟩
  | .hbm, ⟨37, _⟩ => ⟨S1x8192, .f32⟩
  | .hbm, ⟨38, _⟩ => ⟨S1x8192, .f32⟩
  | .hbm, ⟨39, _⟩ => ⟨S4096x8192, .f32⟩
  | .hbm, ⟨40, _⟩ => ⟨S4096x8192, .f32⟩
  | .hbm, ⟨41, _⟩ => ⟨S4096x8192, .f32⟩
  | .hbm, ⟨42, _⟩ => ⟨S4096x8192, .f32⟩
  | .hbm, ⟨43, _⟩ => ⟨S4096x8192, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .i1⟩
  | .hbm, ⟨49, _⟩ => ⟨S_, .f32⟩
  | .hbm, ⟨50, _⟩ => ⟨S4096x8192, .f32⟩
  | .hbm, ⟨51, _⟩ => ⟨S4096x8192, .i1⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096x8192, .f32⟩
  | .hbm, ⟨57, _⟩ => ⟨S4096x8192, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S4096, .f32⟩
  | .hbm, ⟨68, _⟩ => ⟨S4096, .i1⟩
  | .hbm, ⟨69, _⟩ => ⟨S4096x1, .f32⟩
  | .hbm, ⟨70, _⟩ => ⟨S4096, .f32⟩
  | .hbm, ⟨71, _⟩ => ⟨S4096, .f32⟩
  | .hbm, ⟨72, _⟩ => ⟨S4096, .i1⟩
  | .hbm, ⟨73, _⟩ => ⟨S4096, .i1⟩
  | .hbm, ⟨74, _⟩ => ⟨S4096x1, .f32⟩
  | .hbm, ⟨75, _⟩ => ⟨S4096, .f32⟩
  | .hbm, ⟨76, _⟩ => ⟨S4096, .f32⟩
  | _, _ => ⟨S10x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_call0_cst : Ref sig .tc := ⟨.hbm, 30, rfl⟩
abbrev main_call1_call0_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_call2_v0 : Ref sig .tc := ⟨.hbm, 56, rfl⟩
abbrev main_v31 : Ref sig .tc := ⟨.hbm, 57, rfl⟩
abbrev main_cst_10 : Ref sig .tc := ⟨.hbm, 58, rfl⟩
abbrev main_v32 : Ref sig .tc := ⟨.hbm, 59, rfl⟩
abbrev main_v33 : Ref sig .tc := ⟨.hbm, 60, rfl⟩
abbrev main_cst_11 : Ref sig .tc := ⟨.hbm, 61, rfl⟩
abbrev main_v34 : Ref sig .tc := ⟨.hbm, 62, rfl⟩
abbrev main_cst_12 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩

abbrev nD : Nat := 1
abbrev τ : Topo := Topo.v7x

variable {F : FTy → Type} [FloatOps F]
-- ==== Proof.Model.lean ====
/-
  What one run of the sampler's tile kernel computes, for any float values: the times `t` with the fallback time and the
  acceptance factor behind them, the intensities `a` eight to a time step, the uniform numbers `u` row by row.
-/
module

public import proofs.«01_k».proof.KernelIdeal
public import Idealize.ShloMosaic.Lib.Pointwise.Index

@[expose] public section

noncomputable section

namespace Cert.Proof

open Idealize.ShloMosaic Cert.KernelIdeal

variable {F : FTy → Type} [FloatOps F]

/-- The contents of the table of times, of the table of intensities and of the table of uniform numbers. -/
abbrev TT (F : FTy → Type) : Type := S9216.Idx → F .f32
/-- The intensities at the steps. -/
abbrev TA (F : FTy → Type) : Type := S1x8192x8.Idx → F .f32
/-- The uniform numbers. -/
abbrev TU (F : FTy → Type) : Type := S4096x8192.Idx → F .f32

/-- The intensity of event `k` at time step `j`. -/
def inten (a : TA F) (j : Fin 8192) (k : Fin 8) : F .f32 :=
  a (ix3 (n0 := 1) (n1 := 8192) (n2 := 8) 0 j k)

/-- The sum of eight numbers, taken from the left over zero. -/
def sum8 (f : Fin 8 → F .f32) : F .f32 :=
  FloatOps.addf (FloatOps.addf (FloatOps.addf (FloatOps.addf (FloatOps.addf (FloatOps.addf (FloatOps.addf (FloatOps.addf
    (FloatOps.ofBits (F := F) .f32 0x00000000#32) (f 0)) (f 1)) (f 2)) (f 3)) (f 4)) (f 5)) (f 6)) (f 7)

/-- The acceptance threshold of time step `j`. -/
def thr (t : TT F) (a : TA F) (j : Fin 8192) : F .f32 :=
  FloatOps.mulf (sum8 (inten a j)) (t (ix1 (n0 := 9216) ⟨8320, by omega⟩))

/-- Sample `n` accepts time step `j`. -/
def Hit (t : TT F) (a : TA F) (u : TU F) (n : Fin 4096) (j : ℕ) : Prop :=
  ∃ h : j < 8192, FloatOps.cmpf .olt (u (ix2 (n0 := 4096) (n1 := 8192) n ⟨j, h⟩)) (thr t a ⟨j, h⟩) = 1#1

open Classical in
/-- The time sample `n` ends with: of its first accepted step, or the fallback when it accepts none. -/
def pick (t : TT F) (a : TA F) (u : TU F) (n : Fin 4096) : F .f32 :=
  if h : ∃ j, Hit t a u n j then t (ix1 (n0 := 9216) ⟨Nat.find h, by obtain ⟨h', _⟩ := Nat.find_spec h; omega⟩)
  else t (ix1 (n0 := 9216) ⟨8192, by omega⟩)

/-- The first result, from the three tables. -/
def rstOf (t : TT F) (a : TA F) (u : TU F) : S4096.Idx → F .f32 := fun n => pick t a u (n 0)

/-- The second result: the same weight for every sample. -/
def wOf : S4096.Idx → F .f32 := fun _ => FloatOps.ofBits (F := F) .f32 0x39800000#32

end Cert.Proof

end
-- ==== Proof.Setup.lean ====
/-
  The program as its launch sees it: the SparseCore call's configuration, the ghost state of its handshakes, the buffers
  and the shares of them the tiles hold.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Model

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the host program over the TensorCore call's pipeline. -/
abbrev ΛP : Labels := Pipeline.Sig Λ₀ (Fin 1) fun p => (pcfgs (F := F) p).Adm
/-- The SparseCore call. -/
abbrev K : SparseCore.Cfg τ sig (ΛP (F := F)) 1 := sc (F := F)
/-- The bodies of the TensorCore's calls. -/
abbrev D [FloatOps F] : Defs nD τ sig (Elt F) (ΛP (F := F)) := Pipeline.defs pcfgs defs₀
/-- No loop needs a variant. -/
abbrev 𝒱₀ : Variants := Variants.none
/-- The same, with the SparseCore's threads. -/
abbrev 𝒱 : Variants := 𝒱₀.lift
/-- The variant of every thread. -/
abbrev v₀ : 𝒱.V := Sum.inl none

/-- The side conditions of the launch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, then the counters of the tiles' transfers beside the TensorCore call's rounds. -/
abbrev UH : Type := URounds (GSem nD τ sig) ℕ
/-- What the pipeline counts in. -/
abbrev UP : Type := URounds (GSem nD τ sig) Unit
/-- The ghost state: the handshakes', the pipeline's and the copies' counts. -/
abbrev UU : Type := UH × (UP × Counters)

/-- The resources of a launch. -/
abbrev MM (F : FTy → Type) : Type := MT nD τ sig (HIx 1) (Elt F) ℕ UU ℕ

/-- Where the handshakes' counts lie. -/
abbrev EH : Emb UH (MT nD τ sig (HIx 1) (Elt F) ℕ UU ℕ) := embL

end Cert.Proof

end
-- ==== Proof.Vec.lean ====
/-
  Facts about lane vectors and words: the first column at which a condition holds, followed one column at a time, the
  count of set lanes, and the first set lane.
-/
module

public import proofs.«01_k».proof.Proof.Setup

@[expose] public section

set_option maxRecDepth 16384

noncomputable section

namespace Cert.Proof

open Cert.KernelIdeal Cert.KernelIdeal.Gen
open Idealize.ShloMosaic

/-- What a lane knows after the columns below `m`: the first of them at which `P` holds, or that it holds at none. -/
def Found (P : ℕ → Prop) (m : ℕ) (d : BitVec 1) (c : BitVec 32) : Prop :=
  (d = 1#1 ∧ ∃ j < m, P j ∧ (∀ i < j, ¬ P i) ∧ c = BitVec.ofNat 32 j) ∨ (d = 0#1 ∧ c = 0#32 ∧ ∀ j < m, ¬ P j)

/-- A bit is one or zero. -/
theorem bit_cases (b : BitVec 1) : b = 1#1 ∨ b = 0#1 := by
  revert b; decide

/-- Words that compare equal are equal. -/
theorem cmpi_eq_one {w : ℕ} {a b : BitVec w} (h : IntOp.cmpi .eq a b = 1#1) : a = b := by
  by_contra hne
  have : IntOp.cmpi .eq a b = 0#1 := by
    show BitVec.ofBool (a == b) = _
    rw [beq_false_of_ne hne]; rfl
  rw [this] at h
  exact absurd h (by decide)

/-- Before any column the lane knows nothing. -/
theorem Found.zero (P : ℕ → Prop) : Found P 0 0#1 0#32 :=
  Or.inr ⟨rfl, rfl, fun _ h => absurd h (Nat.not_lt_zero _)⟩

/-- One more column. -/
theorem Found.step {P : ℕ → Prop} {m : ℕ} {d b : BitVec 1} {c e : BitVec 32} (h : Found P m d c) (hb : b = 1#1 ↔ P m)
    (he : e = BitVec.ofNat 32 m) : Found P (m + 1) (d ||| b) (Scalar.select (b &&& (d ^^^ 1#1)) e c) := by
  subst he
  rcases h with ⟨rfl, j, hj, hp, hn, rfl⟩ | ⟨rfl, rfl, hn⟩
  · left
    rcases bit_cases b with rfl | rfl
    · exact ⟨rfl, j, by omega, hp, hn, rfl⟩
    · exact ⟨rfl, j, by omega, hp, hn, rfl⟩
  · rcases bit_cases b with rfl | rfl
    · exact Or.inl ⟨rfl, m, by omega, hb.1 rfl, hn, rfl⟩
    · refine Or.inr ⟨rfl, rfl, fun j hj => ?_⟩
      rcases Nat.lt_succ_iff_lt_or_eq.1 hj with h | rfl
      · exact hn j h
      · exact fun hp => absurd (hb.2 hp) (by decide)

/-- A lane that is done stays as it is over further columns. -/
theorem Found.mono {P : ℕ → Prop} {m n : ℕ} {d : BitVec 1} {c : BitVec 32} (h : Found P m d c) (hd : d = 1#1) (hmn : m ≤ n) :
    Found P n d c := by
  rcases h with ⟨rfl, j, hj, r⟩ | ⟨rfl, -, -⟩
  · exact Or.inl ⟨rfl, j, by omega, r⟩
  · exact absurd hd (by decide)

/-- A column that the search holds is below those it has looked at. -/
theorem Found.col_lt {P : ℕ → Prop} {m : ℕ} {d : BitVec 1} {c : BitVec 32} (h : Found P m d c) (hm : 0 < m)
    (hm' : m ≤ 128) : c.toNat < m := by
  rcases h with ⟨-, j, hj, -, -, rfl⟩ | ⟨-, rfl, -⟩
  · rw [BitVec.toNat_ofNat]; omega
  · simpa using hm

/-- The lanes of one register, in order. -/
theorem lanes16 : ((List.finRange 16).filter fun k => decide (0 < k.val ∧ k.val ≤ 15)) =
    [1, 2, 3, 4, 5, 6, 7, 8, 9, 10, 11, 12, 13, 14, 15] := by decide

/-- What holds of each of sixteen lanes holds of all. -/
theorem forall16 {P : Fin 16 → Prop} (h0 : P 0) (h1 : P 1) (h2 : P 2) (h3 : P 3) (h4 : P 4) (h5 : P 5) (h6 : P 6)
    (h7 : P 7) (h8 : P 8) (h9 : P 9) (h10 : P 10) (h11 : P 11) (h12 : P 12) (h13 : P 13) (h14 : P 14) (h15 : P 15) :
    ∀ k, P k := by
  intro k
  fin_cases k <;> assumption

/-- The sum of sixteen bits is at most sixteen, and sixteen only when all are set. -/
theorem sum_bits (w : Fin 16 → BitVec 32) (hw : ∀ k, (w k).toNat ≤ 1) :
    ((([1, 2, 3, 4, 5, 6, 7, 8, 9, 10, 11, 12, 13, 14, 15] : List (Fin 16)).foldl (fun r k => r + w k) (w 0)).toNat ≤ 16) ∧
    ((([1, 2, 3, 4, 5, 6, 7, 8, 9, 10, 11, 12, 13, 14, 15] : List (Fin 16)).foldl (fun r k => r + w k) (w 0)).toNat = 16
      ↔ ∀ k, (w k).toNat = 1) := by
  have h0 := hw 0; have h1 := hw 1; have h2 := hw 2; have h3 := hw 3; have h4 := hw 4; have h5 := hw 5
  have h6 := hw 6; have h7 := hw 7; have h8 := hw 8; have h9 := hw 9; have h10 := hw 10; have h11 := hw 11
  have h12 := hw 12; have h13 := hw 13; have h14 := hw 14; have h15 := hw 15
  have e : (([1, 2, 3, 4, 5, 6, 7, 8, 9, 10, 11, 12, 13, 14, 15] : List (Fin 16)).foldl (fun r k => r + w k) (w 0)).toNat
      = (w 0).toNat + (w 1).toNat + (w 2).toNat + (w 3).toNat + (w 4).toNat + (w 5).toNat + (w 6).toNat + (w 7).toNat
        + (w 8).toNat + (w 9).toNat + (w 10).toNat + (w 11).toNat + (w 12).toNat + (w 13).toNat + (w 14).toNat + (w 15).toNat := by
    simp only [List.foldl_cons, List.foldl_nil, BitVec.toNat_add]
    omega
  rw [e]
  refine ⟨by omega, ⟨fun h => ?_, fun h => ?_⟩⟩
  · exact forall16 (by omega) (by omega) (by omega) (by omega) (by omega) (by omega) (by omega) (by omega) (by omega)
      (by omega) (by omega) (by omega) (by omega) (by omega) (by omega) (by omega)
  · rw [h 0, h 1, h 2, h 3, h 4, h 5, h 6, h 7, h 8, h 9, h 10, h 11, h 12, h 13, h 14, h 15]

/-- A bit made wider counts as zero or one. -/
theorem bit_wide (b : BitVec 1) : ((b.setWidth 32).toNat ≤ 1) ∧ ((b.setWidth 32).toNat = 1 ↔ b = 1#1) := by
  rcases bit_cases b with rfl | rfl <;> decide

/-- An index of a register is its lane. -/
theorem ofLane_eq (x : S16.Idx) : (Shape.ofLane (d := S16.size) (x 0) : S16.Idx) = x := by
  funext a
  obtain rfl : a = 0 := Fin.eq_zero a
  rfl

/-- The number of set lanes of a mask, as the kernel counts them. -/
theorem count_lanes (v : IVec S16 1) :
    (extractAt ![15] (scan .sum (extui 32 v natLt_1_32)) inpos_S16_p15).toNat ≤ 16 ∧
    ((extractAt ![15] (scan .sum (extui 32 v natLt_1_32)) inpos_S16_p15) = 16#32 ↔ ∀ x, v x = 1#1) := by
  have key : extractAt ![15] (scan .sum (extui 32 v natLt_1_32)) inpos_S16_p15 =
      ([1, 2, 3, 4, 5, 6, 7, 8, 9, 10, 11, 12, 13, 14, 15] : List (Fin 16)).foldl
        (fun r k => r + (fun k : Fin 16 => (v (Shape.ofLane (d := S16.size) k)).setWidth 32) k)
        ((fun k : Fin 16 => (v (Shape.ofLane (d := S16.size) k)).setWidth 32) 0) := by
    rw [← lanes16]; rfl
  rw [key]
  have := sum_bits (fun k : Fin 16 => (v (Shape.ofLane (d := S16.size) k)).setWidth 32) (fun k => (bit_wide _).1)
  refine ⟨this.1, ?_⟩
  rw [← BitVec.toNat_inj, show (16#32 : BitVec 32).toNat = 16 from rfl, this.2]
  refine ⟨fun h x => ?_, fun h k => (bit_wide _).2.2 (h _)⟩
  have := (bit_wide _).2.1 (h (x 0))
  rwa [ofLane_eq] at this

/-- A running minimum is one of its words, and no word is below it. -/
theorem min_fold {α : Type} (w : α → BitVec 32) (l : List α) (r : BitVec 32) :
    (l.foldl (fun r k => if r.ult (w k) then r else w k) r = r ∨
      ∃ k ∈ l, l.foldl (fun r k => if r.ult (w k) then r else w k) r = w k) ∧
    (l.foldl (fun r k => if r.ult (w k) then r else w k) r).toNat ≤ r.toNat ∧
    ∀ k ∈ l, (l.foldl (fun r k => if r.ult (w k) then r else w k) r).toNat ≤ (w k).toNat := by
  induction l generalizing r with
  | nil => simp
  | cons a l ih =>
    rw [List.foldl_cons]
    obtain ⟨h1, h2, h3⟩ := ih (if r.ult (w a) then r else w a)
    have hm : (if r.ult (w a) then r else w a).toNat ≤ r.toNat ∧ (if r.ult (w a) then r else w a).toNat ≤ (w a).toNat := by
      by_cases h : r.ult (w a)
      · rw [if_pos h]; rw [BitVec.ult, decide_eq_true_iff] at h; omega
      · rw [if_neg h]; rw [BitVec.ult, decide_eq_true_iff] at h; omega
    refine ⟨?_, h2.trans hm.1, fun k hk => ?_⟩
    · rcases h1 with h1 | ⟨k, hk, h1⟩
      · rw [h1]
        by_cases h : r.ult (w a)
        · rw [if_pos h]; exact Or.inl rfl
        · rw [if_neg h]; exact Or.inr ⟨a, List.mem_cons_self, rfl⟩
      · exact Or.inr ⟨k, List.mem_cons_of_mem _ hk, h1⟩
    · rcases List.mem_cons.1 hk with rfl | hk
      · exact h2.trans hm.2
      · exact h3 k hk

/-- A small word with its top bit turned over, and turned back. -/
theorem flip_small (n : Fin 17) : (BitVec.ofNat 32 n.val ^^^ 2147483648#32).toNat = n.val + 2147483648 ∧
    (BitVec.ofNat 32 n.val ^^^ 2147483648#32) ^^^ 2147483648#32 = BitVec.ofNat 32 n.val := by
  revert n; decide

/-- The first set lane of a mask, or sixteen, as the kernel finds it: a minimum over the lanes' numbers. -/
theorem first_lane (f : Fin 16 → BitVec 32) (b : Fin 16 → Prop) [DecidablePred b]
    (hf : ∀ k, f k = if b k then BitVec.ofNat 32 k.val else 16#32) :
    ∃ n : ℕ, n ≤ 16 ∧ (([1, 2, 3, 4, 5, 6, 7, 8, 9, 10, 11, 12, 13, 14, 15] : List (Fin 16)).foldl
        (fun r k => IntOp.minui r (f k ^^^ 2147483648#32)) (f 0 ^^^ 2147483648#32)) ^^^ 2147483648#32 = BitVec.ofNat 32 n ∧
      (∀ h : n < 16, b ⟨n, h⟩) ∧ ∀ k : Fin 16, k.val < n → ¬ b k := by
  have hl : ∀ k : Fin 16, k = 0 ∨ k ∈ ([1, 2, 3, 4, 5, 6, 7, 8, 9, 10, 11, 12, 13, 14, 15] : List (Fin 16)) := by decide
  have hv : ∀ k, ∃ n : Fin 17, f k = BitVec.ofNat 32 n.val ∧ (∀ h : n.val < 16, n.val = k.val ∧ b k) ∧ (b k → n.val = k.val) := by
    intro k
    by_cases h : b k
    · exact ⟨⟨k.val, by omega⟩, by rw [hf, if_pos h], fun _ => ⟨rfl, h⟩, fun _ => rfl⟩
    · exact ⟨16, by rw [hf, if_neg h]; rfl, fun h' => absurd h' (by decide), fun h' => absurd h' h⟩
  obtain ⟨h1, h2, h3⟩ := min_fold (fun k : Fin 16 => f k ^^^ 2147483648#32)
    [1, 2, 3, 4, 5, 6, 7, 8, 9, 10, 11, 12, 13, 14, 15] (f 0 ^^^ 2147483648#32)
  obtain ⟨k, hk⟩ : ∃ k : Fin 16, (([1, 2, 3, 4, 5, 6, 7, 8, 9, 10, 11, 12, 13, 14, 15] : List (Fin 16)).foldl
        (fun r k => IntOp.minui r (f k ^^^ 2147483648#32)) (f 0 ^^^ 2147483648#32)) = f k ^^^ 2147483648#32 := by
    rcases h1 with h1 | ⟨k, -, h1⟩
    · exact ⟨0, h1⟩
    · exact ⟨k, h1⟩
  have hle : ∀ j : Fin 16, (f k ^^^ 2147483648#32).toNat ≤ (f j ^^^ 2147483648#32).toNat := by
    intro j
    rw [← hk]
    rcases hl j with rfl | hj
    · exact h2
    · exact h3 j hj
  obtain ⟨n, hn, hn1, hn2⟩ := hv k
  refine ⟨n.val, by omega, ?_, ?_, ?_⟩
  · rw [hk, hn, (flip_small n).2]
  · intro h
    obtain ⟨e, hb⟩ := hn1 h
    have : (⟨n.val, h⟩ : Fin 16) = k := Fin.ext e
    rw [this]; exact hb
  · intro j hj hb
    obtain ⟨m, hm, hm1, hm2⟩ := hv j
    have := hle j
    rw [hn, hm, (flip_small n).1, (flip_small m).1] at this
    have := hm2 hb
    omega

end Cert.Proof

end
-- ==== Proof.T2Pure.lean ====
/-
  The columns a group of sixteen rows has looked at: which lane has found its first accepted column.
-/
module

public import proofs.«01_k».proof.Proof.Vec

@[expose] public section

set_option maxRecDepth 16384

noncomputable section

namespace Cert.Proof

open Cert.KernelIdeal Cert.KernelIdeal.Gen
open Idealize.ShloMosaic

variable {F : FTy → Type} [FloatOps F]

/-- The thresholds of the first chunk. -/
abbrev thV : Memref sig .scVector .vmem S144 .f32 := Memref.whole cc1_scratch0
/-- A tile's copy of its rows' uniform numbers at the first chunk. -/
abbrev ubV : Memref sig .scVector .vmem S128x128 .f32 := Memref.whole cc1_scratch2

/-- Row `r` of the first block accepts column `j`. -/
def HitB (gh : S144.Idx → F .f32) (gu : S128x128.Idx → F .f32) (r : ℕ) (j : ℕ) : Prop :=
  ∃ (hr : r < 128) (hj : j < 128), FloatOps.cmpf .olt (gu (ix2 (n0 := 128) (n1 := 128) ⟨r, hr⟩ ⟨j, hj⟩))
    (gh (ix1 (n0 := 144) ⟨j, by omega⟩)) = 1#1

/-- What holds before trip `k` of the inner loop of group `g`. -/
def Inv2 (gh : S144.Idx → F .f32) (gu : S128x128.Idx → F .f32) (g k : ℕ) (cc : BitVec 32) (fl : BitVec 1)
    (dn : IVec S16 1) (cs : IVec S16 32) : Prop :=
  ∃ m ≤ 16, cc = BitVec.ofNat 32 (8 * m) ∧ (fl = 0#1 → m = k) ∧ (fl = 1#1 → ∀ x, dn x = 1#1) ∧
    ∀ x : S16.Idx, Found (HitB gh gu (16 * g + (x 0).val)) (8 * m) (dn x) (cs x)

/-- The lanes' numbers. -/
abbrev lanes : IVec S16 32 := iota .scVector S16 32 [0] iota_S16_d0_w32_scVector

/-- There are eight groups. -/
theorem group_lt (g : Fin k1_t1_loop.trips) : g.val < 8 := g.isLt.trans_eq (by decide)

/-- A lane's row. -/
theorem rows_toNat (g : Fin k1_t1_loop.trips) (x : S16.Idx) : (k1_pay67 lanes g x).toNat = 16 * g.val + (x 0).val := by
  have hg := group_lt g
  have hx : (x 0).val < 16 := (x 0).isLt
  show ((0#32 + BitVec.ofNat 32 g.val * 1#32) * 16#32 + BitVec.ofNat 32 (0 * 16 + (x 0).val)).toNat = _
  simp only [BitVec.toNat_add, BitVec.toNat_mul, BitVec.toNat_ofNat]
  omega

/-- A column's number, as a word. -/
theorem col_toNat (m s : ℕ) (hm : m < 16) (hs : s < 8) : (BitVec.ofNat 32 (8 * m) + BitVec.ofNat 32 s).toNat = 8 * m + s := by
  simp only [BitVec.toNat_add, BitVec.toNat_ofNat]; omega

/-- The loop over the columns goes on only below its end. -/
theorem cond1_lt {m : ℕ} (hm : m ≤ 16) {fl : BitVec 1} (h : k1_cond1 (BitVec.ofNat 32 (8 * m)) fl = 1#1) : m < 16 := by
  revert fl
  interval_cases m <;> decide

/-- The loop over the columns stops when every lane is done or at its end. -/
theorem cond1_not {m : ℕ} (hm : m ≤ 16) {fl : BitVec 1} (h : ¬ k1_cond1 (BitVec.ofNat 32 (8 * m)) fl = 1#1) :
    fl = 1#1 ∨ m = 16 := by
  revert fl
  interval_cases m <;> decide

/-- The sixteen thresholds that a trip reads are there. -/
theorem chk_row {m : ℕ} (hm : m ≤ 16) (fl : BitVec 1) : k1_chk65 (BitVec.ofNat 32 (8 * m)) fl := by
  intro h a
  have := cond1_lt hm h
  obtain rfl : a = 0 := Fin.eq_zero a
  show (BitVec.ofNat 32 (8 * m)).toNat + 16 ≤ 144
  rw [BitVec.toNat_ofNat]; omega

/-- The uniform numbers that a trip gathers are there. -/
theorem chk_col {m : ℕ} (hm : m ≤ 16) (fl : BitVec 1) (g : Fin k1_t1_loop.trips) (s : ℕ) (hs : s < 8) :
    ∀ (k1_h1 : k1_cond1 (BitVec.ofNat 32 (8 * m)) fl = 1#1), ∀ a x,
      ((![k1_pay67 lanes g, broadcast S16 (Scalar.addi (BitVec.ofNat 32 (8 * m)) (BitVec.ofNat 32 s))] : Fin 2 → IVec S16 32) a x).toNat < S128x128.size a := by
  intro h a x
  have hm' := cond1_lt hm h
  have hg := group_lt g
  have hx : (x 0).val < 16 := (x 0).isLt
  match a with
  | 0 =>
    show (k1_pay67 lanes g x).toNat < 128
    rw [rows_toNat]; omega
  | 1 =>
    show (BitVec.ofNat 32 (8 * m) + BitVec.ofNat 32 s).toNat < 128
    rw [col_toNat m s hm' hs]; omega

/-- The sum of two small words. -/
theorem col_word (m s : ℕ) : Scalar.addi (BitVec.ofNat 32 (8 * m)) (BitVec.ofNat 32 s) = BitVec.ofNat 32 (8 * m + s) :=
  (BitVec.ofNat_add _ _).symm

/-- A lane taken out of a register. -/
theorem ext_lane {α : Type} (v : S16.Idx → α) (k : Fin 16) (h : S16.Slices ![k.val] S1) :
    extractAt ![0] (extractStridedSlice S1 ![k.val] v h) inpos_S1_p0 = v (ix1 (n0 := 16) k) := by
  show v _ = v _
  congr 1
  funext a
  obtain rfl : a = 0 := Fin.eq_zero a
  exact Fin.ext rfl

/-- Eight columns in a row. -/
theorem t2_pure (P : S16.Idx → ℕ → Prop) (m : ℕ) (v u0 u1 u2 u3 u4 u5 u6 u7 : Vec F S16 .f32) (dn : IVec S16 1) (cs : IVec S16 32)
    (h0 : ∀ x, k1_pay1 v u0 x = 1#1 ↔ P x (8 * m + 0))
    (h1 : ∀ x, k1_pay3 v u1 x = 1#1 ↔ P x (8 * m + 1))
    (h2 : ∀ x, k1_pay5 v u2 x = 1#1 ↔ P x (8 * m + 2))
    (h3 : ∀ x, k1_pay8 v u3 x = 1#1 ↔ P x (8 * m + 3))
    (h4 : ∀ x, k1_pay12 v u4 x = 1#1 ↔ P x (8 * m + 4))
    (h5 : ∀ x, k1_pay14 v u5 x = 1#1 ↔ P x (8 * m + 5))
    (h6 : ∀ x, k1_pay16 v u6 x = 1#1 ↔ P x (8 * m + 6))
    (h7 : ∀ x, k1_pay19 v u7 x = 1#1 ↔ P x (8 * m + 7))
    (hF : ∀ x, Found (P x) (8 * m) (dn x) (cs x)) (x : S16.Idx) :
    Found (P x) (8 * m + 8)
      (k1_pay71 (k1_pay18 v (k1_pay7 dn v u0 u1 u2) (k1_pay8 v u3) u4 u5 u6) (k1_pay19 v u7) x)
      (k1_pay70 (k1_pay17 (BitVec.ofNat 32 (8 * m)) v (k1_pay6 (BitVec.ofNat 32 (8 * m)) dn cs v u0 u1 u2) (k1_pay7 dn v u0 u1 u2) (k1_pay8 v u3)
        (k1_pay9 dn v u0 u1 u2 u3) (k1_pay10 (BitVec.ofNat 32 (8 * m))) u4 u5 u6)
        (k1_pay20 v (k1_pay7 dn v u0 u1 u2) (k1_pay8 v u3) u4 u5 u6 u7) (k1_pay21 (BitVec.ofNat 32 (8 * m))) x) := by
  have key := ((((((((hF x).step (h0 x) (col_word m 0)).step (h1 x) (col_word m 1)).step (h2 x) (col_word m 2)).step (h3 x) (col_word m 3)).step
    (h4 x) (col_word m 4)).step (h5 x) (col_word m 5)).step (h6 x) (col_word m 6)).step (h7 x) (col_word m 7)
  exact key

/-- A trip's thresholds begin at eight times its number. -/
theorem off3_val {m : ℕ} (hm : m < 16) : k1_off3 (BitVec.ofNat 32 (8 * m)) 0 = 8 * m := by
  show (BitVec.ofNat 32 (8 * m)).toNat = _
  rw [BitVec.toNat_ofNat]; omega

/-- The comparison the kernel makes of one lane at one column is the row's acceptance of that column. -/
theorem hit_col (gh : S144.Idx → F .f32) (gu : S128x128.Idx → F .f32) (g : Fin k1_t1_loop.trips) {m : ℕ} (hm : m < 16)
    (s : Fin 16) (hs : s.val < 8) (hi : ∀ a x, ((![k1_pay67 lanes g, broadcast S16 (Scalar.addi (BitVec.ofNat 32 (8 * m)) (BitVec.ofNat 32 s.val))] : Fin 2 → IVec S16 32) a x).toNat < S128x128.size a)
    (ho : ∀ a, k1_off3 (BitVec.ofNat 32 (8 * m)) a + S16.size a ≤ S144.size a) (v : Vec F S16 .f32)
    (hv : v = View.readAt (Elt F) thV.view (Rect.unit (s := S144) (k1_off3 (BitVec.ofNat 32 (8 * m))) S16.size ho).toLoadRect gh) (x : S16.Idx) :
    FloatOps.cmpf .olt (loadIdx (F := F) (e := .f32) (View.readAt (Elt F) ubV.view (LoadRect.whole S128x128) gu)
        ![k1_pay67 lanes g, broadcast S16 (Scalar.addi (BitVec.ofNat 32 (8 * m)) (BitVec.ofNat 32 s.val))] hi x)
      (v (ix1 (n0 := 16) s)) = 1#1
      ↔ HitB gh gu (16 * g.val + (x 0).val) (8 * m + s.val) := by
  subst hv
  have hg := group_lt g
  have hx : (x 0).val < 16 := (x 0).isLt
  have hr : 16 * g.val + (x 0).val < 128 := by omega
  have hj : 8 * m + s.val < 128 := by omega
  have e1 : loadIdx (F := F) (e := .f32) (View.readAt (Elt F) ubV.view (LoadRect.whole S128x128) gu)
        ![k1_pay67 lanes g, broadcast S16 (Scalar.addi (BitVec.ofNat 32 (8 * m)) (BitVec.ofNat 32 s.val))] hi x
      = gu (ix2 (n0 := 128) (n1 := 128) ⟨_, hr⟩ ⟨_, hj⟩) := by
    show View.readAt (Elt F) ubV.view (LoadRect.whole S128x128) gu _ = _
    rw [show View.readAt (Elt F) ubV.view (LoadRect.whole S128x128) gu = gu from Memref.readAt_whole (Elt F) cc1_scratch2 gu]
    congr 1
    funext a
    match a with
    | 0 => exact Fin.ext (by show (k1_pay67 lanes g x).toNat = _; rw [rows_toNat]; rfl)
    | 1 => exact Fin.ext (by show (BitVec.ofNat 32 (8 * m) + BitVec.ofNat 32 s.val).toNat = _; rw [col_toNat m _ hm hs]; rfl)
  have e2 : View.readAt (Elt F) thV.view (Rect.unit (s := S144) (k1_off3 (BitVec.ofNat 32 (8 * m))) S16.size ho).toLoadRect gh (ix1 (n0 := 16) s)
      = gh (ix1 (n0 := 144) ⟨8 * m + s.val, by omega⟩) := by
    show gh _ = gh _
    congr 1
    funext a
    obtain rfl : a = 0 := Fin.eq_zero a
    exact Fin.ext (by show k1_off3 (BitVec.ofNat 32 (8 * m)) 0 + 1 * s.val = _; rw [off3_val hm]; simp)
  rw [e1, e2]
  exact ⟨fun h => ⟨hr, hj, h⟩, fun ⟨_, _, h⟩ => h⟩

/-- Eight columns of sixteen rows of the first block. -/
theorem t2_cols (gh : S144.Idx → F .f32) (gu : S128x128.Idx → F .f32) (g : Fin k1_t1_loop.trips) {m : ℕ} (hm : m < 16)
    (hi : ∀ s < 8, ∀ a x, ((![k1_pay67 lanes g, broadcast S16 (Scalar.addi (BitVec.ofNat 32 (8 * m)) (BitVec.ofNat 32 s))] : Fin 2 → IVec S16 32) a x).toNat < S128x128.size a)
    (ho : ∀ a, k1_off3 (BitVec.ofNat 32 (8 * m)) a + S16.size a ≤ S144.size a) (v u0 u1 u2 u3 u4 u5 u6 u7 : Vec F S16 .f32)
    (dn : IVec S16 1) (cs : IVec S16 32)
    (hv : v = View.readAt (Elt F) thV.view (Rect.unit (s := S144) (k1_off3 (BitVec.ofNat 32 (8 * m))) S16.size ho).toLoadRect gh)
    (h0 : u0 = loadIdx (F := F) (e := .f32) (View.readAt (Elt F) ubV.view (LoadRect.whole S128x128) gu) _ (hi 0 (by decide)))
    (h1 : u1 = loadIdx (F := F) (e := .f32) (View.readAt (Elt F) ubV.view (LoadRect.whole S128x128) gu) _ (hi 1 (by decide)))
    (h2 : u2 = loadIdx (F := F) (e := .f32) (View.readAt (Elt F) ubV.view (LoadRect.whole S128x128) gu) _ (hi 2 (by decide)))
    (h3 : u3 = loadIdx (F := F) (e := .f32) (View.readAt (Elt F) ubV.view (LoadRect.whole S128x128) gu) _ (hi 3 (by decide)))
    (h4 : u4 = loadIdx (F := F) (e := .f32) (View.readAt (Elt F) ubV.view (LoadRect.whole S128x128) gu) _ (hi 4 (by decide)))
    (h5 : u5 = loadIdx (F := F) (e := .f32) (View.readAt (Elt F) ubV.view (LoadRect.whole S128x128) gu) _ (hi 5 (by decide)))
    (h6 : u6 = loadIdx (F := F) (e := .f32) (View.readAt (Elt F) ubV.view (LoadRect.whole S128x128) gu) _ (hi 6 (by decide)))
    (h7 : u7 = loadIdx (F := F) (e := .f32) (View.readAt (Elt F) ubV.view (LoadRect.whole S128x128) gu) _ (hi 7 (by decide)))
    (hF : ∀ x : S16.Idx, Found (HitB gh gu (16 * g.val + (x 0).val)) (8 * m) (dn x) (cs x)) (x : S16.Idx) :
    Found (HitB gh gu (16 * g.val + (x 0).val)) (8 * m + 8)
      (k1_pay71 (k1_pay18 v (k1_pay7 dn v u0 u1 u2) (k1_pay8 v u3) u4 u5 u6) (k1_pay19 v u7) x)
      (k1_pay70 (k1_pay17 (BitVec.ofNat 32 (8 * m)) v (k1_pay6 (BitVec.ofNat 32 (8 * m)) dn cs v u0 u1 u2) (k1_pay7 dn v u0 u1 u2) (k1_pay8 v u3)
        (k1_pay9 dn v u0 u1 u2 u3) (k1_pay10 (BitVec.ofNat 32 (8 * m))) u4 u5 u6)
        (k1_pay20 v (k1_pay7 dn v u0 u1 u2) (k1_pay8 v u3) u4 u5 u6 u7) (k1_pay21 (BitVec.ofNat 32 (8 * m))) x) := by
  subst h0 h1 h2 h3 h4 h5 h6 h7
  refine t2_pure (fun x => HitB gh gu (16 * g.val + (x 0).val)) m _ _ _ _ _ _ _ _ _ dn cs ?_ ?_ ?_ ?_ ?_ ?_ ?_ ?_ hF x
  · intro x; have e := hit_col gh gu g hm 0 (by decide) (hi 0 (by decide)) ho v hv x; rw [← ext_lane v 0 slices_S16_o0_S1] at e; exact e
  · intro x; have e := hit_col gh gu g hm 1 (by decide) (hi 1 (by decide)) ho v hv x; rw [← ext_lane v 1 slices_S16_o1_S1] at e; exact e
  · intro x; have e := hit_col gh gu g hm 2 (by decide) (hi 2 (by decide)) ho v hv x; rw [← ext_lane v 2 slices_S16_o2_S1] at e; exact e
  · intro x; have e := hit_col gh gu g hm 3 (by decide) (hi 3 (by decide)) ho v hv x; rw [← ext_lane v 3 slices_S16_o3_S1] at e; exact e
  · intro x; have e := hit_col gh gu g hm 4 (by decide) (hi 4 (by decide)) ho v hv x; rw [← ext_lane v 4 slices_S16_o4_S1] at e; exact e
  · intro x; have e := hit_col gh gu g hm 5 (by decide) (hi 5 (by decide)) ho v hv x; rw [← ext_lane v 5 slices_S16_o5_S1] at e; exact e
  · intro x; have e := hit_col gh gu g hm 6 (by decide) (hi 6 (by decide)) ho v hv x; rw [← ext_lane v 6 slices_S16_o6_S1] at e; exact e
  · intro x; have e := hit_col gh gu g hm 7 (by decide) (hi 7 (by decide)) ho v hv x; rw [← ext_lane v 7 slices_S16_o7_S1] at e; exact e

end Cert.Proof

end
-- ==== Proof.Locs.lean ====
module
public import proofs.«01_k».proof.Proof.T2Pure
@[expose] public section
set_option maxRecDepth 16384
noncomputable section
namespace Cert.Proof
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A tile's SparseCore. -/
abbrev cV (L : grid1.Coords) : Fin τ.nSC := (L 0).castLE hcore1
/-- A tile's place in its SparseCore. -/
abbrev jV (L : grid1.Coords) : Fin τ.nSub := (L 1).castLE hsub1
/-- The table of times, as a tile sees it. -/
abbrev tV : Memref sig .scVector .hbm S9216 .f32 := Memref.whole main_v5_scv
/-- The intensities at the steps, as a tile sees them. -/
abbrev aV : Memref sig .scVector .hbm S1x8192x8 .f32 := Memref.whole main_arg1_scv
/-- The uniform numbers, as a tile sees them. -/
abbrev uV : Memref sig .scVector .hbm S4096x8192 .f32 := Memref.whole main_arg3_scv
/-- The first result, as a tile sees it. -/
abbrev oV : Memref sig .scVector .hbm S4096 .f32 := Memref.whole main_v6_0_scv
/-- The second result, as a tile sees it. -/
abbrev wV : Memref sig .scVector .hbm S4096 .f32 := Memref.whole main_v6_1_scv
/-- A tile's copy of the first chunk's times, the base and the factor. -/
abbrev tvV : Memref sig .scVector .vmem S160 .f32 := Memref.whole cc1_scratch1
/-- A tile's copy of a chunk's intensities. -/
abbrev iaV : Memref sig .scVector .vmem S128x8 .f32 := Memref.whole cc1_scratch3
/-- A tile's copy of a row's chunk of uniform numbers. -/
abbrev urV : Memref sig .scVector .vmem S128 .f32 := Memref.whole cc1_scratch4
/-- The thresholds of a chunk. -/
abbrev tcV : Memref sig .scVector .vmem S128 .f32 := Memref.whole cc1_scratch5
/-- A tile's copy of sixteen times. -/
abbrev thcV : Memref sig .scVector .vmem S16 .f32 := Memref.whole cc1_scratch6
/-- The values of a tile's rows. -/
abbrev rsV : Memref sig .scVector .vmem S128 .f32 := Memref.whole cc1_scratch7
/-- Which of a tile's rows are done. -/
abbrev dnV : Memref sig .scVector .vmem S128 .i32 := Memref.whole cc1_scratch8

end Cert.Proof
end
-- ==== Proof.T1Pure.lean ====
/-
  One group of sixteen rows of the first block: what its rows are left with, and how many of them found nothing.
-/
module

public import proofs.«01_k».proof.Proof.Locs
public import Idealize.ShloMosaic.Lib.WritesUnit

@[expose] public section

set_option maxRecDepth 16384

noncomputable section

namespace Cert.Proof

open Cert.KernelIdeal Cert.KernelIdeal.Gen
open Idealize.ShloMosaic

variable {F : FTy → Type} [FloatOps F]

/-- What the first block leaves of a row with acceptances `P`: the time of the first accepted column and the mark one, or
    the fallback and the mark zero. -/
def RowA (P : ℕ → Prop) (gt : S160.Idx → F .f32) (base : F .f32) (x : F .f32) (d : BitVec 32) : Prop :=
  (d = 1#32 ∧ ∃ (j : ℕ) (hj : j < 128), P j ∧ (∀ i < j, ¬ P i) ∧ x = gt (ix1 (n0 := 160) ⟨j, by omega⟩)) ∨
    (d = 0#32 ∧ x = base ∧ ∀ j < 128, ¬ P j)

/-- The row's outcome from what its lane has found. -/
theorem rowA_of_found {P : ℕ → Prop} {d : BitVec 1} {c : BitVec 32} (h : Found P 128 d c) (gt : S160.Idx → F .f32) (base : F .f32)
    (hc : c.toNat < 160) : RowA P gt base (Scalar.select d (gt (ix1 (n0 := 160) ⟨c.toNat, hc⟩)) base) (d.setWidth 32) := by
  rcases h with ⟨rfl, j, hj, hp, hn, rfl⟩ | ⟨rfl, rfl, hn⟩
  · left
    refine ⟨by decide, j, hj, hp, hn, ?_⟩
    show (if (1#1 : BitVec 1) = 1 then _ else _) = _
    rw [if_pos (show (1#1 : BitVec 1) = 1 from rfl)]
    congr 2
    exact Fin.ext (by show (BitVec.ofNat 32 j).toNat = j; rw [BitVec.toNat_ofNat]; omega)
  · exact Or.inr ⟨by decide, rfl, hn⟩

/-- What holds before group `g`: of the rows of the groups before it, and of the number of them that found nothing. -/
def Inv1 (gh : S144.Idx → F .f32) (gu : S128x128.Idx → F .f32) (gt : S160.Idx → F .f32) (base : F .f32) (g : ℕ) (und : BitVec 32)
    (fr : S128.Idx → F .f32) (fd : S128.Idx → BitVec 32) : Prop :=
  und.toNat ≤ 16 * g ∧ (und = 0#32 → ∀ r : S128.Idx, (r 0).val < 16 * g → fd r = 1#32) ∧
    ∀ r : S128.Idx, (r 0).val < 16 * g → RowA (HitB gh gu (r 0).val) gt base (fr r) (fd r)

/-- What the inner loop ends with. -/
theorem found128 {gh : S144.Idx → F .f32} {gu : S128x128.Idx → F .f32} {g : ℕ} {cc : BitVec 32} {fl : BitVec 1} {dn : IVec S16 1}
    {cs : IVec S16 32} (h : Inv2 gh gu g 16 cc fl dn cs) (x : S16.Idx) : Found (HitB gh gu (16 * g + (x 0).val)) 128 (dn x) (cs x) := by
  obtain ⟨m, hm, rfl, h0, h1, hF⟩ := h
  rcases bit_cases fl with hf | hf
  · exact (hF x).mono (h1 hf x) (by omega)
  · obtain rfl := h0 hf
    exact hF x

/-- The columns found are columns of the block. -/
theorem chk_found {gh : S144.Idx → F .f32} {gu : S128x128.Idx → F .f32} {g : ℕ} {cc : BitVec 32} {fl : BitVec 1} {dn : IVec S16 1}
    {cs : IVec S16 32} (h : Inv2 gh gu g 16 cc fl dn cs) : k1_chk74 cs := by
  intro a x
  obtain rfl : a = 0 := Fin.eq_zero a
  exact ((found128 h x).col_lt (by decide) (by decide)).trans (by decide)

/-- A group's rows begin at sixteen times its number. -/
theorem off4_val (g : Fin k1_t1_loop.trips) : k1_off4 g = ![16 * g.val] := by
  have hg := group_lt g
  funext a
  obtain rfl : a = 0 := Fin.eq_zero a
  show ((0#32 + BitVec.ofNat 32 g.val * 1#32) * 16#32).toNat = _
  simp only [BitVec.toNat_add, BitVec.toNat_mul, BitVec.toNat_ofNat]
  show _ = 16 * g.val
  omega

/-- A group's rows after its store, and the other rows. -/
theorem stripe_in {e : EltTy} (b : Memref sig .scVector .vmem S128 e) (f : b.view.ty.Contents (Elt F)) (g : Fin k1_t1_loop.trips)
    (w : S16.Idx → Elt F e) (ho : ∀ a, k1_off4 g a + S16.size a ≤ S128.size a) (r : S128.Idx) (x : S16.Idx) (h : (r 0).val = 16 * g.val + (x 0).val) :
    b.view.read (Elt F) (b.view.writes (Elt F) f [⟨Rect.unit (s := S128) (k1_off4 g) S16.size ho, w⟩]) r = w x :=
  View.read_writes_cons_unit_of_mem b.view f ho w [] r x (off4_val g) fun a => by
    obtain rfl : a = 0 := Fin.eq_zero a
    exact h

/-- The rows of the groups before a group stay as they were at its store. -/
theorem stripe_out {e : EltTy} (b : Memref sig .scVector .vmem S128 e) (f : b.view.ty.Contents (Elt F)) (g : Fin k1_t1_loop.trips)
    (w : S16.Idx → Elt F e) (ho : ∀ a, k1_off4 g a + S16.size a ≤ S128.size a) (r : S128.Idx) (h : (r 0).val < 16 * g.val) :
    b.view.read (Elt F) (b.view.writes (Elt F) f [⟨Rect.unit (s := S128) (k1_off4 g) S16.size ho, w⟩]) r = b.view.read (Elt F) f r :=
  View.read_writes_cons_unit_of_not_mem b.view f ho w [] r (off4_val g) 0 (Or.inl h)

/-- One group more. -/
theorem inv1_step {gh : S144.Idx → F .f32} {gu : S128x128.Idx → F .f32} {gt : S160.Idx → F .f32} {base : F .f32}
    {g : Fin k1_t1_loop.trips} {und : BitVec 32} {fr fr' : S128.Idx → F .f32} {fd fd' : S128.Idx → BitVec 32} {cc : BitVec 32} {fl : BitVec 1}
    {dn : IVec S16 1} {cs : IVec S16 32} (h : Inv1 gh gu gt base g.val und fr fd) (h2 : Inv2 gh gu g.val 16 cc fl dn cs)
    (hr : ∀ r : S128.Idx, (r 0).val < 16 * g.val → fr' r = fr r) (hd : ∀ r : S128.Idx, (r 0).val < 16 * g.val → fd' r = fd r)
    (hr' : ∀ (r : S128.Idx) (x : S16.Idx), (r 0).val = 16 * g.val + (x 0).val → ∃ hc : (cs x).toNat < 160,
      fr' r = Scalar.select (dn x) (gt (ix1 (n0 := 160) ⟨(cs x).toNat, hc⟩)) base)
    (hd' : ∀ (r : S128.Idx) (x : S16.Idx), (r 0).val = 16 * g.val + (x 0).val → fd' r = (dn x).setWidth 32) :
    Inv1 gh gu gt base (g.val + 1)
      (Scalar.addi und (Scalar.subi 16#32 (extractAt ![15] (scan .sum (extui 32 dn natLt_1_32)) inpos_S16_p15))) fr' fd' := by
  obtain ⟨hu, hz, hR⟩ := h
  have hg := group_lt g
  obtain ⟨hc, hc'⟩ := count_lanes dn
  revert hc hc'
  generalize extractAt ![15] (scan .sum (extui 32 dn natLt_1_32)) inpos_S16_p15 = n
  intro hc hc'
  have hv : (Scalar.addi und (Scalar.subi 16#32 n)).toNat = und.toNat + (16 - n.toNat) := by
    show (und + (16#32 - n)).toNat = _
    simp only [BitVec.toNat_add, BitVec.toNat_sub, BitVec.toNat_ofNat]
    omega
  have hcase : ∀ r : S128.Idx, (r 0).val < 16 * (g.val + 1) → (r 0).val < 16 * g.val ∨
      ∃ x : S16.Idx, (r 0).val = 16 * g.val + (x 0).val := by
    intro r hr
    by_cases hlt : (r 0).val < 16 * g.val
    · exact Or.inl hlt
    · exact Or.inr ⟨ix1 (n0 := 16) ⟨(r 0).val - 16 * g.val, by omega⟩, by show _ = 16 * g.val + ((r 0).val - 16 * g.val); omega⟩
  refine ⟨by omega, fun hz' r hlt => ?_, fun r hlt => ?_⟩
  · have hn : und.toNat + (16 - n.toNat) = 0 := by rw [← hv, hz']; rfl
    rcases hcase r hlt with hlt | ⟨x, hx⟩
    · rw [hd r hlt]
      exact hz (BitVec.eq_of_toNat_eq (by show und.toNat = 0; omega)) r hlt
    · rw [hd' r x hx, hc'.1 (BitVec.eq_of_toNat_eq (by show n.toNat = 16; omega)) x]
      decide
  · rcases hcase r hlt with hlt | ⟨x, hx⟩
    · rw [hd r hlt, hr r hlt]
      exact hR r hlt
    · obtain ⟨hcx, e⟩ := hr' r x hx
      rw [hd' r x hx, e, hx]
      exact rowA_of_found (found128 h2 x) gt base hcx

end Cert.Proof

end
-- ==== Proof.T5Pure.lean ====
/-
  The later chunks of a row: sixteen columns at a time, up to the first accepted one.
-/
module

public import proofs.«01_k».proof.Proof.T1Pure
public import Idealize.ShloMosaic.Lib.WritesUnit

@[expose] public section

set_option maxRecDepth 16384

noncomputable section

namespace Cert.Proof

open Cert.KernelIdeal Cert.KernelIdeal.Gen
open Idealize.ShloMosaic

variable {F : FTy → Type} [FloatOps F]

/-- The search of the later columns: `n` columns seen and none accepted, or the first accepted one found. -/
def Srch (P : ℕ → Prop) (n : ℕ) (c c' : BitVec 32) (f : BitVec 1) (s : BitVec 32) : Prop :=
  (f = 0#1 ∧ c = c' ∧ ∀ j < n, ¬ P j) ∨
    (f = 1#1 ∧ ∃ j < 8192, s = BitVec.ofNat 32 j ∧ P j ∧ ∀ i < j, ¬ P i)

/-- A lane, as an index. -/
theorem ofLane_ix1 (k : Fin 16) : (Shape.ofLane (d := S16.size) k : S16.Idx) = ix1 (n0 := 16) k := by
  funext a
  obtain rfl : a = 0 := Fin.eq_zero a
  rfl

/-- The first of sixteen lanes whose number is under its threshold, or sixteen. -/
theorem pay78_first (u w : Vec F S16 .f32) :
    ∃ n : ℕ, n ≤ 16 ∧ extractAt ![15] (k1_pay78 lanes u w) inpos_S16_p15 = BitVec.ofNat 32 n ∧
      (∀ h : n < 16, FloatOps.cmpf .olt (u (ix1 (n0 := 16) ⟨n, h⟩)) (w (ix1 (n0 := 16) ⟨n, h⟩)) = 1#1) ∧
      ∀ k : Fin 16, k.val < n → ¬ FloatOps.cmpf .olt (u (ix1 (n0 := 16) k)) (w (ix1 (n0 := 16) k)) = 1#1 := by
  have hf : ∀ k : Fin 16, (select (cmpf .olt u w) lanes (broadcast S16 16#32) : IVec S16 32) (Shape.ofLane (d := S16.size) k)
      = if FloatOps.cmpf .olt (u (ix1 (n0 := 16) k)) (w (ix1 (n0 := 16) k)) = 1#1 then BitVec.ofNat 32 k.val else 16#32 := by
    intro k
    rw [ofLane_ix1]
    show (if FloatOps.cmpf .olt (u (ix1 (n0 := 16) k)) (w (ix1 (n0 := 16) k)) = 1 then BitVec.ofNat 32 (0 * 16 + k.val) else 16#32) = _
    rw [Nat.zero_mul, Nat.zero_add]
    rfl
  obtain ⟨n, hn, e, r⟩ := first_lane _ _ hf
  refine ⟨n, hn, ?_, r⟩
  rw [← e, ← lanes16]
  rfl

/-- The loop over the sixteens of a chunk goes on while nothing is found. -/
theorem cond5_go : ∀ (κ : Fin 64) (t : Fin 8), k1_cond5 (BitVec.ofNat 32 κ.val) (BitVec.ofNat 32 (8 * κ.val + t.val)) 0#1 = 1#1 := by
  decide +kernel

/-- The loop over the sixteens of a chunk stops when something is found. -/
theorem cond5_stop (a c : BitVec 32) : ¬ k1_cond5 a c 1#1 = 1#1 := by
  have h : Scalar.xori (1#1 : BitVec 1) 1#1 = 0#1 := rfl
  have h' : ∀ b : BitVec 1, Scalar.cmpi .ne (Scalar.extui (Scalar.andi 0#1 b) : BitVec 32) (0#32 : BitVec 32) ≠ 1#1 := by decide
  exact h' _

/-- Where a sixteen begins in its chunk. -/
theorem off7_val {κ t : ℕ} (hκ : κ < 64) (ht : t < 8) : k1_off7 (BitVec.ofNat 32 κ) (BitVec.ofNat 32 (8 * κ + t)) = ![16 * t] := by
  funext a
  obtain rfl : a = 0 := Fin.eq_zero a
  show ((BitVec.ofNat 32 (8 * κ + t) - BitVec.ofNat 32 κ * 8#32) * 16#32).toNat = 16 * t
  simp only [BitVec.toNat_sub, BitVec.toNat_mul, BitVec.toNat_ofNat]
  omega

/-- The sixteen words that a trip reads are there. -/
theorem chk_piece {v288 v313 : BitVec 32} {f f' : BitVec 1} {κ t : ℕ} (hκ : κ < 64) (ht : t < 8) :
    k1_chk141 v288 v313 (BitVec.ofNat 32 κ) f (BitVec.ofNat 32 (8 * κ + t)) f' := by
  intro _ _ _ _ a
  rw [off7_val hκ ht]
  obtain rfl : a = 0 := Fin.eq_zero a
  show 16 * t + 16 ≤ 128
  omega

/-- Sixteen columns more. -/
theorem srch_step {P : ℕ → Prop} {κ t : ℕ} (hκ : κ < 64) (ht : t < 8) (u w : Vec F S16 .f32) (s : BitVec 32)
    (hP : ∀ l : Fin 16, FloatOps.cmpf .olt (u (ix1 (n0 := 16) l)) (w (ix1 (n0 := 16) l)) = 1#1 ↔ P (16 * (8 * κ + t) + l.val))
    (hn : ∀ j < 16 * (8 * κ + t), ¬ P j) :
    Srch P (16 * (8 * κ + (t + 1))) (Scalar.addi (BitVec.ofNat 32 (8 * κ + t)) 1#32) (BitVec.ofNat 32 (8 * κ + (t + 1)))
      (Scalar.cmpi .slt (extractAt ![15] (k1_pay78 lanes u w) inpos_S16_p15) 16#32)
      (Scalar.select (Scalar.cmpi .slt (extractAt ![15] (k1_pay78 lanes u w) inpos_S16_p15) 16#32)
        (Scalar.addi (Scalar.muli (BitVec.ofNat 32 (8 * κ + t)) 16#32) (extractAt ![15] (k1_pay78 lanes u w) inpos_S16_p15)) s) := by
  obtain ⟨n, hn16, e, hh, hl⟩ := pay78_first u w
  rw [e]
  have hs : ∀ m : Fin 17, Scalar.cmpi .slt (BitVec.ofNat 32 m.val) 16#32 = if m.val < 16 then 1#1 else 0#1 := by decide
  have hs' := hs ⟨n, by omega⟩
  simp only at hs'
  rw [hs']
  by_cases h : n < 16
  · right
    rw [if_pos h]
    refine ⟨rfl, 16 * (8 * κ + t) + n, by omega, ?_, (hP ⟨n, h⟩).1 (hh h), fun i hi => ?_⟩
    · show (if (1#1 : BitVec 1) = 1 then _ else _) = _
      rw [if_pos (show (1#1 : BitVec 1) = 1 from rfl)]
      apply BitVec.eq_of_toNat_eq
      show (BitVec.ofNat 32 (8 * κ + t) * 16#32 + BitVec.ofNat 32 n).toNat = _
      simp only [BitVec.toNat_add, BitVec.toNat_mul, BitVec.toNat_ofNat]
      omega
    · by_cases hi' : i < 16 * (8 * κ + t)
      · exact hn i hi'
      · have := hl ⟨i - 16 * (8 * κ + t), by omega⟩ (by show i - 16 * (8 * κ + t) < n; omega)
        rw [hP] at this
        have ei : 16 * (8 * κ + t) + (i - 16 * (8 * κ + t)) = i := by omega
        simp only [ei] at this
        exact this
  · left
    rw [if_neg h]
    refine ⟨rfl, ?_, fun i hi => ?_⟩
    · exact (BitVec.ofNat_add _ _).symm
    · by_cases hi' : i < 16 * (8 * κ + t)
      · exact hn i hi'
      · have := hl ⟨i - 16 * (8 * κ + t), by omega⟩ (by show i - 16 * (8 * κ + t) < n; omega)
        rw [hP] at this
        have ei : 16 * (8 * κ + t) + (i - 16 * (8 * κ + t)) = i := by omega
        simp only [ei] at this
        exact this

/-- A chunk's search starts where the chunks before it ended, -/
theorem srch_in {P : ℕ → Prop} {κ : ℕ} {s : BitVec 32} (hn : ∀ j < 128 * κ, ¬ P j) :
    Srch P (16 * (8 * κ + 0)) (Scalar.muli (BitVec.ofNat 32 κ) 8#32) (BitVec.ofNat 32 (8 * κ + 0)) 0#1 s := by
  refine Or.inl ⟨rfl, ?_, fun j hj => hn j (by omega)⟩
  apply BitVec.eq_of_toNat_eq
  show (BitVec.ofNat 32 κ * 8#32).toNat = _
  simp only [BitVec.toNat_mul, BitVec.toNat_ofNat]
  omega

/-- and ends where the next chunk starts. -/
theorem srch_out {P : ℕ → Prop} {κ : ℕ} {c : BitVec 32} {f : BitVec 1} {s : BitVec 32}
    (h : Srch P (16 * (8 * κ + 8)) c (BitVec.ofNat 32 (8 * κ + 8)) f s) :
    Srch P (128 * (κ + 1)) (Scalar.addi (BitVec.ofNat 32 κ) 1#32) (BitVec.ofNat 32 (κ + 1)) f s := by
  rcases h with ⟨hf, -, hn⟩ | h
  · exact Or.inl ⟨hf, (BitVec.ofNat_add _ _).symm, fun j hj => hn j (by omega)⟩
  · exact Or.inr h

end Cert.Proof

end
-- ==== Proof.T4Pure.lean ====
/-
  A later chunk of 128 columns of a row: where it lies, what is copied, and the thresholds computed from it.
-/
module

public import proofs.«01_k».proof.Proof.T5Pure
public import proofs.«01_k».proof.Proof.Model
public import Idealize.ShloMosaic.Lib.Writes
public import Idealize.ShloMosaic.Lib.ValueLayout

@[expose] public section

set_option maxRecDepth 16384

noncomputable section

namespace Cert.Proof

open Cert.KernelIdeal Cert.KernelIdeal.Gen
open Idealize.ShloMosaic

variable {F : FTy → Type} [FloatOps F]

/-- The row of the tile at `L` that its trip `r` serves. -/
def rowOf (L : grid1.Coords) (r : Fin 128) : Fin 4096 :=
  ⟨((L 1).val * 2 + (L 0).val) * 128 + r.val, by
    have h0 : (L 0).val < 2 := (L 0).isLt
    have h1 : (L 1).val < 16 := (L 1).isLt
    omega⟩

/-- The loop over the chunks goes on while nothing is found. -/
theorem cond4_go : ∀ κ : Fin 64, k1_cond4 (BitVec.ofNat 32 κ.val) 0#1 = 1#1 := by
  decide +kernel

/-- The loop over the chunks stops when something is found. -/
theorem cond4_stop (c : BitVec 32) : ¬ k1_cond4 c 1#1 = 1#1 := by
  have h' : ∀ b : BitVec 1, Scalar.cmpi .ne (Scalar.extui (Scalar.andi 0#1 b) : BitVec 32) (0#32 : BitVec 32) ≠ 1#1 := by decide
  exact h' _

/-- Where a chunk of a row's uniform numbers begins. -/
theorem off5_val (L : grid1.Coords) (r : Fin k1_t3_loop.trips) {κ : ℕ} (hκ : κ < 64) :
    k1_off5 L r (BitVec.ofNat 32 κ) = ![(rowOf L ⟨r.val, r.isLt.trans_eq (by decide)⟩).val, 128 * κ] := by
  have h0 : (L 0).val < 2 := (L 0).isLt
  have h1 : (L 1).val < 16 := (L 1).isLt
  have hr : r.val < 128 := r.isLt.trans_eq (by decide)
  funext a
  match a with
  | 0 =>
    show ((BitVec.ofNat 32 (L 1).val * 2#32 + BitVec.ofNat 32 (L 0).val) * 128#32 + (0#32 + BitVec.ofNat 32 r.val * 1#32)).toNat
      = ((L 1).val * 2 + (L 0).val) * 128 + r.val
    simp only [BitVec.toNat_add, BitVec.toNat_mul, BitVec.toNat_ofNat]
    omega
  | 1 =>
    show (BitVec.ofNat 32 κ * 128#32).toNat = 128 * κ
    simp only [BitVec.toNat_mul, BitVec.toNat_ofNat]
    omega

/-- Where a chunk's intensities begin. -/
theorem off6_val {κ : ℕ} (hκ : κ < 64) : k1_off6 (BitVec.ofNat 32 κ) = ![0, 128 * κ, 0] := by
  have e : (BitVec.ofNat 32 κ * 128#32).toNat = 128 * κ := by
    simp only [BitVec.toNat_mul, BitVec.toNat_ofNat]
    omega
  show ![0, (BitVec.ofNat 32 κ * 128#32).toNat, 0] = _
  rw [e]

/-- The chunk's two slices lie inside their tables. -/
theorem chk_chunk (L : grid1.Coords) (v288 : BitVec 32) (r : Fin k1_t3_loop.trips) (v313 : BitVec 32) {κ : ℕ} (hκ : κ < 64) (f : BitVec 1) :
    k1_chk76 L v288 r v313 (BitVec.ofNat 32 κ) f := by
  refine ⟨fun _ _ _ a => ?_, fun _ _ _ a => ?_⟩
  · rw [off5_val L r hκ]
    have := (rowOf L ⟨r.val, r.isLt.trans_eq (by decide)⟩).isLt
    match a with
    | 0 => show (rowOf L _).val + 1 ≤ 4096; omega
    | 1 => show 128 * κ + 128 ≤ 8192; omega
  · rw [off6_val hκ]
    match a with
    | 0 => show 0 + 1 ≤ 1; omega
    | 1 => show 128 * κ + 128 ≤ 8192; omega
    | 2 => show 0 + 8 ≤ 8; omega

/-- What the copy of a chunk of a row's numbers brings. -/
theorem chunk_u (fu : TU F) {n : Fin 4096} {κ : ℕ} {off : Fin 2 → ℕ} (ho : off = ![n.val, κ])
    (hb : ∀ a, off a + S1x128.size a ≤ S4096x8192.size a) (l : Fin 128) (hl : κ + l.val < 8192) :
    ((uV.slice (Rect.unit (s := S4096x8192) off S1x128.size hb) (fun _ => rfl)).squeeze S128 squeezes_S1x128_S128).view.read (Elt F) fu (ix1 (n0 := 128) l)
      = fu (ix2 (n0 := 4096) (n1 := 8192) n ⟨κ + l.val, hl⟩) := by
  subst ho
  refine (shapeCast_apply ((uV.view.slice (Rect.unit (s := S4096x8192) ![n.val, κ] S1x128.size hb)).read (Elt F) fu) (squeezes_S1x128_S128.numel_eq) (ix1 (n0 := 128) l)
    (ix2 (n0 := 1) (n1 := 128) 0 l) (by
      rw [Shape.rowMajor_val_two, Shape.rowMajor_val_one]
      show 0 * 128 + l.val = l.val
      omega)).trans ?_
  show fu _ = fu _
  congr 1
  funext a
  match a with
  | 0 => exact Fin.ext (by show n.val + 1 * 0 = n.val; omega)
  | 1 => exact Fin.ext (by show κ + 1 * l.val = κ + l.val; omega)

/-- What the copy of a chunk of the intensities brings. -/
theorem chunk_a (fa : TA F) {κ : ℕ} {off : Fin 3 → ℕ} (ho : off = ![0, κ, 0])
    (hb : ∀ a, off a + S1x128x8.size a ≤ S1x8192x8.size a) (l : Fin 128) (k : Fin 8) (hl : κ + l.val < 8192) :
    ((aV.slice (Rect.unit (s := S1x8192x8) off S1x128x8.size hb) (fun _ => rfl)).squeeze S128x8 squeezes_S1x128x8_S128x8).view.read (Elt F) fa (ix2 (n0 := 128) (n1 := 8) l k)
      = inten fa ⟨κ + l.val, hl⟩ k := by
  subst ho
  refine (shapeCast_apply ((aV.view.slice (Rect.unit (s := S1x8192x8) ![0, κ, 0] S1x128x8.size hb)).read (Elt F) fa) (squeezes_S1x128x8_S128x8.numel_eq)
    (ix2 (n0 := 128) (n1 := 8) l k) (ix3 (n0 := 1) (n1 := 128) (n2 := 8) 0 l k) (by
      rw [Shape.rowMajor_val_three, Shape.rowMajor_val_two]
      show (0 * 128 + l.val) * 8 + k.val = l.val * 8 + k.val
      omega)).trans ?_
  show fa _ = fa _
  congr 1
  funext a
  match a with
  | 0 => exact Fin.ext (by show 0 + 1 * 0 = 0; omega)
  | 1 => exact Fin.ext (by show κ + 1 * l.val = κ + l.val; omega)
  | 2 => exact Fin.ext (by show 0 + 1 * k.val = k.val; omega)

/-- The lanes' rows in the `b`-th sixteen rows of a chunk. -/
theorem row16 (b : Fin 8) (x : Fin 16) : ((addi (broadcast S16 (BitVec.ofNat 32 (16 * b.val))) lanes : IVec S16 32) (ix1 (n0 := 16) x)).toNat = 16 * b.val + x.val := by
  show (BitVec.ofNat 32 (16 * b.val) + BitVec.ofNat 32 (0 * 16 + x.val)).toNat = _
  simp only [BitVec.toNat_add, BitVec.toNat_ofNat]
  omega

/-- A gather of sixteen rows of one column of the intensities of a chunk. -/
theorem gather_a (ga : S128x8.Idx → F .f32) (b : Fin 8) (k : Fin 8) (v : IVec S16 32) (hv : v = addi (broadcast S16 (BitVec.ofNat 32 (16 * b.val))) lanes)
    (h : ∀ a x, ((![v, broadcast S16 (BitVec.ofNat 32 k.val)] : Fin 2 → IVec S16 32) a x).toNat < S128x8.size a) (x : Fin 16) :
    loadIdx (F := F) (e := .f32) (View.readAt (Elt F) iaV.view (LoadRect.whole S128x8) ga) ![v, broadcast S16 (BitVec.ofNat 32 k.val)] h (ix1 (n0 := 16) x)
      = ga (ix2 (n0 := 128) (n1 := 8) ⟨16 * b.val + x.val, by omega⟩ k) := by
  rw [show View.readAt (Elt F) iaV.view (LoadRect.whole S128x8) ga = ga from Memref.readAt_whole (Elt F) cc1_scratch3 ga]
  show ga _ = ga _
  congr 1
  funext a
  match a with
  | 0 => exact Fin.ext (by show (v (ix1 x)).toNat = 16 * b.val + x.val; rw [hv, row16])
  | 1 => exact Fin.ext (by show (BitVec.ofNat 32 k.val).toNat = k.val; rw [BitVec.toNat_ofNat]; omega)

/-- The thresholds of a chunk whose intensities are `ga`. -/
def thrOf (ga : S128x8.Idx → F .f32) (fac : F .f32) (l : Fin 128) : F .f32 :=
  FloatOps.mulf (sum8 fun k => ga (ix2 (n0 := 128) (n1 := 8) l k)) fac

/-- Sixteen thresholds from the eight gathered columns. -/
theorem block16 (ga : S128x8.Idx → F .f32) (fac : F .f32) (b : Fin 8) (v : IVec S16 32) (hv : v = addi (broadcast S16 (BitVec.ofNat 32 (16 * b.val))) lanes)
    (h0 : ∀ a x, ((![v, broadcast S16 0#32] : Fin 2 → IVec S16 32) a x).toNat < S128x8.size a)
    (h1 : ∀ a x, ((![v, broadcast S16 1#32] : Fin 2 → IVec S16 32) a x).toNat < S128x8.size a)
    (h2 : ∀ a x, ((![v, broadcast S16 2#32] : Fin 2 → IVec S16 32) a x).toNat < S128x8.size a)
    (h3 : ∀ a x, ((![v, broadcast S16 3#32] : Fin 2 → IVec S16 32) a x).toNat < S128x8.size a)
    (h4 : ∀ a x, ((![v, broadcast S16 4#32] : Fin 2 → IVec S16 32) a x).toNat < S128x8.size a)
    (h5 : ∀ a x, ((![v, broadcast S16 5#32] : Fin 2 → IVec S16 32) a x).toNat < S128x8.size a)
    (h6 : ∀ a x, ((![v, broadcast S16 6#32] : Fin 2 → IVec S16 32) a x).toNat < S128x8.size a)
    (h7 : ∀ a x, ((![v, broadcast S16 7#32] : Fin 2 → IVec S16 32) a x).toNat < S128x8.size a)
    (x : Fin 16) :
    FloatOps.mulf (FloatOps.addf (FloatOps.addf (FloatOps.addf (FloatOps.addf (FloatOps.addf (FloatOps.addf (FloatOps.addf (FloatOps.addf (FloatOps.ofBits (F := F) .f32 0x00000000#32)
        (loadIdx (F := F) (e := .f32) (View.readAt (Elt F) iaV.view (LoadRect.whole S128x8) ga) ![v, broadcast S16 0#32] h0 (ix1 (n0 := 16) x)))
        (loadIdx (F := F) (e := .f32) (View.readAt (Elt F) iaV.view (LoadRect.whole S128x8) ga) ![v, broadcast S16 1#32] h1 (ix1 (n0 := 16) x)))
        (loadIdx (F := F) (e := .f32) (View.readAt (Elt F) iaV.view (LoadRect.whole S128x8) ga) ![v, broadcast S16 2#32] h2 (ix1 (n0 := 16) x)))
        (loadIdx (F := F) (e := .f32) (View.readAt (Elt F) iaV.view (LoadRect.whole S128x8) ga) ![v, broadcast S16 3#32] h3 (ix1 (n0 := 16) x)))
        (loadIdx (F := F) (e := .f32) (View.readAt (Elt F) iaV.view (LoadRect.whole S128x8) ga) ![v, broadcast S16 4#32] h4 (ix1 (n0 := 16) x)))
        (loadIdx (F := F) (e := .f32) (View.readAt (Elt F) iaV.view (LoadRect.whole S128x8) ga) ![v, broadcast S16 5#32] h5 (ix1 (n0 := 16) x)))
        (loadIdx (F := F) (e := .f32) (View.readAt (Elt F) iaV.view (LoadRect.whole S128x8) ga) ![v, broadcast S16 6#32] h6 (ix1 (n0 := 16) x)))
        (loadIdx (F := F) (e := .f32) (View.readAt (Elt F) iaV.view (LoadRect.whole S128x8) ga) ![v, broadcast S16 7#32] h7 (ix1 (n0 := 16) x))) fac = thrOf ga fac ⟨16 * b.val + x.val, by omega⟩ := by
  have e0 := gather_a ga b 0 v hv h0 x
  have e1 := gather_a ga b 1 v hv h1 x
  have e2 := gather_a ga b 2 v hv h2 x
  have e3 := gather_a ga b 3 v hv h3 x
  have e4 := gather_a ga b 4 v hv h4 x
  have e5 := gather_a ga b 5 v hv h5 x
  have e6 := gather_a ga b 6 v hv h6 x
  have e7 := gather_a ga b 7 v hv h7 x
  show FloatOps.mulf (sum8 ![_, _, _, _, _, _, _, _]) fac = _
  unfold thrOf
  congr 2
  funext k
  fin_cases k
  · exact e0
  · exact e1
  · exact e2
  · exact e3
  · exact e4
  · exact e5
  · exact e6
  · exact e7

/-- Eight stores of sixteen words one after another. -/
theorem pieces8 {n : ℕ} {e : EltTy} {κ : Kind} {sp : Space} (v : View sig κ sp (⟨1, ![n]⟩ : Shape) e) (f : v.ty.Contents (Elt F)) (w : Fin 8 → S16.Idx → Elt F e)
    (h0 : ∀ a, (![0] : Fin 1 → ℕ) a + S16.size a ≤ (⟨1, ![n]⟩ : Shape).size a) (h1 : ∀ a, (![16] : Fin 1 → ℕ) a + S16.size a ≤ (⟨1, ![n]⟩ : Shape).size a)
    (h2 : ∀ a, (![32] : Fin 1 → ℕ) a + S16.size a ≤ (⟨1, ![n]⟩ : Shape).size a) (h3 : ∀ a, (![48] : Fin 1 → ℕ) a + S16.size a ≤ (⟨1, ![n]⟩ : Shape).size a)
    (h4 : ∀ a, (![64] : Fin 1 → ℕ) a + S16.size a ≤ (⟨1, ![n]⟩ : Shape).size a) (h5 : ∀ a, (![80] : Fin 1 → ℕ) a + S16.size a ≤ (⟨1, ![n]⟩ : Shape).size a)
    (h6 : ∀ a, (![96] : Fin 1 → ℕ) a + S16.size a ≤ (⟨1, ![n]⟩ : Shape).size a) (h7 : ∀ a, (![112] : Fin 1 → ℕ) a + S16.size a ≤ (⟨1, ![n]⟩ : Shape).size a)
    (G : (⟨1, ![n]⟩ : Shape).Idx → Elt F e) (hn : 128 ≤ n) (hw : ∀ (b : Fin 8) (x : Fin 16), w b (ix1 (n0 := 16) x) = G (ix1 (n0 := n) ⟨16 * b.val + x.val, by omega⟩))
    (y : Fin 128) :
    v.read (Elt F) (v.writes (Elt F) f [⟨Rect.unit ![112] S16.size h7, w 7⟩, ⟨Rect.unit ![96] S16.size h6, w 6⟩, ⟨Rect.unit ![80] S16.size h5, w 5⟩,
      ⟨Rect.unit ![64] S16.size h4, w 4⟩, ⟨Rect.unit ![48] S16.size h3, w 3⟩, ⟨Rect.unit ![32] S16.size h2, w 2⟩, ⟨Rect.unit ![16] S16.size h1, w 1⟩,
      ⟨Rect.unit ![0] S16.size h0, w 0⟩]) (ix1 (n0 := n) ⟨y.val, by omega⟩) = G (ix1 (n0 := n) ⟨y.val, by omega⟩) := by
  have key : ∀ (b : Fin 8) (off : Fin 1 → ℕ) (h : ∀ a, off a + S16.size a ≤ (⟨1, ![n]⟩ : Shape).size a), off = ![16 * b.val] →
      ∀ x : (Rect.unit (s := (⟨1, ![n]⟩ : Shape)) off S16.size h).shape.Idx, w b x = G ((Rect.unit (s := (⟨1, ![n]⟩ : Shape)) off S16.size h).emb x) := by
    intro b off h ho x
    subst ho
    have e : x = ix1 (n0 := 16) (x 0) := by
      funext a
      obtain rfl : a = 0 := Fin.eq_zero a
      rfl
    have e' : (Rect.unit (s := (⟨1, ![n]⟩ : Shape)) ![16 * b.val] S16.size h).emb x = ix1 (n0 := n) ⟨16 * b.val + (x 0).val, by have : (x 0).val < 16 := (x 0).isLt; omega⟩ := by
      funext a
      obtain rfl : a = 0 := Fin.eq_zero a
      exact Fin.ext (by show 16 * b.val + 1 * (x 0).val = _; rw [Nat.one_mul]; rfl)
    rw [e', ← hw b (x 0)]
    exact congrArg (w b) e
  apply View.read_writes_apply_of_pieces
  · simp only [List.forall_mem_cons]
    exact ⟨key 7 _ h7 rfl, key 6 _ h6 rfl, key 5 _ h5 rfl, key 4 _ h4 rfl, key 3 _ h3 rfl, key 2 _ h2 rfl, key 1 _ h1 rfl, key 0 _ h0 rfl,
      fun _ h => absurd h List.not_mem_nil⟩
  · have cov : ∀ (b : Fin 8) (off : Fin 1 → ℕ) (h : ∀ a, off a + S16.size a ≤ (⟨1, ![n]⟩ : Shape).size a), off = ![16 * b.val] → y.val / 16 = b.val →
        (ix1 (n0 := n) ⟨y.val, by omega⟩ : (⟨1, ![n]⟩ : Shape).Idx) ∈ (Rect.unit (s := (⟨1, ![n]⟩ : Shape)) off S16.size h).set := by
      intro b off h ho hy
      subst ho
      rw [Rect.mem_set_unit]
      intro a
      obtain rfl : a = 0 := Fin.eq_zero a
      show 16 * b.val ≤ y.val ∧ y.val < 16 * b.val + 16
      omega
    have hy : y.val / 16 < 8 := by omega
    generalize hb : (⟨y.val / 16, hy⟩ : Fin 8) = b
    have hb : y.val / 16 = b.val := congrArg Fin.val hb
    simp only [List.exists_mem_cons_iff]
    fin_cases b
    · exact Or.inr (Or.inr (Or.inr (Or.inr (Or.inr (Or.inr (Or.inr (Or.inl (cov 0 _ h0 rfl hb))))))))
    · exact Or.inr (Or.inr (Or.inr (Or.inr (Or.inr (Or.inr (Or.inl (cov 1 _ h1 rfl hb)))))))
    · exact Or.inr (Or.inr (Or.inr (Or.inr (Or.inr (Or.inl (cov 2 _ h2 rfl hb))))))
    · exact Or.inr (Or.inr (Or.inr (Or.inr (Or.inl (cov 3 _ h3 rfl hb)))))
    · exact Or.inr (Or.inr (Or.inr (Or.inl (cov 4 _ h4 rfl hb))))
    · exact Or.inr (Or.inr (Or.inl (cov 5 _ h5 rfl hb)))
    · exact Or.inr (Or.inl (cov 6 _ h6 rfl hb))
    · exact Or.inl (cov 7 _ h7 rfl hb)

/-- The same, the eight words given one by one. -/
theorem pieces8' {n : ℕ} {e : EltTy} {κ : Kind} {sp : Space} (v : View sig κ sp (⟨1, ![n]⟩ : Shape) e) (f : v.ty.Contents (Elt F)) (w0 w1 w2 w3 w4 w5 w6 w7 : S16.Idx → Elt F e)
    (h0 : ∀ a, (![0] : Fin 1 → ℕ) a + S16.size a ≤ (⟨1, ![n]⟩ : Shape).size a)
    (h1 : ∀ a, (![16] : Fin 1 → ℕ) a + S16.size a ≤ (⟨1, ![n]⟩ : Shape).size a)
    (h2 : ∀ a, (![32] : Fin 1 → ℕ) a + S16.size a ≤ (⟨1, ![n]⟩ : Shape).size a)
    (h3 : ∀ a, (![48] : Fin 1 → ℕ) a + S16.size a ≤ (⟨1, ![n]⟩ : Shape).size a)
    (h4 : ∀ a, (![64] : Fin 1 → ℕ) a + S16.size a ≤ (⟨1, ![n]⟩ : Shape).size a)
    (h5 : ∀ a, (![80] : Fin 1 → ℕ) a + S16.size a ≤ (⟨1, ![n]⟩ : Shape).size a)
    (h6 : ∀ a, (![96] : Fin 1 → ℕ) a + S16.size a ≤ (⟨1, ![n]⟩ : Shape).size a)
    (h7 : ∀ a, (![112] : Fin 1 → ℕ) a + S16.size a ≤ (⟨1, ![n]⟩ : Shape).size a)
    (G : (⟨1, ![n]⟩ : Shape).Idx → Elt F e) (hn : 128 ≤ n)
    (hw0 : ∀ x : Fin 16, w0 (ix1 (n0 := 16) x) = G (ix1 (n0 := n) ⟨16 * ((0 : Fin 8)).val + x.val, by omega⟩))
    (hw1 : ∀ x : Fin 16, w1 (ix1 (n0 := 16) x) = G (ix1 (n0 := n) ⟨16 * ((1 : Fin 8)).val + x.val, by omega⟩))
    (hw2 : ∀ x : Fin 16, w2 (ix1 (n0 := 16) x) = G (ix1 (n0 := n) ⟨16 * ((2 : Fin 8)).val + x.val, by omega⟩))
    (hw3 : ∀ x : Fin 16, w3 (ix1 (n0 := 16) x) = G (ix1 (n0 := n) ⟨16 * ((3 : Fin 8)).val + x.val, by omega⟩))
    (hw4 : ∀ x : Fin 16, w4 (ix1 (n0 := 16) x) = G (ix1 (n0 := n) ⟨16 * ((4 : Fin 8)).val + x.val, by omega⟩))
    (hw5 : ∀ x : Fin 16, w5 (ix1 (n0 := 16) x) = G (ix1 (n0 := n) ⟨16 * ((5 : Fin 8)).val + x.val, by omega⟩))
    (hw6 : ∀ x : Fin 16, w6 (ix1 (n0 := 16) x) = G (ix1 (n0 := n) ⟨16 * ((6 : Fin 8)).val + x.val, by omega⟩))
    (hw7 : ∀ x : Fin 16, w7 (ix1 (n0 := 16) x) = G (ix1 (n0 := n) ⟨16 * ((7 : Fin 8)).val + x.val, by omega⟩))
    (y : Fin 128) :
    v.read (Elt F) (v.writes (Elt F) f [⟨Rect.unit ![112] S16.size h7, w7⟩, ⟨Rect.unit ![96] S16.size h6, w6⟩, ⟨Rect.unit ![80] S16.size h5, w5⟩,
      ⟨Rect.unit ![64] S16.size h4, w4⟩, ⟨Rect.unit ![48] S16.size h3, w3⟩, ⟨Rect.unit ![32] S16.size h2, w2⟩, ⟨Rect.unit ![16] S16.size h1, w1⟩,
      ⟨Rect.unit ![0] S16.size h0, w0⟩]) (ix1 (n0 := n) ⟨y.val, by omega⟩) = G (ix1 (n0 := n) ⟨y.val, by omega⟩) :=
  pieces8 v f ![w0, w1, w2, w3, w4, w5, w6, w7] h0 h1 h2 h3 h4 h5 h6 h7 G hn (fun b => by
    fin_cases b
    · exact hw0
    · exact hw1
    · exact hw2
    · exact hw3
    · exact hw4
    · exact hw5
    · exact hw6
    · exact hw7) y

/-- A chunk's columns are accepted where the row's are. -/
theorem hit_chunk (ft : TT F) (fa : TA F) (fu : TU F) (n : Fin 4096) {κ : ℕ} (hκ : κ < 64) (gw gc : S128.Idx → F .f32) (ga : S128x8.Idx → F .f32)
    (hw : ∀ l : Fin 128, gw (ix1 (n0 := 128) l) = fu (ix2 (n0 := 4096) (n1 := 8192) n ⟨128 * κ + l.val, by omega⟩))
    (ha : ∀ (l : Fin 128) (k : Fin 8), ga (ix2 (n0 := 128) (n1 := 8) l k) = inten fa ⟨128 * κ + l.val, by omega⟩ k)
    (hc : ∀ l : Fin 128, gc (ix1 (n0 := 128) l) = thrOf ga (ft (ix1 (n0 := 9216) ⟨8320, by omega⟩)) l) (l : Fin 128) :
    FloatOps.cmpf (F := F) .olt (gw (ix1 (n0 := 128) l)) (gc (ix1 (n0 := 128) l)) = 1#1 ↔ Hit ft fa fu n (128 * κ + l.val) := by
  have hl : 128 * κ + l.val < 8192 := by omega
  have e : thrOf ga (ft (ix1 (n0 := 9216) ⟨8320, by omega⟩)) l = thr ft fa ⟨128 * κ + l.val, hl⟩ := by
    unfold thrOf thr
    simp only [ha]
  rw [hw, hc, e]
  exact ⟨fun h => ⟨hl, h⟩, fun ⟨_, h⟩ => h⟩

end Cert.Proof

end
-- ==== Proof.T5.lean ====
/-
  Sixteen columns of a later chunk of a row on a tile.
-/
module

public import proofs.«01_k».proof.Proof.T5Pure

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Sixteen columns of a chunk. -/
abbrev t5B (L : grid1.Coords) (v2 : BitVec 32) (v41 : FVec F S16 .f32) (v44 : F .f32) (v256 : IVec S16 32)
    (v272 : FVec F S16 .f32) (v274 : Vec F S16 .f32) (v288 : BitVec 32) (h2 : k1_cond2 v288 = 1#1) (v313 : BitVec 32)
    (h3 : k1_cond3 v313 = 1#1) (k : BitVec 32) (f : BitVec 1) (h4 : k1_cond4 k f = 1#1) :=
  k1_t5_body (F := F) L tV (Memref.isWhole_whole _) aV (Memref.isWhole_whole _) uV (Memref.isWhole_whole _) oV (Memref.isWhole_whole _) wV (Memref.isWhole_whole _)
               thV (Memref.isWhole_whole _) tvV (Memref.isWhole_whole _) ubV (Memref.isWhole_whole _) iaV (Memref.isWhole_whole _) urV (Memref.isWhole_whole _)
               tcV (Memref.isWhole_whole _) thcV (Memref.isWhole_whole _) rsV (Memref.isWhole_whole _) dnV (Memref.isWhole_whole _)
               cc1_scratch9 cc1_scratch10 cc1_scratch11 cc1_scratch12 cc1_scratch13 cc1_scratch14 cc1_scratch15 cc1_scratch16
               v2 lanes v41 v44 v256 v272 v274 v288 h2 v313 h3 k f h4

set_option maxHeartbeats 16000000 in
/-- Sixteen columns, from what the columns before them left. -/
theorem t5_trip (d : Dev nD) (L : grid1.Coords) (v2 : BitVec 32) (v41 : FVec F S16 .f32) (v44 : F .f32) (v256 : IVec S16 32)
    (v272 : FVec F S16 .f32) (v274 : Vec F S16 .f32) (v288 : BitVec 32) (h2 : k1_cond2 v288 = 1#1) (v313 : BitVec 32)
    (h3 : k1_cond3 v313 = 1#1) (κ : ℕ) (hκ : κ < 64) (f0 : BitVec 1) (h4 : k1_cond4 (BitVec.ofNat 32 κ) f0 = 1#1) (t : Fin k1_t5_loop.trips)
    (gw : Buf (Elt F) (urV.view.loc (V d (cV L) (jV L)))) (gc : Buf (Elt F) (tcV.view.loc (V d (cV L) (jV L))))
    (P : ℕ → Prop) (hP : ∀ l : Fin 128, FloatOps.cmpf (F := F) .olt (gw (ix1 (n0 := 128) l)) (gc (ix1 (n0 := 128) l)) = 1#1 ↔ P (128 * κ + l.val))
    (c : BitVec 32) (f : BitVec 1) (s : BitVec 32) (hI : Srch P (16 * (8 * κ + t.val)) c (BitVec.ofNat 32 (8 * κ + t.val)) f s) (Q : _ → sProp 𝕄) :
    iprop((urV.view.loc (V d (cV L) (jV L)) ↦{fullShare} gw) ∗ (tcV.view.loc (V d (cV L) (jV L)) ↦{fullShare} gc)
        ∗ (∀ r : BitVec 32 × BitVec 1 × BitVec 32, ⌜Srch P (16 * (8 * κ + (t.val + 1))) r.1 (BitVec.ofNat 32 (8 * κ + (t.val + 1))) r.2.1 r.2.2⌝
            -∗ (urV.view.loc (V d (cV L) (jV L)) ↦{fullShare} gw) -∗ (tcV.view.loc (V d (cV L) (jV L)) ↦{fullShare} gc) -∗ Q r))
      ⊢ wp frame (wpE (defs₀ (F := F)) 𝒱₀ (V d (cV L) (jV L)) none) Set.univ
          (t5B L v2 v41 v44 v256 v272 v274 v288 h2 v313 h3 (BitVec.ofNat 32 κ) f0 h4 t (c, f, s)) Q := by
  have ht : t.val < 8 := t.isLt.trans_eq (by decide)
  unfold t5B k1_t5_body
  rcases hI with ⟨rfl, rfl, hn⟩ | ⟨rfl, hs⟩
  · have w141 : k1_chk141 v288 v313 (BitVec.ofNat 32 κ) f0 (BitVec.ofNat 32 (8 * κ + t.val)) 0#1 := chk_piece hκ ht
    have hc : k1_cond5 (BitVec.ofNat 32 κ) (BitVec.ofNat 32 (8 * κ + t.val)) 0#1 = 1#1 := cond5_go ⟨κ, hκ⟩ ⟨t.val, ht⟩
    iintro ⟨Hur, Htc, HQ⟩
    sl_exec
    sl_step
    iapply HQ $$ %_ [] Hur Htc
    ipureintro
    refine srch_step hκ ht _ _ s (fun l => ?_) hn
    rw [show 16 * (8 * κ + t.val) + l.val = 128 * κ + (16 * t.val + l.val) by omega]
    have hl := l.isLt
    rw [← hP ⟨16 * t.val + l.val, by omega⟩]
    have e : ∀ (g : S128.Idx → F .f32) (ho : ∀ a, k1_off7 (BitVec.ofNat 32 κ) (BitVec.ofNat 32 (8 * κ + t.val)) a + S16.size a ≤ S128.size a),
        g ((Rect.unit (s := S128) (k1_off7 (BitVec.ofNat 32 κ) (BitVec.ofNat 32 (8 * κ + t.val))) S16.size ho).toLoadRect.idx (ix1 (n0 := 16) l))
          = g (ix1 (n0 := 128) ⟨16 * t.val + l.val, by omega⟩) := by
      intro g ho
      congr 1
      funext a
      obtain rfl : a = 0 := Fin.eq_zero a
      exact Fin.ext (by show k1_off7 _ _ 0 + 1 * l.val = _; rw [off7_val hκ ht]; show 16 * t.val + 1 * l.val = 16 * t.val + l.val; omega)
    exact Iff.of_eq (congrArg (· = 1#1) (congrArg₂ (FloatOps.cmpf (F := F) .olt) (e gw _) (e gc _)))
  · have hc : ¬ k1_cond5 (BitVec.ofNat 32 κ) c 1#1 = 1#1 := cond5_stop _ _
    have w141 : k1_chk141 v288 v313 (BitVec.ofNat 32 κ) f0 c 1#1 := fun _ _ _ h => absurd h hc
    iintro ⟨Hur, Htc, HQ⟩
    sl_exec
    sl_step
    iapply HQ $$ %_ [] Hur Htc
    ipureintro
    exact Or.inr ⟨rfl, hs⟩

end Cert.Proof

end
-- ==== Proof.T4.lean ====
/-
  A later chunk of a row on a tile: its numbers and intensities copied, its thresholds computed, its columns searched.
-/
module

public import proofs.«01_k».proof.Proof.T4Pure
public import proofs.«01_k».proof.Proof.T5

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A chunk of 128 columns. -/
abbrev t4B (L : grid1.Coords) (v2 : BitVec 32) (v41 : FVec F S16 .f32) (v44 : F .f32) (v256 : IVec S16 32)
    (v272 : FVec F S16 .f32) (v274 : Vec F S16 .f32) (v288 : BitVec 32) (h2 : k1_cond2 v288 = 1#1) (r : Fin k1_t3_loop.trips) (v313 : BitVec 32)
    (h3 : k1_cond3 v313 = 1#1) :=
  k1_t4_body (F := F) L tV (Memref.isWhole_whole _) aV (Memref.isWhole_whole _) uV (Memref.isWhole_whole _) oV (Memref.isWhole_whole _) wV (Memref.isWhole_whole _)
               thV (Memref.isWhole_whole _) tvV (Memref.isWhole_whole _) ubV (Memref.isWhole_whole _) iaV (Memref.isWhole_whole _) urV (Memref.isWhole_whole _)
               tcV (Memref.isWhole_whole _) thcV (Memref.isWhole_whole _) rsV (Memref.isWhole_whole _) dnV (Memref.isWhole_whole _)
               cc1_scratch9 cc1_scratch10 cc1_scratch11 cc1_scratch12 cc1_scratch13 cc1_scratch14 cc1_scratch15 cc1_scratch16
               v2 lanes v41 v44 v256 v272 v274 v288 h2 r (Scf.iv 0#32 1#32 r) v313 h3

/-- What the chunks of a row are worked in. -/
def room4 (d : Dev nD) (L : grid1.Coords) (q : PosShare TreeShare) (O : CellTallies nD τ sig (HIx 1)) (W : Waits sig (HIx 1))
    (fa : TA F) (fu : TU F) : sProp 𝕄 :=
  iprop((aV.view.loc (V d (cV L) (jV L)) ↦{q} (fa : Buf (Elt F) (aV.view.loc (V d (cV L) (jV L)))))
    ∗ (uV.view.loc (V d (cV L) (jV L)) ↦{q} (fu : Buf (Elt F) (uV.view.loc (V d (cV L) (jV L)))))
    ∗ (∃ g : Buf (Elt F) (urV.view.loc (V d (cV L) (jV L))), urV.view.loc (V d (cV L) (jV L)) ↦{fullShare} g)
    ∗ (∃ g : Buf (Elt F) (iaV.view.loc (V d (cV L) (jV L))), iaV.view.loc (V d (cV L) (jV L)) ↦{fullShare} g)
    ∗ (∃ g : Buf (Elt F) (tcV.view.loc (V d (cV L) (jV L))), tcV.view.loc (V d (cV L) (jV L)) ↦{fullShare} g)
    ∗ semVal (V d (cV L) (jV L), .dma cc1_scratch12.sem) 0
    ∗ semVal (V d (cV L) (jV L), .dma cc1_scratch14.sem) 0
    ∗ ∃ W', ⌜∀ p ∈ W', p ∈ W ∨ p.2 = none⌝ ∗ owes (V d (cV L) (jV L)) O W')

/-- What the search of a chunk keeps. -/
def keep5 (d : Dev nD) (L : grid1.Coords) (gw gc : S128.Idx → F .f32) (P : ℕ → Prop) (κ : ℕ) (j : ℕ)
    (x : BitVec 32 × BitVec 1 × BitVec 32) : sProp 𝕄 :=
  iprop((urV.view.loc (V d (cV L) (jV L)) ↦{fullShare} (gw : Buf (Elt F) (urV.view.loc (V d (cV L) (jV L)))))
    ∗ (tcV.view.loc (V d (cV L) (jV L)) ↦{fullShare} (gc : Buf (Elt F) (tcV.view.loc (V d (cV L) (jV L)))))
    ∗ ⌜Srch P (16 * (8 * κ + j)) x.1 (BitVec.ofNat 32 (8 * κ + j)) x.2.1 x.2.2⌝)

/-- Two waits more. -/
theorem waits2 {W W' : Waits sig (HIx 1)} (h : ∀ p ∈ W', p ∈ W ∨ p.2 = none) {s₁ s₂ : SemLoc sig} :
    ∀ p ∈ insert (s₁, (default : HIx 1)) (insert (s₂, (default : HIx 1)) W'), p ∈ W ∨ p.2 = none := by
  intro p hp
  rcases Finset.mem_insert.mp hp with rfl | hp
  · exact .inr rfl
  rcases Finset.mem_insert.mp hp with rfl | hp
  · exact .inr rfl
  · exact h p hp

set_option maxHeartbeats 16000000 in
/-- One chunk, from what the chunks before it left. -/
theorem t4_trip (d : Dev nD) (L : grid1.Coords) (v2 : BitVec 32) (v41 : FVec F S16 .f32) (v44 : F .f32) (v256 : IVec S16 32)
    (v272 : FVec F S16 .f32) (v274 : Vec F S16 .f32) (v288 : BitVec 32) (h2 : k1_cond2 v288 = 1#1) (r : Fin k1_t3_loop.trips) (v313 : BitVec 32)
    (h3 : k1_cond3 v313 = 1#1) (q : PosShare TreeShare) (O : CellTallies nD τ sig (HIx 1)) (W : Waits sig (HIx 1))
    (ft : TT F) (fa : TA F) (fu : TU F) (hfac : v44 = ft (ix1 (n0 := 9216) ⟨8320, by omega⟩)) (t : Fin k1_t4_loop.trips)
    (k : BitVec 32) (f : BitVec 1) (s : BitVec 32)
    (hI : Srch (Hit ft fa fu (rowOf L ⟨r.val, r.isLt.trans_eq (by decide)⟩)) (128 * (t.val + 1)) k (BitVec.ofNat 32 (t.val + 1)) f s) (Q : _ → sProp 𝕄) :
    iprop(Transfers.MayWaits (V d (cV L) (jV L)) (default : HIx 1) O ∗ room4 d L q O W fa fu
        ∗ (∀ x : BitVec 32 × BitVec 1 × BitVec 32,
            ⌜Srch (Hit ft fa fu (rowOf L ⟨r.val, r.isLt.trans_eq (by decide)⟩)) (128 * (t.val + 1 + 1)) x.1 (BitVec.ofNat 32 (t.val + 1 + 1)) x.2.1 x.2.2⌝
            -∗ room4 d L q O W fa fu -∗ Q x))
      ⊢ wp frame (wpE (defs₀ (F := F)) 𝒱₀ (V d (cV L) (jV L)) none) Set.univ
          (t4B L v2 v41 v44 v256 v272 v274 v288 h2 r v313 h3 t (k, f, s)) Q := by
  have ht : t.val < 63 := t.isLt.trans_eq (by decide)
  unfold t4B k1_t4_body room4
  iintro ⟨#Hmw, ⟨Ha, Hu, ⟨%gw, Hur⟩, ⟨%ga, Hia⟩, ⟨%gc, Htc⟩, S12, S14, %W', %hW', HO⟩, HQ⟩
  rcases hI with ⟨rfl, rfl, hn⟩ | ⟨rfl, hs⟩
  · have w76 : k1_chk76 L v288 r v313 (BitVec.ofNat 32 (t.val + 1)) 0#1 := chk_chunk L v288 r v313 (by omega) 0#1
    have hc : k1_cond4 (BitVec.ofNat 32 (t.val + 1)) 0#1 = 1#1 := cond4_go ⟨t.val + 1, by omega⟩
    sl_open_parts
    unfold SparseCore.vectorLoadIdx
    sl_exec
    generalize hgw : View.write (Elt F) urV.view gw _ Finset.univ = gw'
    generalize hga : View.write (Elt F) iaV.view ga _ Finset.univ = ga'
    have hw : ∀ l : Fin 128, gw' (ix1 (n0 := 128) l) = fu (ix2 (n0 := 4096) (n1 := 8192) (rowOf L ⟨r.val, r.isLt.trans_eq (by decide)⟩) ⟨128 * (t.val + 1) + l.val, by omega⟩) := by
      intro l
      rw [← hgw, View.write_whole_univ]
      exact chunk_u fu (off5_val L r (κ := t.val + 1) (by omega)) _ l (by omega)
    have ha : ∀ (l : Fin 128) (k : Fin 8), ga' (ix2 (n0 := 128) (n1 := 8) l k) = inten fa ⟨128 * (t.val + 1) + l.val, by omega⟩ k := by
      intro l k
      rw [← hga, View.write_whole_univ]
      exact chunk_a fa (off6_val (κ := t.val + 1) (by omega)) _ l k (by omega)
    clear hgw hga
    sl_exec (disch := (intro _ _ _; decide +kernel))
    generalize hgc : tcV.view.writes (Elt F) tcV.view.junk _ = gc'
    have hc' : ∀ l : Fin 128, gc' (ix1 (n0 := 128) l) = thrOf ga' v44 l := by
      intro l
      rw [← hgc]
      refine pieces8' tcV.view _ _ _ _ _ _ _ _ _ _ _ _ _ _ _ _ _ (fun y => thrOf ga' v44 (y 0)) (by decide) ?_ ?_ ?_ ?_ ?_ ?_ ?_ ?_ l
      · intro x; exact block16 ga' v44 0 _ rfl _ _ _ _ _ _ _ _ x
      · intro x; exact block16 ga' v44 1 _ rfl _ _ _ _ _ _ _ _ x
      · intro x; exact block16 ga' v44 2 _ rfl _ _ _ _ _ _ _ _ x
      · intro x; exact block16 ga' v44 3 _ rfl _ _ _ _ _ _ _ _ x
      · intro x; exact block16 ga' v44 4 _ rfl _ _ _ _ _ _ _ _ x
      · intro x; exact block16 ga' v44 5 _ rfl _ _ _ _ _ _ _ _ x
      · intro x; exact block16 ga' v44 6 _ rfl _ _ _ _ _ _ _ _ x
      · intro x; exact block16 ga' v44 7 _ rfl _ _ _ _ _ _ _ _ x
    clear hgc
    have hP := hit_chunk ft fa fu (rowOf L ⟨r.val, r.isLt.trans_eq (by decide)⟩) (κ := t.val + 1) (by omega) gw' gc' ga' hw ha (by rw [← hfac]; exact hc')
    sl_for (keep5 d L gw' gc' (Hit ft fa fu (rowOf L ⟨r.val, r.isLt.trans_eq (by decide)⟩)) (t.val + 1)) $$ [Hur Htc]
    case region =>
      intro j acc
      obtain ⟨c, f, s⟩ := acc
      unfold keep5
      iintro ⟨Hur, Htc, %h5⟩
      iapply (t5_trip d L v2 v41 v44 v256 v272 v274 v288 h2 v313 h3 (t.val + 1) (by omega) 0#1 hc j gw' gc' _ hP c f s h5)
      isplitl [Hur]; · iexact Hur
      isplitl [Htc]; · iexact Htc
      iintro %x %hx Hur Htc
      isplitl [Hur]; · iexact Hur
      isplitl [Htc]; · iexact Htc
      ipureintro; exact hx
    · unfold keep5
      isplitl [Hur]; · iexact Hur
      isplitl [Htc]; · iexact Htc
      ipureintro
      exact srch_in (κ := t.val + 1) hn
    iintro %acc HI
    obtain ⟨c, f, s'⟩ := acc
    unfold keep5
    icases HI with ⟨Hur, Htc, %h5⟩
    have h8 : Scf.trips k1_t5_loop.lb k1_t5_loop.ub k1_t5_loop.st = 8 := by decide
    rw [h8] at h5
    sl_exec
    sl_step
    iapply HQ $$ %_ []
    · ipureintro
      exact srch_out (κ := t.val + 1) h5
    isplitl [Ha]; · iexact Ha
    isplitl [Hu]; · iexact Hu
    isplitl [Hur]; · iexists _; iexact Hur
    isplitl [Hia]; · iexists _; iexact Hia
    isplitl [Htc]; · iexists _; iexact Htc
    isplitl [S12]; · iexact S12
    isplitl [S14]; · iexact S14
    iexists (insert (SemLoc.dma cc1_scratch12.sem, (default : HIx 1)) (insert (SemLoc.dma cc1_scratch14.sem, (default : HIx 1)) W')); isplitr
    · ipureintro; exact waits2 hW'
    · iexact HO
  · have hc : ¬ k1_cond4 k 1#1 = 1#1 := cond4_stop _
    have w76 : k1_chk76 L v288 r v313 k 1#1 := ⟨fun _ _ h => absurd h hc, fun _ _ h => absurd h hc⟩
    sl_exec
    sl_step
    iapply HQ $$ %_ []
    · ipureintro
      exact Or.inr ⟨rfl, hs⟩
    isplitl [Ha]; · iexact Ha
    isplitl [Hu]; · iexact Hu
    isplitl [Hur]; · iexists _; iexact Hur
    isplitl [Hia]; · iexists _; iexact Hia
    isplitl [Htc]; · iexists _; iexact Htc
    isplitl [S12]; · iexact S12
    isplitl [S14]; · iexact S14
    iexists _; isplitr
    · ipureintro; exact hW'
    · iexact HO

end Cert.Proof

end
-- ==== Proof.T3Pure.lean ====
/-
  One row of the fallback search: what the row is left with.
-/
module

public import proofs.«01_k».proof.Proof.T4Pure

@[expose] public section

set_option maxRecDepth 16384

noncomputable section

namespace Cert.Proof

open Cert.KernelIdeal Cert.KernelIdeal.Gen
open Idealize.ShloMosaic

variable {F : FTy → Type} [FloatOps F]

/-- A sample with a first accepted step ends with that step's time. -/
theorem pick_first {ft : TT F} {fa : TA F} {fu : TU F} {n : Fin 4096} {j : ℕ} (hj : j < 8192) (h : Hit ft fa fu n j)
    (hn : ∀ i < j, ¬ Hit ft fa fu n i) : pick ft fa fu n = ft (ix1 (n0 := 9216) ⟨j, by omega⟩) := by
  classical
  have he : ∃ j, Hit ft fa fu n j := ⟨j, h⟩
  unfold pick
  rw [dif_pos he]
  have e : Nat.find he = j := (Nat.find_eq_iff he).mpr ⟨h, fun i hi => hn i hi⟩
  congr 2
  exact Fin.ext e

/-- A sample that accepts no step ends with the fallback. -/
theorem pick_none {ft : TT F} {fa : TA F} {fu : TU F} {n : Fin 4096} (hn : ∀ j < 8192, ¬ Hit ft fa fu n j) :
    pick ft fa fu n = ft (ix1 (n0 := 9216) ⟨8192, by omega⟩) := by
  have he : ¬ ∃ j, Hit ft fa fu n j := by
    rintro ⟨j, hj, h⟩
    exact hn j hj ⟨hj, h⟩
  unfold pick
  rw [dif_neg he]

/-- A row after the first block: done, with its sample's time, or not done, with the fallback. -/
def RowR (ft : TT F) (fa : TA F) (fu : TU F) (n : Fin 4096) (x : F .f32) (d : BitVec 32) : Prop :=
  (d = 1#32 ∧ x = pick ft fa fu n) ∨ (d = 0#32 ∧ x = ft (ix1 (n0 := 9216) ⟨8192, by omega⟩) ∧ ∀ j < 128, ¬ Hit ft fa fu n j)

/-- What holds before row `k` of the fallback search. -/
def Inv3 (ft : TT F) (fa : TA F) (fu : TU F) (L : grid1.Coords) (k : ℕ) (fr : S128.Idx → F .f32) (fd : S128.Idx → BitVec 32) : Prop :=
  ∀ r : Fin 128, (r.val < k ∧ fr (ix1 (n0 := 128) r) = pick ft fa fu (rowOf L r)) ∨
    (k ≤ r.val ∧ RowR ft fa fu (rowOf L r) (fr (ix1 (n0 := 128) r)) (fd (ix1 (n0 := 128) r)))

/-- What the first block leaves, said of the whole tables. -/
theorem rowR_of_rowA {ft : TT F} {fa : TA F} {fu : TU F} {n : Fin 4096} {P : ℕ → Prop} {gt : S160.Idx → F .f32} {base x : F .f32} {d : BitVec 32}
    (hP : ∀ j < 128, (P j ↔ Hit ft fa fu n j)) (ht : ∀ (j : ℕ) (h : j < 128), gt (ix1 (n0 := 160) ⟨j, by omega⟩) = ft (ix1 (n0 := 9216) ⟨j, by omega⟩))
    (hb : base = ft (ix1 (n0 := 9216) ⟨8192, by omega⟩)) (h : RowA P gt base x d) : RowR ft fa fu n x d := by
  rcases h with ⟨hd, j, hj, hp, hn, hx⟩ | ⟨hd, hx, hn⟩
  · exact Or.inl ⟨hd, by rw [hx, ht j hj, pick_first (by omega) ((hP j hj).mp hp) fun i hi h => hn i hi ((hP i (by omega)).mpr h)]⟩
  · exact Or.inr ⟨hd, hx.trans hb, fun j hj h => hn j hj ((hP j hj).mpr h)⟩

/-- A word with its three low bits cleared. -/
theorem clear3 {j : ℕ} (hj : j < 8192) : (BitVec.ofNat 32 j &&& 4294967288#32).toNat = 8 * (j / 8) := by
  rw [BitVec.toNat_and, BitVec.toNat_ofNat, BitVec.toNat_ofNat, Nat.mod_eq_of_lt (by omega), Nat.mod_eq_of_lt (by decide)]
  refine Nat.eq_of_testBit_eq fun i => ?_
  rw [show (4294967288 : ℕ) = (2 ^ 29 - 1) * 2 ^ 3 from rfl, show 8 * (j / 8) = (j / 2 ^ 3) * 2 ^ 3 by omega, Nat.testBit_and,
    Nat.testBit_mul_two_pow, Nat.testBit_mul_two_pow, Nat.testBit_two_pow_sub_one, Nat.testBit_div_two_pow]
  by_cases h3 : 3 ≤ i
  · by_cases h29 : i - 3 < 29
    · simp [h3, h29, show i - 3 + 3 = i by omega]
    · have : j.testBit i = false := Nat.testBit_lt_two_pow (lt_of_lt_of_le hj (by
        calc 8192 = 2 ^ 13 := by norm_num
          _ ≤ 2 ^ i := Nat.pow_le_pow_right (by decide) (by omega)))
      simp [this, show i - 3 + 3 = i by omega]
  · simp [h3]

/-- Where the sixteen times around step `j` begin. -/
theorem off8_val {j : ℕ} (hj : j < 8192) : k1_off8 (BitVec.ofNat 32 j) = ![8 * (j / 8)] := by
  show ![(BitVec.ofNat 32 j &&& 4294967288#32).toNat] = _
  rw [clear3 hj]

/-- They lie inside the table. -/
theorem chk_times {v288 v313 : BitVec 32} {f : BitVec 1} {j : ℕ} (hj : j < 8192) : k1_chk142 v288 v313 f (BitVec.ofNat 32 j) := by
  refine ⟨fun _ _ _ => ?_, fun _ _ _ a => ?_⟩
  · show 8 ∣ (BitVec.ofNat 32 j &&& 4294967288#32).toNat
    rw [clear3 hj]
    exact Nat.dvd_mul_right 8 _
  · rw [off8_val hj]
    obtain rfl : a = 0 := Fin.eq_zero a
    show 8 * (j / 8) + 16 ≤ 9216
    omega

/-- The step's place among them. -/
theorem low3 {j : ℕ} (hj : j < 8192) : (Scalar.subi (BitVec.ofNat 32 j) (Scalar.andi (BitVec.ofNat 32 j) 4294967288#32)).toNat = j % 8 := by
  show (BitVec.ofNat 32 j - (BitVec.ofNat 32 j &&& 4294967288#32)).toNat = _
  rw [BitVec.toNat_sub, clear3 hj, BitVec.toNat_ofNat]
  omega

/-- What the copy of sixteen times brings. -/
theorem times16 (ft : TT F) {κ : ℕ} {off : Fin 1 → ℕ} (ho : off = ![κ]) (hb : ∀ a, off a + S16.size a ≤ S9216.size a) (l : Fin 16) (hl : κ + l.val < 9216) :
    (tV.slice (Rect.unit (s := S9216) off S16.size hb) (fun _ => rfl)).view.read (Elt F) ft (ix1 (n0 := 16) l) = ft (ix1 (n0 := 9216) ⟨κ + l.val, hl⟩) := by
  subst ho
  show ft _ = ft _
  congr 1
  funext a
  obtain rfl : a = 0 := Fin.eq_zero a
  exact Fin.ext (by show κ + 1 * l.val = κ + l.val; omega)

/-- A row's mark, read. -/
theorem mark_of (fd : S128.Idx → BitVec 32) (c : BitVec 32) (r : Fin 128) (hc : c.toNat = r.val)
    (h : ∀ a x, ((![broadcast S16 c] : Fin 1 → IVec S16 32) a x).toNat < S128.size a) :
    extractAt ![0] (k1_pay76 (F := F) (loadIdx (F := F) (e := .i32) (View.readAt (Elt F) dnV.view (LoadRect.whole S128) fd) ![broadcast S16 c] h)) inpos_S1_p0
      = fd (ix1 (n0 := 128) r) := by
  rw [show View.readAt (Elt F) dnV.view (LoadRect.whole S128) fd = fd from Memref.readAt_whole (Elt F) cc1_scratch8 fd]
  show fd _ = fd _
  congr 1
  funext a
  obtain rfl : a = 0 := Fin.eq_zero a
  exact Fin.ext hc

/-- One lane of a masked store at one row. -/
def laneStep (v : Vec F S16 .f32) (r : Fin 128) (g : S128.Idx → F .f32) (k : Fin 16) : S128.Idx → F .f32 :=
  if k1_pay80 lanes (ix1 (n0 := 16) k) = 1 then fun y => if y = ix1 (n0 := 128) r then v (ix1 (n0 := 16) k) else g y else g

/-- The mask has lane zero alone. -/
theorem mask_lanes : ∀ k : Fin 16, k1_pay80 lanes (ix1 (n0 := 16) k) = if k = 0 then 1#1 else 0#1 := by decide +kernel

/-- Lanes the mask leaves out store nothing. -/
theorem laneStep_rest (v : Vec F S16 .f32) (r : Fin 128) (l : List (Fin 16)) (hl : ∀ k ∈ l, k ≠ 0) (g : S128.Idx → F .f32) :
    l.foldl (laneStep v r) g = g := by
  induction l generalizing g with
  | nil => rfl
  | cons k l ih =>
    have e : laneStep v r g k = g := if_neg (by
      rw [mask_lanes k, if_neg (hl k (List.mem_cons_self ..))]
      decide)
    rw [List.foldl_cons, e]
    exact ih (fun k' hk' => hl k' (List.mem_cons_of_mem _ hk')) g

/-- All sixteen lanes of it. -/
theorem laneStep_all (v : Vec F S16 .f32) (r : Fin 128) (f : S128.Idx → F .f32) :
    (List.finRange 16).foldl (laneStep v r) f = fun y => if y = ix1 (n0 := 128) r then v (ix1 (n0 := 16) 0) else f y := by
  rw [List.finRange_succ, List.foldl_cons]
  refine (laneStep_rest v r _ (by
    intro k hk
    obtain ⟨k', -, rfl⟩ := List.mem_map.mp hk
    exact Fin.succ_ne_zero k') _).trans ?_
  exact if_pos (by rw [mask_lanes 0]; rfl)

/-- A store of lane zero alone. -/
theorem store_lane0 (f : S128.Idx → F .f32) (v : Vec F S16 .f32) (c : BitVec 32) (r : Fin 128) (hc : c.toNat = r.val)
    (h : ∀ a x, ((![broadcast S16 c] : Fin 1 → IVec S16 32) a x).toNat < S128.size a) :
    storeIdx (F := F) (e := .f32) f ![broadcast S16 c] v (k1_pay80 lanes) false h
      = fun y => if y = ix1 (n0 := 128) r then v (ix1 (n0 := 16) 0) else f y := by
  rw [← laneStep_all v r f]
  unfold storeIdx
  show List.foldl _ f (List.finRange 16) = _
  congr 1
  funext g k
  unfold laneStep
  simp only [Bool.false_eq_true, ↓reduceIte]
  have ek : Shape.ofLane (d := S16.size) k = ix1 (n0 := 16) k := ofLane_ix1 k
  generalize Shape.ofLane (d := S16.size) k = x at ek ⊢
  subst ek
  refine if_congr Iff.rfl (funext fun y => if_congr ⟨fun hy => ?_, fun hy a => ?_⟩ rfl rfl) rfl
  · funext a
    obtain rfl : a = 0 := Fin.eq_zero a
    exact Fin.ext ((hy 0).trans hc)
  · subst hy
    obtain rfl : a = 0 := Fin.eq_zero a
    exact hc.symm

/-- The one of sixteen times that every lane is given. -/
theorem pay79_gather (g : S16.Idx → F .f32) (c : BitVec 32) (k : Fin 16) (hc : c.toNat = k.val)
    (h : ∀ a x, ((![broadcast S16 c] : Fin 1 → IVec S16 32) a x).toNat < S16.size a) (x : S16.Idx) :
    k1_pay79 (loadIdx (F := F) (e := .f32) g ![broadcast S16 c] h) x = g (ix1 (n0 := 16) k) := by
  show g _ = g _
  congr 1
  funext a
  obtain rfl : a = 0 := Fin.eq_zero a
  exact Fin.ext hc

/-- A row's mark zero starts a search; a mark one does not. -/
theorem cond3_zero : k1_cond3 0#32 = 1#1 := by decide
/-- A row's mark one starts no search. -/
theorem cond3_one : ¬ k1_cond3 1#32 = 1#1 := by decide
/-- A search that found a step stores its time. -/
theorem cond6_one : k1_cond6 1#1 = 1#1 := by decide
/-- A search that found none stores nothing. -/
theorem cond6_zero : ¬ k1_cond6 0#1 = 1#1 := by decide

/-- One row more, when its value is its sample's time. -/
theorem inv3_step {ft : TT F} {fa : TA F} {fu : TU F} {L : grid1.Coords} {k : ℕ} {fr fr' : S128.Idx → F .f32} {fd : S128.Idx → BitVec 32}
    (h : Inv3 ft fa fu L k fr fd) (hk : k < 128) (hr : ∀ r : Fin 128, r.val ≠ k → fr' (ix1 (n0 := 128) r) = fr (ix1 (n0 := 128) r))
    (hv : fr' (ix1 (n0 := 128) ⟨k, hk⟩) = pick ft fa fu (rowOf L ⟨k, hk⟩)) : Inv3 ft fa fu L (k + 1) fr' fd := by
  intro r
  by_cases e : r.val = k
  · subst e
    exact Or.inl ⟨Nat.lt_succ_self _, hv⟩
  · rw [hr r e]
    rcases h r with ⟨h1, h2⟩ | ⟨h1, h2⟩
    · exact Or.inl ⟨by omega, h2⟩
    · exact Or.inr ⟨by omega, h2⟩

end Cert.Proof

end
-- ==== Proof.T3.lean ====
module

public import proofs.«01_k».proof.Proof.T4
public import proofs.«01_k».proof.Proof.T3Pure

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- One row of the fallback search. -/
abbrev t3B (L : grid1.Coords) (v2 : BitVec 32) (v41 : FVec F S16 .f32) (v44 : F .f32) (v256 : IVec S16 32)
    (v272 : FVec F S16 .f32) (v274 : Vec F S16 .f32) (v288 : BitVec 32) (h2 : k1_cond2 v288 = 1#1) :=
  k1_t3_body (F := F) L tV (Memref.isWhole_whole _) aV (Memref.isWhole_whole _) uV (Memref.isWhole_whole _) oV (Memref.isWhole_whole _) wV (Memref.isWhole_whole _)
               thV (Memref.isWhole_whole _) tvV (Memref.isWhole_whole _) ubV (Memref.isWhole_whole _) iaV (Memref.isWhole_whole _) urV (Memref.isWhole_whole _)
               tcV (Memref.isWhole_whole _) thcV (Memref.isWhole_whole _) rsV (Memref.isWhole_whole _) dnV (Memref.isWhole_whole _)
               cc1_scratch9 cc1_scratch10 cc1_scratch11 cc1_scratch12 cc1_scratch13 cc1_scratch14 cc1_scratch15 cc1_scratch16
               v2 lanes v41 v44 v256 v272 v274 v288 h2

/-- What the chunks of a row keep. -/
def keep4 (d : Dev nD) (L : grid1.Coords) (q : PosShare TreeShare) (O : CellTallies nD τ sig (HIx 1)) (W : Waits sig (HIx 1))
    (ft : TT F) (fa : TA F) (fu : TU F) (n : Fin 4096) (j : ℕ) (x : BitVec 32 × BitVec 1 × BitVec 32) : sProp 𝕄 :=
  iprop(Transfers.MayWaits (V d (cV L) (jV L)) (default : HIx 1) O ∗ room4 d L q O W fa fu ∗ ⌜Srch (Hit ft fa fu n) (128 * (j + 1)) x.1 (BitVec.ofNat 32 (j + 1)) x.2.1 x.2.2⌝)

/-- What the rows are worked in. -/
def room3 (d : Dev nD) (L : grid1.Coords) (q : PosShare TreeShare) (O : CellTallies nD τ sig (HIx 1)) (W : Waits sig (HIx 1))
    (ft : TT F) (fa : TA F) (fu : TU F) (fd : S128.Idx → BitVec 32) : sProp 𝕄 :=
  iprop(room4 d L q O W fa fu ∗ (tV.view.loc (V d (cV L) (jV L)) ↦{q} (ft : Buf (Elt F) (tV.view.loc (V d (cV L) (jV L)))))
    ∗ (∃ g : Buf (Elt F) (thcV.view.loc (V d (cV L) (jV L))), thcV.view.loc (V d (cV L) (jV L)) ↦{fullShare} g)
    ∗ (dnV.view.loc (V d (cV L) (jV L)) ↦{fullShare} (fd : Buf (Elt F) (dnV.view.loc (V d (cV L) (jV L)))))
    ∗ semVal (V d (cV L) (jV L), .dma cc1_scratch15.sem) 0)

/-- One wait more. -/
theorem waits1 {W W' : Waits sig (HIx 1)} (h : ∀ p ∈ W', p ∈ W ∨ p.2 = none) {s : SemLoc sig} :
    ∀ p ∈ insert (s, (default : HIx 1)) W', p ∈ W ∨ p.2 = none := by
  intro p hp
  rcases Finset.mem_insert.mp hp with rfl | hp
  · exact .inr rfl
  · exact h p hp

set_option maxHeartbeats 16000000 in
/-- One row, from what the rows before it left. -/
theorem t3_trip (d : Dev nD) (L : grid1.Coords) (v2 : BitVec 32) (v41 : FVec F S16 .f32) (v44 : F .f32) (v256 : IVec S16 32)
    (v272 : FVec F S16 .f32) (v274 : Vec F S16 .f32) (v288 : BitVec 32) (h2 : k1_cond2 v288 = 1#1)
    (q : PosShare TreeShare) (O : CellTallies nD τ sig (HIx 1)) (W : Waits sig (HIx 1))
    (ft : TT F) (fa : TA F) (fu : TU F) (hfac : v44 = ft (ix1 (n0 := 9216) ⟨8320, by omega⟩)) (r : Fin k1_t3_loop.trips)
    (fr : S128.Idx → F .f32) (fd : S128.Idx → BitVec 32) (hI : Inv3 ft fa fu L r.val fr fd) (Q : _ → sProp 𝕄) :
    iprop(Transfers.MayWaits (V d (cV L) (jV L)) (default : HIx 1) O ∗ room3 d L q O W ft fa fu fd
        ∗ (rsV.view.loc (V d (cV L) (jV L)) ↦{fullShare} (fr : Buf (Elt F) (rsV.view.loc (V d (cV L) (jV L)))))
        ∗ (∀ fr' : S128.Idx → F .f32, ⌜Inv3 ft fa fu L (r.val + 1) fr' fd⌝ -∗ room3 d L q O W ft fa fu fd
            -∗ (rsV.view.loc (V d (cV L) (jV L)) ↦{fullShare} (fr' : Buf (Elt F) (rsV.view.loc (V d (cV L) (jV L))))) -∗ Q ()))
      ⊢ wp frame (wpE (defs₀ (F := F)) 𝒱₀ (V d (cV L) (jV L)) none) Set.univ
          (t3B L v2 v41 v44 v256 v272 v274 v288 h2 r ()) Q := by
  have hr : r.val < 128 := r.isLt.trans_eq (by decide)
  have hcr : (Scf.iv 0#32 1#32 r : BitVec 32).toNat = r.val := by
    show (0#32 + BitVec.ofNat 32 r.val * 1#32).toNat = r.val
    simp only [BitVec.toNat_add, BitVec.toNat_mul, BitVec.toNat_ofNat]
    omega
  have hin : ∀ a x, ((![broadcast S16 (Scf.iv 0#32 1#32 r)] : Fin 1 → IVec S16 32) a x).toNat < S128.size a := by
    intro a x
    obtain rfl : a = 0 := Fin.eq_zero a
    show (Scf.iv 0#32 1#32 r : BitVec 32).toNat < 128
    omega
  have w75 : k1_chk75 v288 (broadcast S16 (Scf.iv 0#32 1#32 r)) := fun _ => hin
  unfold t3B k1_t3_body room3
  iintro ⟨#Hmw, ⟨Hroom, Ht, ⟨%gh, Hth⟩, Hdn, S15⟩, Hrs, HQ⟩
  sl_open_parts
  unfold SparseCore.vectorLoadIdx SparseCore.vectorStoreIdx
  sl_exec
  have hm : t3_trip.sl.v313 (F := F) v288 h2 r fd w75 = fd (ix1 (n0 := 128) ⟨r.val, hr⟩) := mark_of (F := F) fd _ ⟨r.val, hr⟩ hcr hin
  rcases hI ⟨r.val, hr⟩ with ⟨hlt, -⟩ | ⟨-, ⟨hd, hp⟩ | ⟨hd, hb, hn⟩⟩
  · exact absurd hlt (Nat.lt_irrefl _)
  · have hc : ¬ k1_cond3 (t3_trip.sl.v313 (F := F) v288 h2 r fd w75) = 1#1 := by rw [hm, hd]; exact cond3_one
    sl_exec
    sl_step
    iapply HQ $$ %fr [] [Hroom Ht Hth Hdn S15] Hrs
    · ipureintro
      exact inv3_step hI hr (fun _ _ => rfl) hp
    isplitl [Hroom]; · iexact Hroom
    isplitl [Ht]; · iexact Ht
    isplitl [Hth]; · iexists _; iexact Hth
    isplitl [Hdn]; · iexact Hdn
    iexact S15
  · have hc : k1_cond3 (t3_trip.sl.v313 (F := F) v288 h2 r fd w75) = 1#1 := by rw [hm, hd]; exact cond3_zero
    sl_exec
    sl_for (keep4 d L q O W ft fa fu (rowOf L ⟨r.val, hr⟩)) $$ [Hroom]
    case region =>
      intro j acc
      obtain ⟨c, f, s⟩ := acc
      unfold keep4
      iintro ⟨#Hmw, Hroom, %h4⟩
      iapply (t4_trip d L v2 v41 v44 v256 v272 v274 v288 h2 r (t3_trip.sl.v313 (F := F) v288 h2 r fd w75) hc q O W ft fa fu hfac j c f s h4)
      isplitr; · iexact Hmw
      isplitl [Hroom]; · iexact Hroom
      iintro %x %hx Hroom
      isplitr; · iexact Hmw
      isplitl [Hroom]; · iexact Hroom
      ipureintro; exact hx
    · unfold keep4
      isplitr; · iexact Hmw
      isplitl [Hroom]; · iexact Hroom
      ipureintro
      exact Or.inl ⟨rfl, rfl, fun j hj => hn j (by omega)⟩
    iintro %acc HI
    obtain ⟨c, f, s⟩ := acc
    unfold keep4
    icases HI with ⟨-, Hroom, %h4⟩
    have e63 : Scf.trips k1_t4_loop.lb k1_t4_loop.ub k1_t4_loop.st = 63 := by decide
    rw [e63] at h4
    rcases h4 with ⟨hf, -, hn'⟩ | ⟨hf, j, hj, hs, hp, hn'⟩
    · have hf : f = 0#1 := hf
      subst hf
      have hc6 : ¬ k1_cond6 0#1 = 1#1 := cond6_zero
      have w142 : k1_chk142 v288 (t3_trip.sl.v313 (F := F) v288 h2 r fd w75) 0#1 s := ⟨fun _ _ h => absurd h hc6, fun _ _ h => absurd h hc6⟩
      sl_exec
      sl_step
      iapply HQ $$ %fr [] [Hroom Ht Hth Hdn S15] Hrs
      · ipureintro
        exact inv3_step hI hr (fun _ _ => rfl) (hb.trans (pick_none (fun j hj => hn' j (by omega))).symm)
      isplitl [Hroom]; · iexact Hroom
      isplitl [Ht]; · iexact Ht
      isplitl [Hth]; · iexists _; iexact Hth
      isplitl [Hdn]; · iexact Hdn
      iexact S15
    · have hf : f = 1#1 := hf
      have hs : s = BitVec.ofNat 32 j := hs
      subst hf
      subst hs
      have hc6 : k1_cond6 1#1 = 1#1 := cond6_one
      have w142 : k1_chk142 v288 (t3_trip.sl.v313 (F := F) v288 h2 r fd w75) 1#1 (BitVec.ofNat 32 j) := chk_times hj
      have hlow : (Scalar.subi (BitVec.ofNat 32 j) (Scalar.andi (BitVec.ofNat 32 j) 4294967288#32)).toNat = j % 8 := low3 hj
      have hin2 : ∀ a x, ((![broadcast S16 (Scalar.subi (BitVec.ofNat 32 j) (Scalar.andi (BitVec.ofNat 32 j) 4294967288#32))] : Fin 1 → IVec S16 32) a x).toNat < S16.size a := by
        intro a x
        obtain rfl : a = 0 := Fin.eq_zero a
        show (Scalar.subi (BitVec.ofNat 32 j) (Scalar.andi (BitVec.ofNat 32 j) 4294967288#32)).toNat < 16
        omega
      have w143 : k1_chk143 v288 (t3_trip.sl.v313 (F := F) v288 h2 r fd w75) 1#1 (broadcast S16 (Scalar.subi (BitVec.ofNat 32 j) (Scalar.andi (BitVec.ofNat 32 j) 4294967288#32))) := fun _ _ _ => hin2
      have w144 : k1_chk144 v288 (t3_trip.sl.v313 (F := F) v288 h2 r fd w75) 1#1 (broadcast S16 (Scf.iv 0#32 1#32 r)) := fun _ _ _ => hin
      unfold room4
      icases Hroom with ⟨Ha, Hu, Hur, Hia, Htc, S12, S14, %W', %hW', HO⟩
      sl_exec
      generalize hG : View.write (Elt F) thcV.view gh _ Finset.univ = gh'
      generalize hR : rsV.view.writes (Elt F) fr _ = fr'
      have hfr : ∀ y : S128.Idx, fr' y = if y = ix1 (n0 := 128) ⟨r.val, hr⟩ then ft (ix1 (n0 := 9216) ⟨j, by omega⟩) else fr y := by
        intro y
        rw [← hR]
        refine (congrFun (View.read_writes_whole (Val := Elt F) rsV.view fr _) y).trans ?_
        rw [show View.readAt (Elt F) rsV.view (LoadRect.whole S128) fr = fr from Memref.readAt_whole (Elt F) cc1_scratch7 fr]
        refine (congrFun (store_lane0 fr _ _ ⟨r.val, hr⟩ hcr hin) y).trans (if_congr Iff.rfl ?_ rfl)
        rw [show View.readAt (Elt F) thcV.view (LoadRect.whole S16) gh' = gh' from Memref.readAt_whole (Elt F) cc1_scratch6 gh']
        rw [← hG, View.write_whole_univ]
        refine Eq.trans (b := (tV.slice (Rect.unit (s := S9216) (k1_off8 (BitVec.ofNat 32 j)) S16.size (k1_off8_inb v288 _ _ _ w142 h2 hc hc6)) (fun _ => rfl)).view.read (Elt F) ft (ix1 (n0 := 16) ⟨j % 8, by omega⟩)) ?_ ((times16 ft (off8_val hj) _ _ (by show 8 * (j / 8) + j % 8 < 9216; omega)).trans ?_)
        · exact pay79_gather _ _ ⟨j % 8, by omega⟩ hlow hin2 _
        · congr 2
          exact Fin.ext (by show 8 * (j / 8) + j % 8 = j; omega)
      clear hG hR
      sl_step
      iapply HQ $$ %fr' [] [Ha Hu Hur Hia Htc S12 S14 HO Ht Hth Hdn S15] Hrs
      · ipureintro
        refine inv3_step hI hr (fun r' hr' => ?_) ?_
        · exact (hfr _).trans (if_neg fun e => hr' (congrArg (fun y : S128.Idx => (y 0).val) e))
        · exact ((hfr _).trans (if_pos rfl)).trans (pick_first hj hp hn').symm
      isplitl [Ha Hu Hur Hia Htc S12 S14 HO]
      · isplitl [Ha]; · iexact Ha
        isplitl [Hu]; · iexact Hu
        isplitl [Hur]; · iexact Hur
        isplitl [Hia]; · iexact Hia
        isplitl [Htc]; · iexact Htc
        isplitl [S12]; · iexact S12
        isplitl [S14]; · iexact S14
        iexists (insert (SemLoc.dma cc1_scratch15.sem, (default : HIx 1)) W'); isplitr
        · ipureintro; exact waits1 hW'
        · iexact HO
      isplitl [Ht]; · iexact Ht
      isplitl [Hth]; · iexists _; iexact Hth
      isplitl [Hdn]; · iexact Hdn
      iexact S15

end Cert.Proof

end
-- ==== Proof.T2.lean ====
/-
  The inner loop of a group of sixteen rows: eight columns a trip, every lane keeping the first column that accepts.
-/
module

public import proofs.«01_k».proof.Proof.Locs
public import proofs.«01_k».proof.Proof.T2Pure

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- One trip of the inner loop. -/
abbrev t2B (L : grid1.Coords) (v2 : BitVec 32) (v41 : FVec F S16 .f32) (v44 : F .f32) (v256 : IVec S16 32)
    (v272 : FVec F S16 .f32) (v274 : Vec F S16 .f32) (g : Fin k1_t1_loop.trips) :=
  k1_t2_body (F := F) L tV (Memref.isWhole_whole _) aV (Memref.isWhole_whole _) uV (Memref.isWhole_whole _) oV (Memref.isWhole_whole _) wV (Memref.isWhole_whole _)
               thV (Memref.isWhole_whole _) tvV (Memref.isWhole_whole _) ubV (Memref.isWhole_whole _) iaV (Memref.isWhole_whole _) urV (Memref.isWhole_whole _)
               tcV (Memref.isWhole_whole _) thcV (Memref.isWhole_whole _) rsV (Memref.isWhole_whole _) dnV (Memref.isWhole_whole _)
               cc1_scratch9 cc1_scratch10 cc1_scratch11 cc1_scratch12 cc1_scratch13 cc1_scratch14 cc1_scratch15 cc1_scratch16
               v2 lanes v41 v44 v256 v272 v274 g

set_option maxHeartbeats 16000000 in
/-- Eight columns of a group, from what the columns before them left. -/
theorem t2_trip (d : Dev nD) (L : grid1.Coords) (v2 : BitVec 32) (v41 : FVec F S16 .f32) (v44 : F .f32) (v256 : IVec S16 32)
    (v272 : FVec F S16 .f32) (v274 : Vec F S16 .f32) (g : Fin k1_t1_loop.trips) (k : Fin k1_t2_loop.trips)
    (gh : Buf (Elt F) (thV.view.loc (V d (cV L) (jV L)))) (gu : Buf (Elt F) (ubV.view.loc (V d (cV L) (jV L))))
    (cc : BitVec 32) (fl : BitVec 1) (dn : IVec S16 1) (cs : IVec S16 32) (hI : Inv2 gh gu g.val k.val cc fl dn cs) (Q : _ → sProp 𝕄) :
    iprop((thV.view.loc (V d (cV L) (jV L)) ↦{fullShare} gh) ∗ (ubV.view.loc (V d (cV L) (jV L)) ↦{fullShare} gu)
        ∗ (∀ r : BitVec 32 × BitVec 1 × IVec S16 1 × IVec S16 32, ⌜Inv2 gh gu g.val (k.val + 1) r.1 r.2.1 r.2.2.1 r.2.2.2⌝ -∗ (thV.view.loc (V d (cV L) (jV L)) ↦{fullShare} gh) -∗ (ubV.view.loc (V d (cV L) (jV L)) ↦{fullShare} gu) -∗ Q r))
      ⊢ wp frame (wpE (defs₀ (F := F)) 𝒱₀ (V d (cV L) (jV L)) none) Set.univ (t2B L v2 v41 v44 v256 v272 v274 g k (cc, fl, dn, cs)) Q := by
  obtain ⟨m, hm, rfl, hf0, hf1, hF⟩ := hI
  have w65 := chk_row hm fl
  have w66 : k1_chk66 (k1_pay67 lanes g) (BitVec.ofNat 32 (8 * m)) fl (broadcast S16 (Scalar.addi (BitVec.ofNat 32 (8 * m)) 0#32)) := chk_col hm fl g 0 (by decide)
  have w67 : k1_chk67 (k1_pay67 lanes g) (BitVec.ofNat 32 (8 * m)) fl (broadcast S16 (Scalar.addi (BitVec.ofNat 32 (8 * m)) 1#32)) := chk_col hm fl g 1 (by decide)
  have w68 : k1_chk68 (k1_pay67 lanes g) (BitVec.ofNat 32 (8 * m)) fl (broadcast S16 (Scalar.addi (BitVec.ofNat 32 (8 * m)) 2#32)) := chk_col hm fl g 2 (by decide)
  have w69 : k1_chk69 (k1_pay67 lanes g) (BitVec.ofNat 32 (8 * m)) fl (broadcast S16 (Scalar.addi (BitVec.ofNat 32 (8 * m)) 3#32)) := chk_col hm fl g 3 (by decide)
  have w70 : k1_chk70 (k1_pay67 lanes g) (BitVec.ofNat 32 (8 * m)) fl (broadcast S16 (Scalar.addi (BitVec.ofNat 32 (8 * m)) 4#32)) := chk_col hm fl g 4 (by decide)
  have w71 : k1_chk71 (k1_pay67 lanes g) (BitVec.ofNat 32 (8 * m)) fl (broadcast S16 (Scalar.addi (BitVec.ofNat 32 (8 * m)) 5#32)) := chk_col hm fl g 5 (by decide)
  have w72 : k1_chk72 (k1_pay67 lanes g) (BitVec.ofNat 32 (8 * m)) fl (broadcast S16 (Scalar.addi (BitVec.ofNat 32 (8 * m)) 6#32)) := chk_col hm fl g 6 (by decide)
  have w73 : k1_chk73 (k1_pay67 lanes g) (BitVec.ofNat 32 (8 * m)) fl (broadcast S16 (Scalar.addi (BitVec.ofNat 32 (8 * m)) 7#32)) := chk_col hm fl g 7 (by decide)
  unfold t2B k1_t2_body
  sl_open_parts
  unfold SparseCore.vectorLoadIdx
  iintro ⟨Hth, Hub, HQ⟩
  by_cases hc : k1_cond1 (BitVec.ofNat 32 (8 * m)) fl = 1#1
  · have hm' := cond1_lt hm hc
    sl_exec
    sl_step
    iapply HQ $$ %_ [] Hth Hub
    ipureintro
    have hF' := t2_cols gh gu g hm' (fun s hs a x => chk_col hm fl g s hs hc a x) (w65 hc) _ _ _ _ _ _ _ _ _ dn cs
      rfl rfl rfl rfl rfl rfl rfl rfl rfl hF
    have hfl : fl = 0#1 := by
      rcases bit_cases fl with rfl | h
      · exact absurd hc (by revert hm'; intro hm'; interval_cases m <;> decide)
      · exact h
    refine ⟨m + 1, by omega, (col_word m 8).trans (by rfl), fun _ => by rw [hf0 hfl], fun h => ?_, hF'⟩
    exact (count_lanes _).2.1 (cmpi_eq_one h)
  · sl_exec
    sl_step
    iapply HQ $$ %_ [] Hth Hub
    ipureintro
    refine ⟨m, hm, rfl, fun h => ?_, hf1, hF⟩
    rcases cond1_not hm hc with h' | h'
    · exact absurd (h.symm.trans h') (by decide)
    · have := hf0 h
      have hk : k.val < 16 := k.isLt.trans_eq (by decide)
      omega

end Cert.Proof

end
-- ==== Proof.T1.lean ====
/-
  One group of sixteen rows of the first block on a tile.
-/
module

public import proofs.«01_k».proof.Proof.T2
public import proofs.«01_k».proof.Proof.T1Pure

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- One group. -/
abbrev t1B (L : grid1.Coords) (v2 : BitVec 32) (v41 : FVec F S16 .f32) (v44 : F .f32) (v256 : IVec S16 32)
    (v272 : FVec F S16 .f32) (v274 : Vec F S16 .f32) :=
  k1_t1_body (F := F) L tV (Memref.isWhole_whole _) aV (Memref.isWhole_whole _) uV (Memref.isWhole_whole _) oV (Memref.isWhole_whole _) wV (Memref.isWhole_whole _)
               thV (Memref.isWhole_whole _) tvV (Memref.isWhole_whole _) ubV (Memref.isWhole_whole _) iaV (Memref.isWhole_whole _) urV (Memref.isWhole_whole _)
               tcV (Memref.isWhole_whole _) thcV (Memref.isWhole_whole _) rsV (Memref.isWhole_whole _) dnV (Memref.isWhole_whole _)
               cc1_scratch9 cc1_scratch10 cc1_scratch11 cc1_scratch12 cc1_scratch13 cc1_scratch14 cc1_scratch15 cc1_scratch16
               v2 lanes v41 v44 v256 v272 v274

/-- What the inner loop of group `g` keeps. -/
def keep2 (d : Dev nD) (L : grid1.Coords) (gh : S144.Idx → F .f32) (gu : S128x128.Idx → F .f32) (g : ℕ) (k : ℕ)
    (r : BitVec 32 × BitVec 1 × IVec S16 1 × IVec S16 32) : sProp 𝕄 :=
  iprop((thV.view.loc (V d (cV L) (jV L)) ↦{fullShare} (gh : Buf (Elt F) (thV.view.loc (V d (cV L) (jV L)))))
    ∗ (ubV.view.loc (V d (cV L) (jV L)) ↦{fullShare} (gu : Buf (Elt F) (ubV.view.loc (V d (cV L) (jV L)))))
    ∗ ⌜Inv2 gh gu g k r.1 r.2.1 r.2.2.1 r.2.2.2⌝)

set_option maxHeartbeats 16000000 in
/-- One group of rows, from what the groups before it left. -/
theorem t1_trip (d : Dev nD) (L : grid1.Coords) (v2 : BitVec 32) (v41 : FVec F S16 .f32) (v44 : F .f32) (v256 : IVec S16 32)
    (v272 : FVec F S16 .f32) (v274 : Vec F S16 .f32) (g : Fin k1_t1_loop.trips)
    (gh : Buf (Elt F) (thV.view.loc (V d (cV L) (jV L)))) (gu : Buf (Elt F) (ubV.view.loc (V d (cV L) (jV L))))
    (gt : Buf (Elt F) (tvV.view.loc (V d (cV L) (jV L)))) (fr : Buf (Elt F) (rsV.view.loc (V d (cV L) (jV L))))
    (fd : Buf (Elt F) (dnV.view.loc (V d (cV L) (jV L)))) (base : F .f32) (hb : ∀ x, v41 x = base)
    (und : BitVec 32) (hI : Inv1 gh gu gt base g.val und fr fd) (Q : _ → sProp 𝕄) :
    iprop((thV.view.loc (V d (cV L) (jV L)) ↦{fullShare} gh) ∗ (ubV.view.loc (V d (cV L) (jV L)) ↦{fullShare} gu)
        ∗ (tvV.view.loc (V d (cV L) (jV L)) ↦{fullShare} gt) ∗ (rsV.view.loc (V d (cV L) (jV L)) ↦{fullShare} fr)
        ∗ (dnV.view.loc (V d (cV L) (jV L)) ↦{fullShare} fd)
        ∗ (∀ (und' : BitVec 32) (fr' : Buf (Elt F) (rsV.view.loc (V d (cV L) (jV L)))) (fd' : Buf (Elt F) (dnV.view.loc (V d (cV L) (jV L)))),
            ⌜Inv1 gh gu gt base (g.val + 1) und' fr' fd'⌝
            -∗ (thV.view.loc (V d (cV L) (jV L)) ↦{fullShare} gh) -∗ (ubV.view.loc (V d (cV L) (jV L)) ↦{fullShare} gu)
            -∗ (tvV.view.loc (V d (cV L) (jV L)) ↦{fullShare} gt) -∗ (rsV.view.loc (V d (cV L) (jV L)) ↦{fullShare} fr')
            -∗ (dnV.view.loc (V d (cV L) (jV L)) ↦{fullShare} fd') -∗ Q und'))
      ⊢ wp frame (wpE (defs₀ (F := F)) 𝒱₀ (V d (cV L) (jV L)) none) Set.univ (t1B L v2 v41 v44 v256 v272 v274 g und) Q := by
  unfold t1B k1_t1_body
  unfold SparseCore.vectorLoadIdx
  iintro ⟨Hth, Hub, Htv, Hrs, Hdn, HQ⟩
  sl_for (keep2 d L gh gu g.val) $$ [Hth Hub]
  case region =>
    intro k acc
    obtain ⟨cc, fl, dn, cs⟩ := acc
    unfold keep2
    iintro ⟨Hth, Hub, %h2⟩
    iapply (t2_trip d L v2 v41 v44 v256 v272 v274 g k gh gu cc fl dn cs h2)
    isplitl [Hth]; · iexact Hth
    isplitl [Hub]; · iexact Hub
    iintro %r %hr Hth Hub
    isplitl [Hth]; · iexact Hth
    isplitl [Hub]; · iexact Hub
    ipureintro; exact hr
  · unfold keep2
    isplitl [Hth]; · iexact Hth
    isplitl [Hub]; · iexact Hub
    ipureintro
    exact ⟨0, by decide, rfl, fun _ => rfl, fun h => absurd h (by decide), fun x => Found.zero _⟩
  iintro %acc HI
  obtain ⟨cc, fl, dn, cs⟩ := acc
  unfold keep2
  icases HI with ⟨Hth, Hub, %h2⟩
  have e16 : Scf.trips k1_t2_loop.lb k1_t2_loop.ub k1_t2_loop.st = 16 := by decide
  rw [e16] at h2
  have h2 : Inv2 gh gu g.val 16 cc fl dn cs := h2
  have w74 : k1_chk74 cs := chk_found h2
  sl_exec
  sl_step
  iapply HQ $$ %_ %_ %_ [] Hth Hub Htv Hrs Hdn
  ipureintro
  refine inv1_step hI h2 (fun r h => stripe_out rsV fr g _ _ r h) (fun r h => stripe_out dnV fd g _ _ r h) (fun r x h => ?_) (fun r x h => ?_)
  · refine ⟨w74 0 x, (stripe_in rsV fr g _ _ r x h).trans ?_⟩
    show Scalar.select (dn x) (loadIdx (F := F) (e := .f32) (View.readAt (Elt F) tvV.view (LoadRect.whole S160) gt) ![cs] w74 x) (v41 x) = _
    rw [hb x, show View.readAt (Elt F) tvV.view (LoadRect.whole S160) gt = gt from Memref.readAt_whole (Elt F) cc1_scratch1 gt]
    show Scalar.select (dn x) (gt _) base = Scalar.select (dn x) (gt _) base
    congr 2
    funext a
    obtain rfl : a = 0 := Fin.eq_zero a
    exact Fin.ext rfl
  · exact (stripe_in dnV fd g _ _ r x h).trans rfl

end Cert.Proof

end
-- ==== Proof.TilePure.lean ====
/-
  A tile's blocks: where its rows are, what its first copies bring, and what its first block leaves.
-/
module

public import proofs.«01_k».proof.Proof.T3Pure
public import Idealize.ShloMosaic.Lib.ViewIndex

@[expose] public section

set_option maxRecDepth 16384

noncomputable section

namespace Cert.Proof

open Cert.KernelIdeal Cert.KernelIdeal.Gen
open Idealize.ShloMosaic

variable {F : FTy → Type} [FloatOps F]

/-- What a view's elements hold after a copy of all of it. -/
theorem landed {κ : Kind} {sp : Space} {s : Shape} {e : EltTy} (v : View sig κ sp s e) (f : v.ty.Contents (Elt F)) (w : s.Idx → Elt F e)
    (G : v.ty.Contents (Elt F)) (h : ∀ x, w x = v.read (Elt F) G x) : ∀ i ∈ v.set, v.writes (Elt F) f [⟨Rect.whole s, w⟩] i = G i := by
  intro i hi
  obtain ⟨x, -, rfl⟩ := Finset.mem_map.mp hi
  refine View.eq_of_read_eq (v := v) (Val := Elt F) ?_
  rw [View.read_writes_whole]
  exact h x

/-- The tile's first row. -/
theorem first_row (L : grid1.Coords) :
    ((BitVec.ofNat 32 (L 1).val * 2#32 + BitVec.ofNat 32 (L 0).val) * 128#32).toNat = (rowOf L 0).val := by
  have h0 : (L 0).val < 2 := (L 0).isLt
  have h1 : (L 1).val < 16 := (L 1).isLt
  show _ = ((L 1).val * 2 + (L 0).val) * 128 + 0
  simp only [BitVec.toNat_add, BitVec.toNat_mul, BitVec.toNat_ofNat]
  omega

/-- Where the tile's block of numbers begins. -/
theorem off1_val (L : grid1.Coords) : k1_off1 L = ![(rowOf L 0).val, 0] := by
  show ![((BitVec.ofNat 32 (L 1).val * 2#32 + BitVec.ofNat 32 (L 0).val) * 128#32).toNat, 0] = _
  rw [first_row]

/-- Where the tile's rows of a result begin. -/
theorem off9_val (L : grid1.Coords) : k1_off9 L = ![(rowOf L 0).val] := by
  show ![((BitVec.ofNat 32 (L 1).val * 2#32 + BitVec.ofNat 32 (L 0).val) * 128#32).toNat] = _
  rw [first_row]

/-- What the copy of the block of numbers brings. -/
theorem block_u (fu : TU F) (L : grid1.Coords) (hb : ∀ a, k1_off1 L a + S128x128.size a ≤ S4096x8192.size a) (r j : Fin 128) :
    (uV.slice (Rect.unit (s := S4096x8192) (k1_off1 L) S128x128.size hb) (fun _ => rfl)).view.read (Elt F) fu (ix2 (n0 := 128) (n1 := 128) r j)
      = fu (ix2 (n0 := 4096) (n1 := 8192) (rowOf L r) ⟨j.val, by omega⟩) := by
  have h0 : k1_off1 L 0 = (rowOf L 0).val := congrFun (off1_val L) 0
  have h1 : k1_off1 L 1 = 0 := congrFun (off1_val L) 1
  show fu _ = fu _
  congr 1
  funext a
  match a with
  | 0 => exact Fin.ext (by show k1_off1 L 0 + 1 * r.val = ((L 1).val * 2 + (L 0).val) * 128 + r.val; rw [h0]; show ((L 1).val * 2 + (L 0).val) * 128 + 0 + 1 * r.val = _; omega)
  | 1 => exact Fin.ext (by show k1_off1 L 1 + 1 * j.val = j.val; rw [h1]; omega)

/-- The first 128 times, the fallback time and the factor, as the tile holds them. -/
def gtF (ft : TT F) : S160.Idx → F .f32 := fun x =>
  if h : (x 0).val < 128 then ft (ix1 (n0 := 9216) ⟨(x 0).val, by omega⟩)
  else if h' : (x 0).val < 144 then ft (ix1 (n0 := 9216) ⟨8192 + ((x 0).val - 128), by omega⟩)
  else ft (ix1 (n0 := 9216) ⟨8320 + ((x 0).val - 144), by have : (x 0).val < 160 := (x 0).isLt; omega⟩)

/-- The first of them. -/
theorem gtF_low (ft : TT F) (j : ℕ) (h : j < 128) : gtF ft (ix1 (n0 := 160) ⟨j, by omega⟩) = ft (ix1 (n0 := 9216) ⟨j, by omega⟩) :=
  dif_pos (show ((ix1 (n0 := 160) ⟨j, by omega⟩ : S160.Idx) 0).val < 128 from h)

/-- The copy of the first times brings them. -/
theorem land_a (ft : TT F) (x : S128.Idx) :
    (tV.slice (Rect.unit (s := S9216) ![0] S128.size inb_S9216_S128_0) (fun _ => rfl)).view.read (Elt F) ft x
      = (tvV.slice (Rect.unit (s := S160) ![0] S128.size inb_S160_S128_0) (fun _ => rfl)).view.read (Elt F) (gtF ft) x := by
  have hx : (x 0).val < 128 := (x 0).isLt
  have e : (0 + 1 * (x 0).val) < 128 := by omega
  show ft _ = gtF ft _
  refine Eq.trans ?_ (dif_pos e).symm
  congr 1
  funext a
  obtain rfl : a = 0 := Fin.eq_zero a
  rfl

/-- The copy of the fallback time brings it. -/
theorem land_b (ft : TT F) (x : S16.Idx) :
    (tV.slice (Rect.unit (s := S9216) ![8192] S16.size inb_S9216_S16_8192) (fun _ => rfl)).view.read (Elt F) ft x
      = (tvV.slice (Rect.unit (s := S160) ![128] S16.size inb_S160_S16_128) (fun _ => rfl)).view.read (Elt F) (gtF ft) x := by
  have hx : (x 0).val < 16 := (x 0).isLt
  have e : ¬ (128 + 1 * (x 0).val) < 128 := by omega
  have e' : (128 + 1 * (x 0).val) < 144 := by omega
  show ft _ = gtF ft _
  refine Eq.trans ?_ ((dif_neg e).trans (dif_pos e')).symm
  congr 1
  funext a
  obtain rfl : a = 0 := Fin.eq_zero a
  exact Fin.ext (by show 8192 + 1 * (x 0).val = 8192 + (128 + 1 * (x 0).val - 128); omega)

/-- The copy of the factor brings it. -/
theorem land_c (ft : TT F) (x : S16.Idx) :
    (tV.slice (Rect.unit (s := S9216) ![8320] S16.size inb_S9216_S16_8320) (fun _ => rfl)).view.read (Elt F) ft x
      = (tvV.slice (Rect.unit (s := S160) ![144] S16.size inb_S160_S16_144) (fun _ => rfl)).view.read (Elt F) (gtF ft) x := by
  have hx : (x 0).val < 16 := (x 0).isLt
  have e : ¬ (144 + 1 * (x 0).val) < 128 := by omega
  have e' : ¬ (144 + 1 * (x 0).val) < 144 := by omega
  show ft _ = gtF ft _
  refine Eq.trans ?_ ((dif_neg e).trans (dif_neg e')).symm
  congr 1
  funext a
  obtain rfl : a = 0 := Fin.eq_zero a
  exact Fin.ext (by show 8320 + 1 * (x 0).val = 8320 + (144 + 1 * (x 0).val - 144); omega)

/-- The fallback time, where it lands. -/
theorem base_at (ft : TT F) (j : S16.Idx) (hj : j = ix1 (n0 := 16) 0) :
    (tvV.slice (Rect.unit (s := S160) ![128] S16.size inb_S160_S16_128) (fun _ => rfl)).view.read (Elt F) (gtF ft) j
      = ft (ix1 (n0 := 9216) ⟨8192, by omega⟩) := by
  subst hj
  refine (land_b ft _).symm.trans (congrArg ft (funext fun a => ?_))
  obtain rfl : a = 0 := Fin.eq_zero a
  rfl

/-- The factor, where it lands. -/
theorem fac_at (ft : TT F) (j : S16.Idx) (hj : j = ix1 (n0 := 16) 0) :
    (tvV.slice (Rect.unit (s := S160) ![144] S16.size inb_S160_S16_144) (fun _ => rfl)).view.read (Elt F) (gtF ft) j
      = ft (ix1 (n0 := 9216) ⟨8320, by omega⟩) := by
  subst hj
  refine (land_c ft _).symm.trans (congrArg ft (funext fun a => ?_))
  obtain rfl : a = 0 := Fin.eq_zero a
  rfl

/-- The count of rows not done is zero, or the search runs. -/
theorem cond2_not : ∀ n : Fin 129, ¬ k1_cond2 (BitVec.ofNat 32 n.val) = 1#1 → n.val = 0 := by decide +kernel

/-- The rows of the first block, said of the whole tables. -/
theorem rows_first {ft : TT F} {fa : TA F} {fu : TU F} {L : grid1.Coords} {gh : S144.Idx → F .f32} {gu : S128x128.Idx → F .f32} {base : F .f32}
    {und : BitVec 32} {fr : S128.Idx → F .f32} {fd : S128.Idx → BitVec 32}
    (hh : ∀ l : Fin 128, gh (ix1 (n0 := 144) ⟨l.val, by omega⟩) = thr ft fa ⟨l.val, by omega⟩)
    (hu : ∀ r j : Fin 128, gu (ix2 (n0 := 128) (n1 := 128) r j) = fu (ix2 (n0 := 4096) (n1 := 8192) (rowOf L r) ⟨j.val, by omega⟩))
    (hb : base = ft (ix1 (n0 := 9216) ⟨8192, by omega⟩)) (h : Inv1 gh gu (gtF ft) base 8 und fr fd) : Inv3 ft fa fu L 0 fr fd := by
  intro r
  refine Or.inr ⟨Nat.zero_le _, rowR_of_rowA (P := HitB gh gu r.val) (fun j hj => ?_) (gtF_low ft) hb
    (h.2.2 (ix1 (n0 := 128) r) (by show r.val < 16 * 8; omega))⟩
  unfold HitB Hit
  constructor
  · rintro ⟨hr, hj, h⟩
    refine ⟨by omega, ?_⟩
    rw [hu, hh ⟨j, hj⟩] at h
    exact h
  · rintro ⟨hj', h⟩
    refine ⟨r.isLt, hj, ?_⟩
    rw [hu, hh ⟨j, hj⟩]
    exact h

/-- When the search does not run, every row has its sample's time. -/
theorem rows_done {ft : TT F} {fa : TA F} {fu : TU F} {L : grid1.Coords} {gh : S144.Idx → F .f32} {gu : S128x128.Idx → F .f32} {gt : S160.Idx → F .f32} {base : F .f32}
    {und : BitVec 32} {fr : S128.Idx → F .f32} {fd : S128.Idx → BitVec 32} (h : Inv1 gh gu gt base 8 und fr fd) (h3 : Inv3 ft fa fu L 0 fr fd)
    (hc : ¬ k1_cond2 und = 1#1) (r : Fin 128) : fr (ix1 (n0 := 128) r) = pick ft fa fu (rowOf L r) := by
  have hu := h.1
  have e : und = BitVec.ofNat 32 und.toNat := by rw [BitVec.ofNat_toNat, BitVec.setWidth_eq]
  have h0 : und.toNat = 0 := cond2_not ⟨und.toNat, by omega⟩ (by rw [← e]; exact hc)
  have hd : fd (ix1 (n0 := 128) r) = 1#32 := h.2.1 (by rw [e, h0]) _ (by show r.val < 16 * 8; omega)
  rcases h3 r with ⟨h, -⟩ | ⟨-, ⟨-, h⟩ | ⟨h, -⟩⟩
  · omega
  · exact h
  · rw [hd] at h
    exact absurd h (by decide)

/-- After the search, every row has its sample's time. -/
theorem rows_searched {ft : TT F} {fa : TA F} {fu : TU F} {L : grid1.Coords} {fr : S128.Idx → F .f32} {fd : S128.Idx → BitVec 32}
    (h3 : Inv3 ft fa fu L 128 fr fd) (r : Fin 128) : fr (ix1 (n0 := 128) r) = pick ft fa fu (rowOf L r) := by
  rcases h3 r with ⟨-, h⟩ | ⟨h, -⟩
  · exact h
  · omega

/-- The tile's rows of a result whose value at each row is known. -/
theorem out_rows (L : grid1.Coords) (hb : ∀ a, k1_off9 L a + S128.size a ≤ S4096.size a) (G : S4096.Idx → F .f32) (x : S128.Idx) :
    (oV.slice (Rect.unit (s := S4096) (k1_off9 L) S128.size hb) (fun _ => rfl)).view.read (Elt F) G x = G (ix1 (n0 := 4096) (rowOf L (x 0))) := by
  have h0 : k1_off9 L 0 = (rowOf L 0).val := congrFun (off9_val L) 0
  show G _ = G _
  congr 1
  funext a
  obtain rfl : a = 0 := Fin.eq_zero a
  exact Fin.ext (by
    show k1_off9 L 0 + 1 * (x 0).val = ((L 1).val * 2 + (L 0).val) * 128 + (x 0).val
    rw [h0]
    show ((L 1).val * 2 + (L 0).val) * 128 + 0 + 1 * (x 0).val = _
    omega)

end Cert.Proof

end
-- ==== Proof.Tile.lean ====
module

public import proofs.«01_k».proof.Proof.T3
public import proofs.«01_k».proof.Proof.T1
public import proofs.«01_k».proof.Proof.TilePure

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A choice whose two ways go on alike. -/
theorem dite_join {E : Type → Type _} {B : Type} {c : Prop} [Decidable c] (p : c → Prog E Unit) (t : Prog E B) :
    (if h : c then (p h >>= fun _ => t) else t) = ((if h : c then (do p h; pure ⟨⟩) else (do pure ⟨⟩)) >>= fun _ : Unit => t) := by
  by_cases h : c
  · simp [dif_pos h]
  · simp [dif_neg h]

/-- The places of a piece of a whole buffer. -/
theorem mem_piece (b : Ref sig .scVector) (r : Rect b.ty.shape) (i : b.ty.shape.Idx) {p : Prop} (h : i ∈ r.set ↔ p) :
    i ∈ ((View.whole b).slice r).set ↔ p := by
  rw [View.set_slice_whole]; exact h

/-- The three pieces of the table of the first times that the copies fill. -/
theorem tv_split (d : Dev nD) (L : grid1.Coords) (gt : S160.Idx → F .f32) :
    (tvV.view.loc (V d (cV L) (jV L)) ↦{fullShare} (gt : Buf (Elt F) (tvV.view.loc (V d (cV L) (jV L)))) : sProp 𝕄)
      ⊣⊢ iprop((((tvV.slice (Rect.unit (s := S160) ![0] S128.size inb_S160_S128_0) (fun _ => rfl)).view).loc (V d (cV L) (jV L)) ↦[((tvV.slice (Rect.unit (s := S160) ![0] S128.size inb_S160_S128_0) (fun _ => rfl)).view).set]{fullShare} (gt : Buf (Elt F) (tvV.view.loc (V d (cV L) (jV L)))))
        ∗ (((tvV.slice (Rect.unit (s := S160) ![128] S16.size inb_S160_S16_128) (fun _ => rfl)).view).loc (V d (cV L) (jV L)) ↦[((tvV.slice (Rect.unit (s := S160) ![128] S16.size inb_S160_S16_128) (fun _ => rfl)).view).set]{fullShare} (gt : Buf (Elt F) (tvV.view.loc (V d (cV L) (jV L)))))
        ∗ (((tvV.slice (Rect.unit (s := S160) ![144] S16.size inb_S160_S16_144) (fun _ => rfl)).view).loc (V d (cV L) (jV L)) ↦[((tvV.slice (Rect.unit (s := S160) ![144] S16.size inb_S160_S16_144) (fun _ => rfl)).view).set]{fullShare} (gt : Buf (Elt F) (tvV.view.loc (V d (cV L) (jV L)))))) := by
  have eA : ∀ i : S160.Idx, i ∈ ((tvV.slice (Rect.unit (s := S160) ![0] S128.size inb_S160_S128_0) (fun _ => rfl)).view).set ↔ 0 ≤ (i 0).val ∧ (i 0).val < 0 + 128 := fun i =>
    mem_piece cc1_scratch1 (Rect.unit (s := S160) ![0] S128.size inb_S160_S128_0) i (Rect.mem_set_unit.trans ⟨fun h => by have h0 := h 0; exact h0, fun h a => by obtain rfl : a = 0 := Fin.eq_zero a; exact h⟩)
  have eB : ∀ i : S160.Idx, i ∈ ((tvV.slice (Rect.unit (s := S160) ![128] S16.size inb_S160_S16_128) (fun _ => rfl)).view).set ↔ 128 ≤ (i 0).val ∧ (i 0).val < 128 + 16 := fun i =>
    mem_piece cc1_scratch1 (Rect.unit (s := S160) ![128] S16.size inb_S160_S16_128) i (Rect.mem_set_unit.trans ⟨fun h => by have h0 := h 0; exact h0, fun h a => by obtain rfl : a = 0 := Fin.eq_zero a; exact h⟩)
  have eC : ∀ i : S160.Idx, i ∈ ((tvV.slice (Rect.unit (s := S160) ![144] S16.size inb_S160_S16_144) (fun _ => rfl)).view).set ↔ 144 ≤ (i 0).val ∧ (i 0).val < 144 + 16 := fun i =>
    mem_piece cc1_scratch1 (Rect.unit (s := S160) ![144] S16.size inb_S160_S16_144) i (Rect.mem_set_unit.trans ⟨fun h => by have h0 := h 0; exact h0, fun h a => by obtain rfl : a = 0 := Fin.eq_zero a; exact h⟩)
  have d2 := Finset.disjoint_left.mpr fun i hi hj => by
    have h1 := (eB i).mp hi
    have h2 := (eC i).mp hj
    exact absurd (h1.2.trans_le h2.1) (lt_irrefl _)
  have d1 := Finset.disjoint_left.mpr fun i hi hj => by
    have h1 := (eA i).mp hi
    rcases Finset.mem_union.mp hj with hj | hj
    · exact absurd (h1.2.trans_le ((eB i).mp hj).1) (lt_irrefl _)
    · have h2 := ((eC i).mp hj).1; omega
  have eu : (Finset.univ : Finset S160.Idx) = ((tvV.slice (Rect.unit (s := S160) ![0] S128.size inb_S160_S128_0) (fun _ => rfl)).view).set ∪ (((tvV.slice (Rect.unit (s := S160) ![128] S16.size inb_S160_S16_128) (fun _ => rfl)).view).set ∪ ((tvV.slice (Rect.unit (s := S160) ![144] S16.size inb_S160_S16_144) (fun _ => rfl)).view).set) := by
    ext i
    have hi : (i 0).val < 160 := (i 0).isLt
    refine ⟨fun _ => ?_, fun _ => Finset.mem_univ _⟩
    rcases Nat.lt_or_ge (i 0).val 128 with h | h
    · exact Finset.mem_union_left _ ((eA i).mpr (by omega))
    · rcases Nat.lt_or_ge (i 0).val 144 with h' | h'
      · exact Finset.mem_union_right _ (Finset.mem_union_left _ ((eB i).mpr (by omega)))
      · exact Finset.mem_union_right _ (Finset.mem_union_right _ ((eC i).mpr (by omega)))
  have e1 : (tvV.view.loc (V d (cV L) (jV L)) ↦[((tvV.slice (Rect.unit (s := S160) ![0] S128.size inb_S160_S128_0) (fun _ => rfl)).view).set ∪ (((tvV.slice (Rect.unit (s := S160) ![128] S16.size inb_S160_S16_128) (fun _ => rfl)).view).set ∪ ((tvV.slice (Rect.unit (s := S160) ![144] S16.size inb_S160_S16_144) (fun _ => rfl)).view).set)]{fullShare} (gt : Buf (Elt F) (tvV.view.loc (V d (cV L) (jV L)))) : sProp 𝕄)
      ⊣⊢ _ := pointsTo_union d1
  rw [← eu] at e1
  exact e1.trans (sep_congr_right (pointsTo_union d2))

/-- The rows of a result that the tile at `L` writes. -/
abbrev oP (L : grid1.Coords) : Memref sig .scVector .hbm S128 .f32 := oV.slice (Rect.unit (s := S4096) (k1_off9 L) S128.size (k1_off9_inb L)) (fun _ => rfl)
/-- The rows of a result that the tile at `L` writes. -/
abbrev wP (L : grid1.Coords) : Memref sig .scVector .hbm S128 .f32 := wV.slice (Rect.unit (s := S4096) (k1_off9 L) S128.size (k1_off9_inb L)) (fun _ => rfl)

/-- A tile's own buffers and semaphores, at rest. -/
def ownT (d : Dev nD) (L : grid1.Coords) : sProp 𝕄 :=
  iprop(emp
    ∗ (∃ g : Buf (Elt F) (thV.view.loc (V d (cV L) (jV L))), thV.view.loc (V d (cV L) (jV L)) ↦{fullShare} g)
    ∗ (∃ g : Buf (Elt F) (tvV.view.loc (V d (cV L) (jV L))), tvV.view.loc (V d (cV L) (jV L)) ↦{fullShare} g)
    ∗ (∃ g : Buf (Elt F) (ubV.view.loc (V d (cV L) (jV L))), ubV.view.loc (V d (cV L) (jV L)) ↦{fullShare} g)
    ∗ (∃ g : Buf (Elt F) (iaV.view.loc (V d (cV L) (jV L))), iaV.view.loc (V d (cV L) (jV L)) ↦{fullShare} g)
    ∗ (∃ g : Buf (Elt F) (urV.view.loc (V d (cV L) (jV L))), urV.view.loc (V d (cV L) (jV L)) ↦{fullShare} g)
    ∗ (∃ g : Buf (Elt F) (tcV.view.loc (V d (cV L) (jV L))), tcV.view.loc (V d (cV L) (jV L)) ↦{fullShare} g)
    ∗ (∃ g : Buf (Elt F) (thcV.view.loc (V d (cV L) (jV L))), thcV.view.loc (V d (cV L) (jV L)) ↦{fullShare} g)
    ∗ (∃ g : Buf (Elt F) (rsV.view.loc (V d (cV L) (jV L))), rsV.view.loc (V d (cV L) (jV L)) ↦{fullShare} g)
    ∗ (∃ g : Buf (Elt F) (dnV.view.loc (V d (cV L) (jV L))), dnV.view.loc (V d (cV L) (jV L)) ↦{fullShare} g)
    ∗ semVal (V d (cV L) (jV L), .dma cc1_scratch9.sem) 0
    ∗ semVal (V d (cV L) (jV L), .dma cc1_scratch10.sem) 0
    ∗ semVal (V d (cV L) (jV L), .dma cc1_scratch11.sem) 0
    ∗ semVal (V d (cV L) (jV L), .dma cc1_scratch12.sem) 0
    ∗ semVal (V d (cV L) (jV L), .dma cc1_scratch13.sem) 0
    ∗ semVal (V d (cV L) (jV L), .dma cc1_scratch14.sem) 0
    ∗ semVal (V d (cV L) (jV L), .dma cc1_scratch15.sem) 0
    ∗ semVal (V d (cV L) (jV L), .dma cc1_scratch16.sem) 0)

/-- The three tables, read. -/
def tabs (d : Dev nD) (L : grid1.Coords) (q : PosShare TreeShare) (ft : TT F) (fa : TA F) (fu : TU F) : sProp 𝕄 :=
  iprop((tV.view.loc (V d (cV L) (jV L)) ↦{q} (ft : Buf (Elt F) (tV.view.loc (V d (cV L) (jV L)))))
    ∗ (aV.view.loc (V d (cV L) (jV L)) ↦{q} (fa : Buf (Elt F) (aV.view.loc (V d (cV L) (jV L)))))
    ∗ (uV.view.loc (V d (cV L) (jV L)) ↦{q} (fu : Buf (Elt F) (uV.view.loc (V d (cV L) (jV L))))))

/-- The tile's rows of the two results. -/
def outs (d : Dev nD) (L : grid1.Coords) (go gw : S4096.Idx → F .f32) : sProp 𝕄 :=
  iprop(((oP L).view.loc (V d (cV L) (jV L)) ↦[(oP L).view.set]{fullShare} (go : Buf (Elt F) ((oP L).view.loc (V d (cV L) (jV L)))))
    ∗ ((wP L).view.loc (V d (cV L) (jV L)) ↦[(wP L).view.set]{fullShare} (gw : Buf (Elt F) ((wP L).view.loc (V d (cV L) (jV L))))))

/-- What the groups of the first block keep. -/
def keep1 (d : Dev nD) (L : grid1.Coords) (gh : S144.Idx → F .f32) (gu : S128x128.Idx → F .f32) (gt : S160.Idx → F .f32) (base : F .f32) (g : ℕ)
    (und : BitVec 32) : sProp 𝕄 :=
  iprop((thV.view.loc (V d (cV L) (jV L)) ↦{fullShare} (gh : Buf (Elt F) (thV.view.loc (V d (cV L) (jV L)))))
    ∗ (ubV.view.loc (V d (cV L) (jV L)) ↦{fullShare} (gu : Buf (Elt F) (ubV.view.loc (V d (cV L) (jV L)))))
    ∗ (tvV.view.loc (V d (cV L) (jV L)) ↦{fullShare} (gt : Buf (Elt F) (tvV.view.loc (V d (cV L) (jV L)))))
    ∗ ∃ (fr : S128.Idx → F .f32) (fd : S128.Idx → BitVec 32),
      (rsV.view.loc (V d (cV L) (jV L)) ↦{fullShare} (fr : Buf (Elt F) (rsV.view.loc (V d (cV L) (jV L)))))
      ∗ (dnV.view.loc (V d (cV L) (jV L)) ↦{fullShare} (fd : Buf (Elt F) (dnV.view.loc (V d (cV L) (jV L)))))
      ∗ ⌜Inv1 gh gu gt base g und fr fd⌝)

/-- What the rows keep. -/
def keep3 (d : Dev nD) (L : grid1.Coords) (q : PosShare TreeShare) (O : CellTallies nD τ sig (HIx 1)) (W : Waits sig (HIx 1))
    (ft : TT F) (fa : TA F) (fu : TU F) (fd : S128.Idx → BitVec 32) (r : ℕ) (_ : Unit) : sProp 𝕄 :=
  iprop(Transfers.MayWaits (V d (cV L) (jV L)) (default : HIx 1) O ∗ room3 d L q O W ft fa fu fd
    ∗ ∃ fr : S128.Idx → F .f32, (rsV.view.loc (V d (cV L) (jV L)) ↦{fullShare} (fr : Buf (Elt F) (rsV.view.loc (V d (cV L) (jV L)))))
      ∗ ⌜Inv3 ft fa fu L r fr fd⌝)

/-- The rows the first block left, searched if there is one. -/
theorem cond_run (d : Dev nD) (L : grid1.Coords) (v2 : BitVec 32) (v41 : FVec F S16 .f32) (v44 : F .f32) (v256 : IVec S16 32)
    (v272 : FVec F S16 .f32) (v274 : Vec F S16 .f32) (und : BitVec 32)
    (q : PosShare TreeShare) (O : CellTallies nD τ sig (HIx 1)) (W : Waits sig (HIx 1))
    (ft : TT F) (fa : TA F) (fu : TU F) (hfac : v44 = ft (ix1 (n0 := 9216) ⟨8320, by omega⟩))
    (fr : S128.Idx → F .f32) (fd : S128.Idx → BitVec 32) (hI : Inv3 ft fa fu L 0 fr fd)
    (hn : ¬ k1_cond2 und = 1#1 → ∀ r : Fin 128, fr (ix1 (n0 := 128) r) = pick ft fa fu (rowOf L r)) (Q : PUnit → sProp 𝕄) :
    iprop(Transfers.MayWaits (V d (cV L) (jV L)) (default : HIx 1) O ∗ room3 d L q O W ft fa fu fd
        ∗ (rsV.view.loc (V d (cV L) (jV L)) ↦{fullShare} (fr : Buf (Elt F) (rsV.view.loc (V d (cV L) (jV L)))))
        ∗ (∀ fr' : S128.Idx → F .f32, ⌜∀ r : Fin 128, fr' (ix1 (n0 := 128) r) = pick ft fa fu (rowOf L r)⌝ -∗ room3 d L q O W ft fa fu fd
            -∗ (rsV.view.loc (V d (cV L) (jV L)) ↦{fullShare} (fr' : Buf (Elt F) (rsV.view.loc (V d (cV L) (jV L))))) -∗ Q ⟨⟩))
      ⊢ wp frame (wpE (defs₀ (F := F)) 𝒱₀ (V d (cV L) (jV L)) none) Set.univ
          (if h2 : k1_cond2 und = 1#1 then do
             Scf.Loop.for k1_t3_loop k1_t3_ok ⟨⟩ (t3B L v2 v41 v44 v256 v272 v274 und h2)
             pure ⟨⟩
           else do pure ⟨⟩) Q := by
  by_cases h2 : k1_cond2 und = 1#1
  · rw [dif_pos h2]
    iintro ⟨#Hmw, Hroom, Hrs, HQ⟩
    sl_for (keep3 d L q O W ft fa fu fd) $$ [Hroom Hrs]
    case region =>
      intro r acc
      unfold keep3
      iintro ⟨#Hmw, Hroom, %fr', Hrs, %h3⟩
      iapply (t3_trip d L v2 v41 v44 v256 v272 v274 und h2 q O W ft fa fu hfac r fr' fd h3)
      isplitr; · iexact Hmw
      isplitl [Hroom]; · iexact Hroom
      isplitl [Hrs]; · iexact Hrs
      iintro %fr'' %h3' Hroom Hrs
      isplitr; · iexact Hmw
      isplitl [Hroom]; · iexact Hroom
      iexists fr''
      isplitl [Hrs]; · iexact Hrs
      ipureintro; exact h3'
    · unfold keep3
      isplitr; · iexact Hmw
      isplitl [Hroom]; · iexact Hroom
      iexists fr
      isplitl [Hrs]; · iexact Hrs
      ipureintro; exact hI
    iintro %acc HI
    unfold keep3
    icases HI with ⟨-, Hroom, %fr', Hrs, %h3⟩
    have e128 : Scf.trips k1_t3_loop.lb k1_t3_loop.ub k1_t3_loop.st = 128 := by decide
    rw [e128] at h3
    sl_step
    iapply HQ $$ %fr' [] Hroom Hrs
    ipureintro; exact rows_searched h3
  · rw [dif_neg h2]
    iintro ⟨#Hmw, Hroom, Hrs, HQ⟩
    sl_step
    iapply HQ $$ %fr [] Hroom Hrs
    ipureintro; exact hn h2

set_option maxHeartbeats 64000000 in
/-- What one tile does. -/
theorem tile_run (d : Dev nD) (L : grid1.Coords) (q : PosShare TreeShare) (O : CellTallies nD τ sig (HIx 1)) (W : Waits sig (HIx 1))
    (ft : TT F) (fa : TA F) (fu : TU F) (go gw : S4096.Idx → F .f32) (Q : _ → sProp 𝕄) :
    iprop(Transfers.MayWaits (V d (cV L) (jV L)) (default : HIx 1) O ∗ tabs d L q ft fa fu ∗ outs d L go gw ∗ ownT d L
        ∗ owes (V d (cV L) (jV L)) O W
        ∗ (tabs d L q ft fa fu -∗ outs d L (rstOf ft fa fu) wOf -∗ ownT d L
            -∗ (∃ W', ⌜∀ p ∈ W', p ∈ W ∨ p.2 = none⌝ ∗ owes (V d (cV L) (jV L)) O W') -∗ Q ⟨⟩))
      ⊢ wp frame (wpE (defs₀ (F := F)) 𝒱₀ (V d (cV L) (jV L)) none) Set.univ
          (cc1__sc_scan (F := F) L tV (Memref.isWhole_whole _) aV (Memref.isWhole_whole _) uV (Memref.isWhole_whole _) oV (Memref.isWhole_whole _) wV (Memref.isWhole_whole _)
               thV (Memref.isWhole_whole _) tvV (Memref.isWhole_whole _) ubV (Memref.isWhole_whole _) iaV (Memref.isWhole_whole _) urV (Memref.isWhole_whole _)
               tcV (Memref.isWhole_whole _) thcV (Memref.isWhole_whole _) rsV (Memref.isWhole_whole _) dnV (Memref.isWhole_whole _)
               cc1_scratch9 cc1_scratch10 cc1_scratch11 cc1_scratch12 cc1_scratch13 cc1_scratch14 cc1_scratch15 cc1_scratch16)
          Q := by
  rw [cc1__sc_scan_eq_skeleton]
  unfold cc1__sc_scan_skel tabs outs ownT
  sl_open_parts
  iintro ⟨#Hmw, ⟨Ht, Ha, Hu⟩, ⟨Ho, Hw⟩, ⟨-, ⟨%gh, Hth⟩, ⟨%gt, Htv⟩, ⟨%gb, Hub⟩, ⟨%ga, Hia⟩, ⟨%gur, Hur⟩, ⟨%gtc, Htc⟩, ⟨%gthc, Hthc⟩, ⟨%gr, Hrs⟩, ⟨%gd, Hdn⟩, S9, S10, S11, S12, S13, S14, S15, S16⟩, HO, HQ⟩
  ihave Htv := (tv_split d L gt).1 $$ Htv
  icases Htv with ⟨HtvA, HtvB, HtvC⟩
  unfold SparseCore.vectorLoadIdx
  sl_exec
  generalize hga : View.write (Elt F) iaV.view ga _ Finset.univ = ga'
  generalize hgu : View.write (Elt F) ubV.view gb _ Finset.univ = gu'
  have ha : ∀ (l : Fin 128) (k : Fin 8), ga' (ix2 (n0 := 128) (n1 := 8) l k) = inten fa ⟨0 + l.val, by omega⟩ k := by
    intro l k
    rw [← hga, View.write_whole_univ]
    exact chunk_a fa (κ := 0) rfl inb_S1x8192x8_S1x128x8_0_0_0 l k (by omega)
  have hu : ∀ r j : Fin 128, gu' (ix2 (n0 := 128) (n1 := 128) r j) = fu (ix2 (n0 := 4096) (n1 := 8192) (rowOf L r) ⟨j.val, by omega⟩) := by
    intro r j
    rw [← hgu, View.write_whole_univ]
    exact block_u fu L (k1_off1_inb L) r j
  clear hga hgu
  have eA : ∀ i ∈ ((tvV.slice (Rect.unit (s := S160) ![0] S128.size inb_S160_S128_0) (fun _ => rfl)).view).set, ((tvV.slice (Rect.unit (s := S160) ![0] S128.size inb_S160_S128_0) (fun _ => rfl)).view).writes (Elt F) (gt) [⟨Rect.whole _, tile_run.sl.dma0 (F := F) ft⟩] i = gtF ft i :=
    landed (tvV.slice (Rect.unit (s := S160) ![0] S128.size inb_S160_S128_0) (fun _ => rfl)).view _ _ (gtF ft) (fun x => land_a ft x)
  have eB : ∀ i ∈ ((tvV.slice (Rect.unit (s := S160) ![128] S16.size inb_S160_S16_128) (fun _ => rfl)).view).set, ((tvV.slice (Rect.unit (s := S160) ![128] S16.size inb_S160_S16_128) (fun _ => rfl)).view).writes (Elt F) ((tvV.slice (Rect.unit (s := S160) ![128] S16.size inb_S160_S16_128) (fun _ => rfl)).view.junk) [⟨Rect.whole _, tile_run.sl.dma0_1 (F := F) ft⟩] i = gtF ft i :=
    landed (tvV.slice (Rect.unit (s := S160) ![128] S16.size inb_S160_S16_128) (fun _ => rfl)).view _ _ (gtF ft) (fun x => land_b ft x)
  have eC : ∀ i ∈ ((tvV.slice (Rect.unit (s := S160) ![144] S16.size inb_S160_S16_144) (fun _ => rfl)).view).set, ((tvV.slice (Rect.unit (s := S160) ![144] S16.size inb_S160_S16_144) (fun _ => rfl)).view).writes (Elt F) ((tvV.slice (Rect.unit (s := S160) ![144] S16.size inb_S160_S16_144) (fun _ => rfl)).view.junk) [⟨Rect.whole _, tile_run.sl.dma0_2 (F := F) ft⟩] i = gtF ft i :=
    landed (tvV.slice (Rect.unit (s := S160) ![144] S16.size inb_S160_S16_144) (fun _ => rfl)).view _ _ (gtF ft) (fun x => land_c ft x)
  have hfac : k1_pay44 (tile_run.sl.v42 (F := F) ft) = ft (ix1 (n0 := 9216) ⟨8320, by omega⟩) :=
    (eC (((tvV.slice (Rect.unit (s := S160) ![144] S16.size inb_S160_S16_144) (fun _ => rfl)).view).emb (ix1 (n0 := 16) 0)) (View.emb_mem_set _ _)).trans (fac_at ft _ rfl)
  generalize k1_pay44 (tile_run.sl.v42 (F := F) ft) = fac at hfac ⊢
  have hbase : ∀ x, k1_pay43 (tile_run.sl.v38 (F := F) ft) x = ft (ix1 (n0 := 9216) ⟨8192, by omega⟩) := fun _ =>
    (eB (((tvV.slice (Rect.unit (s := S160) ![128] S16.size inb_S160_S16_128) (fun _ => rfl)).view).emb (ix1 (n0 := 16) 0)) (View.emb_mem_set _ _)).trans (base_at ft _ rfl)
  generalize k1_pay43 (tile_run.sl.v38 (F := F) ft) = bas at hbase ⊢
  generalize hgh : thV.view.writes (Elt F) gh _ = gh'
  have hh : ∀ l : Fin 128, gh' (ix1 (n0 := 144) ⟨l.val, by omega⟩) = thr ft fa ⟨l.val, by omega⟩ := by
    intro l
    rw [← hgh]
    have e : thr ft fa ⟨l.val, by omega⟩ = thrOf ga' fac l := by
      unfold thrOf thr
      simp only [ha, hfac, Nat.zero_add]
    rw [e]
    have em : ∀ (n : ℕ) (h : n < 128), thrOf ga' fac ⟨n, h⟩ = thrOf ga' fac ⟨n % 128, Nat.mod_lt _ (by decide)⟩ := fun n h =>
      congrArg (thrOf ga' fac) (Fin.ext (Nat.mod_eq_of_lt h).symm)
    refine (pieces8' thV.view _ _ _ _ _ _ _ _ _ _ _ _ _ _ _ _ _ (fun y => thrOf ga' fac ⟨(y 0).val % 128, Nat.mod_lt _ (by decide)⟩) (by decide) ?_ ?_ ?_ ?_ ?_ ?_ ?_ ?_ l).trans (em _ l.isLt).symm
    · intro x; exact (block16 ga' fac 0 _ rfl _ _ _ _ _ _ _ _ x).trans (em _ _)
    · intro x; exact (block16 ga' fac 1 _ rfl _ _ _ _ _ _ _ _ x).trans (em _ _)
    · intro x; exact (block16 ga' fac 2 _ rfl _ _ _ _ _ _ _ _ x).trans (em _ _)
    · intro x; exact (block16 ga' fac 3 _ rfl _ _ _ _ _ _ _ _ x).trans (em _ _)
    · intro x; exact (block16 ga' fac 4 _ rfl _ _ _ _ _ _ _ _ x).trans (em _ _)
    · intro x; exact (block16 ga' fac 5 _ rfl _ _ _ _ _ _ _ _ x).trans (em _ _)
    · intro x; exact (block16 ga' fac 6 _ rfl _ _ _ _ _ _ _ _ x).trans (em _ _)
    · intro x; exact (block16 ga' fac 7 _ rfl _ _ _ _ _ _ _ _ x).trans (em _ _)
  clear hgh
  ihave HtvA := (Entails.of_eq (pointsTo_congr eA)) $$ HtvA
  ihave HtvB := (Entails.of_eq (pointsTo_congr eB)) $$ HtvB
  ihave HtvC := (Entails.of_eq (pointsTo_congr eC)) $$ HtvC
  ihave Htv := (tv_split d L (gtF ft)).2 $$ [HtvA HtvB HtvC]
  · isplitl [HtvA]; · iexact HtvA
    isplitl [HtvB]; · iexact HtvB
    iexact HtvC
  clear eA eB eC
  rw [wp_bind]
  sl_for (keep1 d L gh' gu' (gtF ft) (ft (ix1 (n0 := 9216) ⟨8192, by omega⟩))) $$ [Hth Hub Htv Hrs Hdn]
  case region =>
    intro g und
    unfold keep1
    iintro ⟨Hth, Hub, Htv, %fr, %fd, Hrs, Hdn, %h1⟩
    iapply (t1_trip d L _ bas fac _ _ _ g gh' gu' (gtF ft) fr fd _ hbase und h1)
    isplitl [Hth]; · iexact Hth
    isplitl [Hub]; · iexact Hub
    isplitl [Htv]; · iexact Htv
    isplitl [Hrs]; · iexact Hrs
    isplitl [Hdn]; · iexact Hdn
    iintro %und' %fr' %fd' %h1' Hth Hub Htv Hrs Hdn
    isplitl [Hth]; · iexact Hth
    isplitl [Hub]; · iexact Hub
    isplitl [Htv]; · iexact Htv
    iexists fr'; iexists fd'
    isplitl [Hrs]; · iexact Hrs
    isplitl [Hdn]; · iexact Hdn
    ipureintro; exact h1'
  · unfold keep1
    isplitl [Hth]; · iexact Hth
    isplitl [Hub]; · iexact Hub
    isplitl [Htv]; · iexact Htv
    iexists gr; iexists gd
    isplitl [Hrs]; · iexact Hrs
    isplitl [Hdn]; · iexact Hdn
    ipureintro
    exact ⟨Nat.zero_le _, fun _ r h => absurd h (Nat.not_lt_zero _), fun r h => absurd h (Nat.not_lt_zero _)⟩
  iintro %und HI
  unfold keep1
  icases HI with ⟨Hth, Hub, Htv, %fr, %fd, Hrs, Hdn, %h1⟩
  have e8 : Scf.trips k1_t1_loop.lb k1_t1_loop.ub k1_t1_loop.st = 8 := by decide
  rw [e8] at h1
  have h3 := rows_first hh hu rfl h1
  unfold tile_run.sl.prog.cont_1
  rw [dite_join, wp_bind]
  iapply (cond_run d L _ bas fac _ _ _ und q O W ft fa fu hfac fr fd h3 (fun hc => rows_done h1 h3 hc))
  unfold room3 room4
  isplitr; · iexact Hmw
  isplitl [Ha Hu Hur Hia Htc S12 S14 HO Ht Hthc Hdn S15]
  · isplitl [Ha Hu Hur Hia Htc S12 S14 HO]
    · isplitl [Ha]; · iexact Ha
      isplitl [Hu]; · iexact Hu
      isplitl [Hur]; · iexists _; iexact Hur
      isplitl [Hia]; · iexists _; iexact Hia
      isplitl [Htc]; · iexists _; iexact Htc
      isplitl [S12]; · iexact S12
      isplitl [S14]; · iexact S14
      iexists _; isplitr; swap; · iexact HO
      ipureintro
      exact waits1 (waits1 (waits1 (waits1 (waits1 fun p hp => Or.inl hp))))
    isplitl [Ht]; · iexact Ht
    isplitl [Hthc]; · iexists _; iexact Hthc
    isplitl [Hdn]; · iexact Hdn
    iexact S15
  isplitl [Hrs]; · iexact Hrs
  iintro %fr' %hr ⟨⟨Ha, Hu, ⟨%gur', Hur⟩, ⟨%ga2, Hia⟩, ⟨%gtc', Htc⟩, S12, S14, %W', %hW, HO⟩, Ht, ⟨%gthc', Hthc⟩, Hdn, S15⟩ Hrs
  have eO := landed (oP L).view go (View.read (Elt F) rsV.view fr') (rstOf ft fa fu : S4096.Idx → F .f32) (fun x => by
    refine Eq.trans ?_ (out_rows L (k1_off9_inb L) (rstOf ft fa fu) x).symm
    obtain ⟨r, rfl⟩ : ∃ r : Fin 128, x = ix1 (n0 := 128) r := ⟨x 0, funext fun a => by obtain rfl : a = 0 := Fin.eq_zero a; rfl⟩
    exact hr r)
  sl_exec
  have eW := landed (wP L).view gw (tile_run.sl.dma16 (F := F) fr') (wOf : S4096.Idx → F .f32) (fun x => by
    obtain ⟨r, rfl⟩ : ∃ r : Fin 128, x = ix1 (n0 := 128) r := ⟨x 0, funext fun a => by obtain rfl : a = 0 := Fin.eq_zero a; rfl⟩
    exact pieces8' rsV.view fr' _ _ _ _ _ _ _ _ inb_S128_S16_0 inb_S128_S16_16 inb_S128_S16_32 inb_S128_S16_48 inb_S128_S16_64 inb_S128_S16_80
      inb_S128_S16_96 inb_S128_S16_112 (fun _ => FloatOps.ofBits .f32 0x39800000#32) (by decide)
      (fun _ => rfl) (fun _ => rfl) (fun _ => rfl) (fun _ => rfl) (fun _ => rfl) (fun _ => rfl) (fun _ => rfl) (fun _ => rfl) r)
  sl_step
  ihave Ho := (Entails.of_eq (pointsTo_congr eO)) $$ Ho
  ihave Hw := (Entails.of_eq (pointsTo_congr eW)) $$ Hw
  iapply HQ $$ [Ht Ha Hu] [Ho Hw] [Hth Htv Hub Hia Hur Htc Hthc Hrs Hdn S9 S10 S11 S12 S13 S14 S15 S16] [HO]
  · isplitl [Ht]; · iexact Ht
    isplitl [Ha]; · iexact Ha
    iexact Hu
  · isplitl [Ho]; · iexact Ho
    iexact Hw
  · isplitr
    · iempintro
    isplitl [Hth]; · iexists _; iexact Hth
    isplitl [Htv]; · iexists _; iexact Htv
    isplitl [Hub]; · iexists _; iexact Hub
    isplitl [Hia]; · iexists _; iexact Hia
    isplitl [Hur]; · iexists _; iexact Hur
    isplitl [Htc]; · iexists _; iexact Htc
    isplitl [Hthc]; · iexists _; iexact Hthc
    isplitl [Hrs]; · iexists _; iexact Hrs
    isplitl [Hdn]; · iexists _; iexact Hdn
    isplitl [S9]; · iexact S9
    isplitl [S10]; · iexact S10
    isplitl [S11]; · iexact S11
    isplitl [S12]; · iexact S12
    isplitl [S13]; · iexact S13
    isplitl [S14]; · iexact S14
    isplitl [S15]; · iexact S15
    iexact S16
  · iexists _; isplitr; swap; · iexact HO
    ipureintro
    exact waits2 hW

end Cert.Proof

end
-- ==== Proof.Task.lean ====
/-
  The tiles' part of the launch: what the handshakes carry, what a tile is handed, and that each tile does its rows.
-/
module

public import proofs.«01_k».proof.Proof.Tile
public import Idealize.ShloMosaic.Lib.Pipeline.Kit

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The tile of SparseCore `c` and vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The same, from two numbers. -/
abbrev LV (c : Fin 2) (i : Fin 16) : grid1.Coords := coordsV c i

/-- A tile's share of the tables. -/
abbrev qs (c : Fin 2) (i : Fin 16) : PosShare TreeShare := Transfers.shareTok (Transfers.shareTok fullShare 2 c) 16 i

/-- The tile's nine buffers. -/
abbrev scrL : List (Ref sig .scVector) :=
  [cc1_scratch0, cc1_scratch1, cc1_scratch2, cc1_scratch3, cc1_scratch4, cc1_scratch5, cc1_scratch6, cc1_scratch7, cc1_scratch8]
/-- The tile's eight semaphores. -/
abbrev semL : List (SemLoc sig) :=
  [.dma cc1_scratch9.sem, .dma cc1_scratch10.sem, .dma cc1_scratch11.sem, .dma cc1_scratch12.sem, .dma cc1_scratch13.sem,
    .dma cc1_scratch14.sem, .dma cc1_scratch15.sem, .dma cc1_scratch16.sem]

/-- A family over a set, parted by the members that a one-to-one function names. -/
theorem part_named {M : Type} [URA M] {I J : Type} [DecidableEq I] [DecidableEq J] {s : Finset I} {t : Finset J} {f : J → I} (inj : Set.InjOn f t)
    (sub : ∀ j ∈ t, f j ∈ s) {Φ : I → sProp M} :
    bigSep s Φ = iprop(bigSep t (fun j => Φ (f j)) ∗ bigSep (s \ t.image f) Φ) := by
  rw [bigSep_sdiff_split (t := t.image f) (fun x hx => by obtain ⟨j, hj, rfl⟩ := Finset.mem_image.mp hx; exact sub j hj),
    bigSep_image_of_injOn inj]
  rfl

/-- A subcore's own semaphores are the eight and the rest. -/
theorem ownSems0_V (d : Dev nD) (c : Fin τ.nSC) (i : Fin τ.nSub) :
    (ownSems0 (V d c i) : sProp 𝕄)
      = iprop((semVal (V d c i, .dma cc1_scratch9.sem) 0 ∗ semVal (V d c i, .dma cc1_scratch10.sem) 0 ∗ semVal (V d c i, .dma cc1_scratch11.sem) 0 ∗ semVal (V d c i, .dma cc1_scratch12.sem) 0 ∗ semVal (V d c i, .dma cc1_scratch13.sem) 0 ∗ semVal (V d c i, .dma cc1_scratch14.sem) 0 ∗ semVal (V d c i, .dma cc1_scratch15.sem) 0 ∗ semVal (V d c i, .dma cc1_scratch16.sem) 0)
          ∗ bigSep (ownCells (V d c i) \ semL.toFinset.image fun s => (V d c i, s)) fun g => semVal g 0) := by
  unfold SparseCore.Cfg.ownSems0
  rw [part_named (t := semL.toFinset) (f := fun s : SemLoc sig => ((V d c i, s) : GSem nD τ sig)) (fun a _ b _ h => (Prod.mk.inj h).2)
    (fun s hs => mem_ownCells.mpr ⟨rfl, by
      have : ∀ s ∈ semL.toFinset, (s : SemLoc sig).isScoped .scVector = true := by decide
      exact this s hs⟩), bigSep_eq_bigSepL semL (by decide)]; rfl

/-- A subcore's own buffers are the nine and the rest. -/
theorem ownBufs_V (d : Dev nD) (c : Fin τ.nSC) (i : Fin τ.nSub) :
    (ownBufs (V d c i) : sProp 𝕄)
      = iprop(((∃ f, (V d c i).loc cc1_scratch0 ↦{fullShare} f) ∗ (∃ f, (V d c i).loc cc1_scratch1 ↦{fullShare} f) ∗ (∃ f, (V d c i).loc cc1_scratch2 ↦{fullShare} f) ∗ (∃ f, (V d c i).loc cc1_scratch3 ↦{fullShare} f) ∗ (∃ f, (V d c i).loc cc1_scratch4 ↦{fullShare} f) ∗ (∃ f, (V d c i).loc cc1_scratch5 ↦{fullShare} f) ∗ (∃ f, (V d c i).loc cc1_scratch6 ↦{fullShare} f) ∗ (∃ f, (V d c i).loc cc1_scratch7 ↦{fullShare} f) ∗ (∃ f, (V d c i).loc cc1_scratch8 ↦{fullShare} f))
          ∗ bigSep (ownRefs (τ := τ) (.scVector c i) \ scrL.toFinset.image (Proc.scVector c i).devRef)
              fun b => iprop(∃ f, ((d, b) : Loc nD τ sig) ↦{fullShare} f)) := by
  unfold SparseCore.Cfg.ownBufs
  refine (part_named (t := scrL.toFinset) (f := (Proc.scVector c i).devRef) (fun a _ b _ h => Proc.devRef_injective _ h)
    (fun b hb => SparseCore.Cfg.mem_ownRefs_of_owner ?_)).trans ?_
  · simp only [List.toFinset_cons, List.toFinset_nil, Finset.mem_insert, Finset.notMem_empty, or_false] at hb
    rcases hb with rfl | rfl | rfl | rfl | rfl | rfl | rfl | rfl | rfl <;> rfl
  · rw [bigSep_eq_bigSepL scrL (by decide)]; rfl

variable (m : (ℓ : Loc nD τ sig) → Buf (Elt F) ℓ) (ft : Dev nD → TT F)

/-- The intensities, as launched. -/
abbrev faOf (d : Dev nD) : TA F := m ((SparseCore.T d).loc main_arg1)
/-- The uniform numbers, as launched. -/
abbrev fuOf (d : Dev nD) : TU F := m ((SparseCore.T d).loc main_arg3)

/-- What a tile takes: its shares of the tables, its rows of the results. -/
def goR (d : Dev nD) (c : Fin 2) (i : Fin 16) : sProp 𝕄 :=
  iprop(tabs d (LV c i) (qs c i) (ft d) (faOf m d) (fuOf m d)
    ∗ outs d (LV c i) (m ((SparseCore.T d).loc main_v6_0)) (m ((SparseCore.T d).loc main_v6_1)))
/-- What a tile brings back. -/
def tdR (d : Dev nD) (c : Fin 2) (i : Fin 16) : sProp 𝕄 :=
  iprop(tabs d (LV c i) (qs c i) (ft d) (faOf m d) (fuOf m d)
    ∗ outs d (LV c i) (rstOf (ft d) (faOf m d) (fuOf m d)) wOf)

/-- What a tile is handed can be stored. -/
instance goR_storable (d : Dev nD) (c : Fin 2) (i : Fin 16) : BI.Storable (upEmb : UEmb _ 𝕄) (goR m ft d c i) := by
  unfold goR tabs outs; infer_instance
/-- What a tile hands back can be stored. -/
instance tdR_storable (d : Dev nD) (c : Fin 2) (i : Fin 16) : BI.Storable (upEmb : UEmb _ 𝕄) (tdR m ft d c i) := by
  unfold tdR tabs outs; infer_instance

/-- What the handshakes carry: each SparseCore its tiles' parts. -/
def P : (K (F := F)).Pay (nD := nD) (Val := Elt F) (Name := ℕ) (U := UU) where
  st := fun q d c => match q with | 0 => bigSep Finset.univ fun i : Fin 16 => goR m ft d c i
  dn := fun q d c => match q with | 0 => bigSep Finset.univ fun i : Fin 16 => tdR m ft d c i
  go := fun q d c i => match q with | 0 => goR m ft d c i
  td := fun q d c i => match q with | 0 => tdR m ft d c i
  x := fun _ _ => iprop(emp)

/-- What the handshakes carry can be stored. -/
instance P_storable : (P m ft).IsStorable where
  st q d c := match q with
    | 0 => (inferInstance : BI.Storable (upEmb : UEmb _ 𝕄) (bigSep Finset.univ fun i : Fin 16 => goR m ft d c i))
  dn q d c := match q with
    | 0 => (inferInstance : BI.Storable (upEmb : UEmb _ 𝕄) (bigSep Finset.univ fun i : Fin 16 => tdR m ft d c i))
  go q d c i := match q with
    | 0 => (inferInstance : BI.Storable (upEmb : UEmb _ 𝕄) (goR m ft d c i))
  td q d c i := match q with
    | 0 => (inferInstance : BI.Storable (upEmb : UEmb _ 𝕄) (tdR m ft d c i))

/-- The SparseCore's part is its tiles'. -/
theorem vecSplit : (K (F := F)).VecSplit' (P m ft) 0 := by
  intro d c
  show (bigSep Finset.univ fun i : Fin 16 => goR m ft d c i) ⊢ |={Set.univ}=> iprop(
      (bigSep Finset.univ fun i : Fin 16 => goR m ft d c i)
      ∗ ((bigSep Finset.univ fun i : Fin 16 => tdR m ft d c i) -∗ bigSep Finset.univ fun i : Fin 16 => tdR m ft d c i))
  iintro H; imodintro
  isplitl [H]; · iexact H
  iintro H; iexact H

/-- The task of one tile, from what the launch hands its thread. -/
theorem tile_body (d : Dev nD) (c : Fin 2) (i : Fin 16) (hF : (K (F := F)).Facts) (O : CellTallies nD τ sig (HIx 1)) (W : Waits sig (HIx 1))
    (hO : ∀ g, O g none = 0) :
    iprop(levAts (K (F := F)).L (K (F := F)).lev ∗ emp ∗ goR m ft d c i
        ∗ scopedBufs (V d (cV (LV c i)) (jV (LV c i))) ∗ scopedSems0 (V d (cV (LV c i)) (jV (LV c i))) ∗ owes (V d (cV (LV c i)) (jV (LV c i))) O W)
      ⊢ wp frame (wpE (defs₀ (F := F)) 𝒱₀ (V d (cV (LV c i)) (jV (LV c i))) none) Set.univ
          (cc1__sc_scan (F := F) (LV c i) tV (Memref.isWhole_whole _) aV (Memref.isWhole_whole _) uV (Memref.isWhole_whole _) oV (Memref.isWhole_whole _) wV (Memref.isWhole_whole _)
               thV (Memref.isWhole_whole _) tvV (Memref.isWhole_whole _) ubV (Memref.isWhole_whole _) iaV (Memref.isWhole_whole _) urV (Memref.isWhole_whole _)
               tcV (Memref.isWhole_whole _) thcV (Memref.isWhole_whole _) rsV (Memref.isWhole_whole _) dnV (Memref.isWhole_whole _)
               cc1_scratch9 cc1_scratch10 cc1_scratch11 cc1_scratch12 cc1_scratch13 cc1_scratch14 cc1_scratch15 cc1_scratch16)
          fun _ => iprop(tdR m ft d c i
            ∗ scopedBufs (V d (cV (LV c i)) (jV (LV c i))) ∗ scopedSems0 (V d (cV (LV c i)) (jV (LV c i)))
            ∗ ∃ W', ⌜∀ p ∈ W', p ∈ W ∨ p.2 = none⌝ ∗ owes (V d (cV (LV c i)) (jV (LV c i))) O W') := by
  rw [(K (F := F)).scopedBufs_V hF d (cV (LV c i)) (jV (LV c i)), SparseCore.Cfg.scopedSems0_V (Val := Elt F) d (cV (LV c i)) (jV (LV c i)), ownSems0_V, ownBufs_V]
  unfold goR tdR
  iintro ⟨#Hlv, -, ⟨Ht, Ho⟩, ⟨⟨B0, B1, B2, B3, B4, B5, B6, B7, B8⟩, Hbufs⟩, ⟨⟨S9, S10, S11, S12, S13, S14, S15, S16⟩, Hsems⟩, HO⟩
  ihave Hmw := (show levAts (K (F := F)).L (K (F := F)).lev ⊢ Transfers.MayWaits (V d (cV (LV c i)) (jV (LV c i))) (default : HIx 1) O from
    (K (F := F)).mayWaits_none (thr := V d (cV (LV c i)) (jV (LV c i))) hO) $$ Hlv
  iapply (tile_run d (LV c i) (qs c i) O W (ft d) (faOf m d) (fuOf m d) (m ((SparseCore.T d).loc main_v6_0)) (m ((SparseCore.T d).loc main_v6_1)))
  isplitl [Hmw]; · iexact Hmw
  isplitl [Ht]; · iexact Ht
  isplitl [Ho]; · iexact Ho
  isplitl [B0 B1 B2 B3 B4 B5 B6 B7 B8 S9 S10 S11 S12 S13 S14 S15 S16]
  · unfold ownT
    isplitr; · iempintro
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact S16
  isplitl [HO]; · iexact HO
  iintro Ht Ho Hown HO
  unfold ownT
  icases Hown with ⟨-, B0, B1, B2, B3, B4, B5, B6, B7, B8, S9, S10, S11, S12, S13, S14, S15, S16⟩
  isplitl [Ht Ho]
  · isplitl [Ht]; · iexact Ht
    iexact Ho
  isplitl [B0 B1 B2 B3 B4 B5 B6 B7 B8 Hbufs]
  · isplitr [Hbufs]; swap; · iexact Hbufs
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  isplitr [HO]; swap; · iexact HO
  isplitr [Hsems]; swap; · iexact Hsems
  isplitl [S9]; · iexact S9
  isplitl [S10]; · iexact S10
  isplitl [S11]; · iexact S11
  isplitl [S12]; · iexact S12
  isplitl [S13]; · iexact S13
  isplitl [S14]; · iexact S14
  isplitl [S15]; · iexact S15
  iexact S16

/-- What a vector subcore runs. -/
theorem defs₀_vector (c : Fin τ.nSC) (s : Fin τ.nSub) :
    defs₀ (F := F) (.scVector c s) 1 ()
      = SparseCore.onTile hcore1 hsub1 (fun c s => cc1__sc_scan (F := F) (coordsV c s) tV (Memref.isWhole_whole _) aV (Memref.isWhole_whole _) uV (Memref.isWhole_whole _) oV (Memref.isWhole_whole _) wV (Memref.isWhole_whole _)
               thV (Memref.isWhole_whole _) tvV (Memref.isWhole_whole _) ubV (Memref.isWhole_whole _) iaV (Memref.isWhole_whole _) urV (Memref.isWhole_whole _)
               tcV (Memref.isWhole_whole _) thcV (Memref.isWhole_whole _) rsV (Memref.isWhole_whole _) dnV (Memref.isWhole_whole _)
               cc1_scratch9 cc1_scratch10 cc1_scratch11 cc1_scratch12 cc1_scratch13 cc1_scratch14 cc1_scratch15 cc1_scratch16) ⟨⟩ c s := rfl

/-- The waits a task records, said as the launch asks. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile does its task. -/
theorem tileObl (hF : (K (F := F)).Facts) : (K (F := F)).TileObl (D (F := F)) 𝒱 (P m ft) v₀ 0 := by
  intro d c i O W hO _ _
  simp only [show (P m ft).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m ft d ⟨_, hci.1⟩ ⟨_, hci.2⟩ hF O W hO).trans (wp_mono frame _ _ fun _ => obl_post)

end Cert.Proof

end
-- ==== Proof.Deal.lean ====
/-
  Dealing the tables and the results to the tiles, and putting them together again.
-/
module

public import proofs.«01_k».proof.Proof.Task
public import Idealize.ShloMosaic.Lib.Pipeline.Kit

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Two assertions that entail each other are one. -/
theorem eq_of_both {P Q : sProp 𝕄} (h : P ⊢ Q) (h' : Q ⊢ P) : P = Q := BI.Entails.antisymm h h'

/-- What is kept of a table while the tiles hold their shares of it. -/
def kept (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTok fullShare 2 c) 16} f)

/-- A table is what is kept of it and the tiles' shares. -/
theorem table_deal (ℓ : Loc nD τ sig) (f : Buf (Elt F) ℓ) :
    (ℓ ↦{fullShare} f : sProp 𝕄) = iprop(kept ℓ f ∗ bigSep Finset.univ fun c : Fin 2 => bigSep Finset.univ fun i : Fin 16 => ℓ ↦{qs c i} f) := by
  have h2 : (ℓ ↦{fullShare} f : sProp 𝕄)
      = iprop((ℓ ↦{Transfers.shareDrop fullShare 2} f) ∗ bigSep Finset.univ fun c : Fin 2 => ℓ ↦{Transfers.shareTok fullShare 2 c} f) :=
    BI.Entails.antisymm (Transfers.pointsTo_toks fullShare 2).1 (Transfers.pointsTo_toks fullShare 2).2
  have h16 : (bigSep Finset.univ fun c : Fin 2 => (ℓ ↦{Transfers.shareTok fullShare 2 c} f : sProp 𝕄))
      = iprop((bigSep Finset.univ fun c : Fin 2 => ℓ ↦{Transfers.shareDrop (Transfers.shareTok fullShare 2 c) 16} f)
        ∗ bigSep Finset.univ fun c : Fin 2 => bigSep Finset.univ fun i : Fin 16 => ℓ ↦{qs c i} f) := by
    rw [← bigSep_sep']
    exact bigSep_congr fun c _ => BI.Entails.antisymm (Transfers.pointsTo_toks (Transfers.shareTok fullShare 2 c) 16).1 (Transfers.pointsTo_toks (Transfers.shareTok fullShare 2 c) 16).2
  rw [h2, h16]
  unfold kept
  refine eq_of_both ?_ ?_
  · iintro ⟨H1, H2, H3⟩
    isplitl [H1 H2]
    · isplitl [H1]; · iexact H1
      iexact H2
    iexact H3
  · iintro ⟨⟨H1, H2⟩, H3⟩
    isplitl [H1]; · iexact H1
    isplitl [H2]; · iexact H2
    iexact H3

/-- The rows of a tile, as a set. -/
def rowsOf (c : Fin 2) (i : Fin 16) : Finset (S4096.Idx) :=
  (Rect.unit (s := S4096) (k1_off9 (LV c i)) S128.size (k1_off9_inb (LV c i))).set

/-- A row is a tile's when it lies in the tile's 128. -/
theorem mem_rowsOf (c : Fin 2) (i : Fin 16) (x : S4096.Idx) :
    x ∈ rowsOf c i ↔ (i.val * 2 + c.val) * 128 ≤ (x 0).val ∧ (x 0).val < (i.val * 2 + c.val) * 128 + 128 := by
  unfold rowsOf
  rw [Rect.mem_set_unit, off9_val, Fin.forall_fin_one]
  rfl

/-- The rows of the first result that a tile writes are its own. -/
theorem oP_set (c : Fin 2) (i : Fin 16) : (oP (LV c i)).view.set = rowsOf c i := View.set_slice_whole _ _
/-- The rows of the second result that a tile writes are its own. -/
theorem wP_set (c : Fin 2) (i : Fin 16) : (wP (LV c i)).view.set = rowsOf c i := View.set_slice_whole _ _

/-- Two tiles have no row in common. -/
theorem rows_disjoint : ∀ p ∈ (Finset.univ : Finset (Fin 2 × Fin 16)), ∀ p' ∈ (Finset.univ : Finset (Fin 2 × Fin 16)), p ≠ p' →
    Disjoint (rowsOf p.1 p.2) (rowsOf p'.1 p'.2) := by
  intro ⟨c, i⟩ _ ⟨c', i'⟩ _ hne
  rw [Finset.disjoint_left]
  intro x hx hx'
  rw [mem_rowsOf] at hx hx'
  apply hne
  have hc := c.isLt
  have hc' := c'.isLt
  dsimp only at hx hx'
  have h1 : i.val * 2 + c.val = i'.val * 2 + c'.val := by omega
  have h2 : c = c' := Fin.ext (by omega)
  have h3 : i = i' := Fin.ext (by omega)
  rw [h2, h3]

/-- The tiles have all the rows between them. -/
theorem rows_cover : (Finset.univ : Finset (Fin 2 × Fin 16)).biUnion (fun p => rowsOf p.1 p.2) = Finset.univ := by
  ext x
  simp only [Finset.mem_biUnion, Finset.mem_univ, true_and, iff_true]
  have hx : (x 0).val < 4096 := (x 0).isLt
  refine ⟨⟨⟨(x 0).val / 128 % 2, by omega⟩, ⟨(x 0).val / 256, by omega⟩⟩, ?_⟩
  rw [mem_rowsOf]
  show ((x 0).val / 256 * 2 + (x 0).val / 128 % 2) * 128 ≤ (x 0).val ∧ (x 0).val < ((x 0).val / 256 * 2 + (x 0).val / 128 % 2) * 128 + 128
  omega

/-- The first result is its tiles' rows. -/
theorem out0_deal (d : Dev nD) (f : S4096.Idx → F .f32) :
    (((d.tc : Thread nD τ).loc main_v6_0) ↦{fullShare} (f : Buf (Elt F) ((d.tc : Thread nD τ).loc main_v6_0)) : sProp 𝕄)
      = bigSep Finset.univ fun c : Fin 2 => bigSep Finset.univ fun i : Fin 16 =>
          ((oP (LV c i)).view.loc (V d (cV (LV c i)) (jV (LV c i))) ↦[(oP (LV c i)).view.set]{fullShare} (f : Buf (Elt F) ((oP (LV c i)).view.loc (V d (cV (LV c i)) (jV (LV c i)))))) := by
  have h := pointsTo_biUnion (ℓ := (d.tc : Thread nD τ).loc main_v6_0) (q := fullShare) (f := f) (Val := Elt F) (Ix := HIx 1) (Name := ℕ) (U := UU) (Lvl := ℕ)
    (Finset.univ : Finset (Fin 2 × Fin 16)) (fun p => rowsOf p.1 p.2) rows_disjoint
  rw [rows_cover, bigSep_univ_prod] at h
  refine h.trans (bigSep_congr fun c _ => bigSep_congr fun i _ => ?_)
  rw [oP_set]

/-- The second result is its tiles' rows. -/
theorem out1_deal (d : Dev nD) (f : S4096.Idx → F .f32) :
    (((d.tc : Thread nD τ).loc main_v6_1) ↦{fullShare} (f : Buf (Elt F) ((d.tc : Thread nD τ).loc main_v6_1)) : sProp 𝕄)
      = bigSep Finset.univ fun c : Fin 2 => bigSep Finset.univ fun i : Fin 16 =>
          ((wP (LV c i)).view.loc (V d (cV (LV c i)) (jV (LV c i))) ↦[(wP (LV c i)).view.set]{fullShare} (f : Buf (Elt F) ((wP (LV c i)).view.loc (V d (cV (LV c i)) (jV (LV c i)))))) := by
  have h := pointsTo_biUnion (ℓ := (d.tc : Thread nD τ).loc main_v6_1) (q := fullShare) (f := f) (Val := Elt F) (Ix := HIx 1) (Name := ℕ) (U := UU) (Lvl := ℕ)
    (Finset.univ : Finset (Fin 2 × Fin 16)) (fun p => rowsOf p.1 p.2) rows_disjoint
  rw [rows_cover, bigSep_univ_prod] at h
  refine h.trans (bigSep_congr fun c _ => bigSep_congr fun i _ => ?_)
  rw [wP_set]

/-- The five arrays the tiles work on. -/
def five (d : Dev nD) (t : TT F) (a : TA F) (u : TU F) (o w : S4096.Idx → F .f32) : sProp 𝕄 :=
  iprop((((d.tc : Thread nD τ).loc main_v5) ↦{fullShare} (t : Buf (Elt F) ((d.tc : Thread nD τ).loc main_v5)))
    ∗ (((d.tc : Thread nD τ).loc main_arg1) ↦{fullShare} (a : Buf (Elt F) ((d.tc : Thread nD τ).loc main_arg1)))
    ∗ (((d.tc : Thread nD τ).loc main_arg3) ↦{fullShare} (u : Buf (Elt F) ((d.tc : Thread nD τ).loc main_arg3)))
    ∗ (((d.tc : Thread nD τ).loc main_v6_0) ↦{fullShare} (o : Buf (Elt F) ((d.tc : Thread nD τ).loc main_v6_0)))
    ∗ (((d.tc : Thread nD τ).loc main_v6_1) ↦{fullShare} (w : Buf (Elt F) ((d.tc : Thread nD τ).loc main_v6_1))))

/-- What is kept of the three tables. -/
def kept3 (d : Dev nD) (t : TT F) (a : TA F) (u : TU F) : sProp 𝕄 :=
  iprop(kept ((d.tc : Thread nD τ).loc main_v5) t ∗ kept ((d.tc : Thread nD τ).loc main_arg1) a ∗ kept ((d.tc : Thread nD τ).loc main_arg3) u)

/-- The five arrays are what is kept and the tiles' parts. -/
theorem five_deal (d : Dev nD) (t : TT F) (a : TA F) (u : TU F) (o w : S4096.Idx → F .f32) :
    (five d t a u o w : sProp 𝕄)
      = iprop(kept3 d t a u ∗ bigSep Finset.univ fun c : Fin 2 => bigSep Finset.univ fun i : Fin 16 =>
          iprop(tabs d (LV c i) (qs c i) t a u ∗ outs d (LV c i) o w)) := by
  have e : (bigSep Finset.univ fun c : Fin 2 => bigSep Finset.univ fun i : Fin 16 => (iprop(tabs d (LV c i) (qs c i) t a u ∗ outs d (LV c i) o w) : sProp 𝕄))
      = iprop(((bigSep Finset.univ fun c : Fin 2 => bigSep Finset.univ fun i : Fin 16 => ((d.tc : Thread nD τ).loc main_v5) ↦{qs c i} (t : Buf (Elt F) ((d.tc : Thread nD τ).loc main_v5)))
          ∗ (bigSep Finset.univ fun c : Fin 2 => bigSep Finset.univ fun i : Fin 16 => ((d.tc : Thread nD τ).loc main_arg1) ↦{qs c i} (a : Buf (Elt F) ((d.tc : Thread nD τ).loc main_arg1)))
          ∗ (bigSep Finset.univ fun c : Fin 2 => bigSep Finset.univ fun i : Fin 16 => ((d.tc : Thread nD τ).loc main_arg3) ↦{qs c i} (u : Buf (Elt F) ((d.tc : Thread nD τ).loc main_arg3))))
          ∗ (((d.tc : Thread nD τ).loc main_v6_0) ↦{fullShare} (o : Buf (Elt F) ((d.tc : Thread nD τ).loc main_v6_0)))
          ∗ (((d.tc : Thread nD τ).loc main_v6_1) ↦{fullShare} (w : Buf (Elt F) ((d.tc : Thread nD τ).loc main_v6_1)))) := by
    rw [out0_deal, out1_deal]
    simp only [← bigSep_sep']
    rfl
  rw [e]
  unfold five kept3
  rw [table_deal ((d.tc : Thread nD τ).loc main_v5), table_deal ((d.tc : Thread nD τ).loc main_arg1), table_deal ((d.tc : Thread nD τ).loc main_arg3)]
  refine eq_of_both ?_ ?_
  · iintro ⟨⟨K1, H1⟩, ⟨K2, H2⟩, ⟨K3, H3⟩, H4, H5⟩
    isplitl [K1 K2 K3]
    · isplitl [K1]; · iexact K1
      isplitl [K2]; · iexact K2
      iexact K3
    isplitl [H1 H2 H3]
    · isplitl [H1]; · iexact H1
      isplitl [H2]; · iexact H2
      iexact H3
    isplitl [H4]; · iexact H4
    iexact H5
  · iintro ⟨⟨K1, K2, K3⟩, ⟨H1, H2, H3⟩, H4, H5⟩
    isplitl [K1 H1]
    · isplitl [K1]; · iexact K1
      iexact H1
    isplitl [K2 H2]
    · isplitl [K2]; · iexact K2
      iexact H2
    isplitl [K3 H3]
    · isplitl [K3]; · iexact K3
      iexact H3
    isplitl [H4]; · iexact H4
    iexact H5

end Cert.Proof

end
-- ==== Proof.Prep.lean ====
/-
  The preparation on the TensorCore: what its body leaves in the table, and its region within the host program.
-/
module

public import proofs.«01_k».proof.Proof.Setup
public import proofs.«01_k».proof.Proof.Gen.KernelIdeal.Launch
public import proofs.«01_k».proof.Proof.Gen.KernelIdeal.Points
public import Idealize.ShloMosaic.Lib.Pipeline.Regions
public import Idealize.ShloMosaic.Lib.WritesUnit

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- What the pipeline of the preparation counts its transfers in. -/
def EP : Emb UP (MT nD τ sig (HIx 1) (Elt F) ℕ UU ℕ) :=
  (Emb.inl : Emb UP (UP × Counters)).trans (embR : Emb (UP × Counters) (MT nD τ sig (HIx 1) (Elt F) ℕ (UH × (UP × Counters)) ℕ))

/-- The pipeline's counts lie in the user's part of the resources. -/
instance EP_landsIn : (EP (F := F)).LandsIn (upEmb : UEmb _ 𝕄) := by unfold EP embR; infer_instance

/-- The table the preparation leaves: sixty-four rows of times, one row of the scale, the rest the value of a draw that
    accepts nothing. -/
def prepOut (x0 : FVec F S10x8 .f32) (x1 : FVec F S64x128 .f32) (x2 x3 x4 : FVec F S1x1 .f32) : S72x128.Idx → F .f32 := fun y =>
  if h : (y 0).val < 64 then
    k0_pay1 (k0_pay5 x2) (k0_pay8 x4 x0 x1) (k0_pay9 x4 x0 x1) (fun | 0 => ⟨(y 0).val, h⟩ | 1 => ⟨(y 1).val, (y 1).isLt⟩)
  else if (y 0).val = 65 then k0_pay3 (k0_pay4 x4) (k0_pay7 x4 x0) (fun | 0 => ⟨0, Nat.zero_lt_one⟩ | 1 => ⟨(y 1).val, (y 1).isLt⟩)
  else k0_pay2 (k0_pay5 x2) (k0_pay6 x3) (k0_pay8 x4 x0 x1) (k0_pay9 x4 x0 x1)
    (fun | 0 => ⟨(y 0).val - 64, by have := (y 0).isLt; simp only [S72x128, S8x128] at this ⊢; change _ < 72 at this; change _ < 8; omega⟩ | 1 => ⟨(y 1).val, (y 1).isLt⟩)

/-- A buffer of the TensorCore at a value. -/
abbrev ptB (d : Dev nD) (b : Ref sig .tc) (f : Buf (Elt F) ((Memref.whole b).view.loc (T (τ := τ) d))) : sProp 𝕄 := (Memref.whole b).view.loc (T (τ := τ) d) ↦{fullShare} f

/-- The three writes of the body, one over another, read as the table. -/
theorem prep_reads {sp : Space} (v : View sig .tc sp S72x128 .f32) (x0 : FVec F S10x8 .f32) (x1 : FVec F S64x128 .f32) (x2 x3 x4 : FVec F S1x1 .f32)
    (f : v.ty.Contents (Elt F)) :
    v.read (Elt F) (v.writes (Elt F) f
      [⟨Rect.unit (s := S72x128) ![65, 0] S1x128.size inb_S72x128_S1x128_65_0, k0_pay3 (k0_pay4 x4) (k0_pay7 x4 x0)⟩,
       ⟨Rect.unit (s := S72x128) ![64, 0] S8x128.size inb_S72x128_S8x128_64_0,
          k0_pay2 (k0_pay5 x2) (k0_pay6 x3) (k0_pay8 x4 x0 x1) (k0_pay9 x4 x0 x1)⟩,
       ⟨Rect.unit (s := S72x128) ![0, 0] S64x128.size inb_S72x128_S64x128_0_0, k0_pay1 (k0_pay5 x2) (k0_pay8 x4 x0 x1) (k0_pay9 x4 x0 x1)⟩])
      = prepOut x0 x1 x2 x3 x4 := by
  funext y
  have h0 : (y 0).val < 72 := (y 0).isLt
  have h1 : (y 1).val < 128 := (y 1).isLt
  unfold prepOut
  by_cases h : (y 0).val < 64
  · rw [dif_pos h]
    refine (View.read_writes_cons_unit_of_not_mem v f inb_S72x128_S1x128_65_0 _ _ y rfl 0 (Or.inl (show (y 0).val < 65 by omega))).trans ?_
    refine (View.read_writes_cons_unit_of_not_mem v f inb_S72x128_S8x128_64_0 _ _ y rfl 0 (Or.inl (show (y 0).val < 64 from h))).trans ?_
    refine View.read_writes_cons_unit_of_mem v f inb_S72x128_S64x128_0_0 _ _ y _ rfl fun a => ?_
    match a with
    | 0 => exact (Nat.zero_add _).symm
    | 1 => exact (Nat.zero_add _).symm
  rw [dif_neg h]
  by_cases h' : (y 0).val = 65
  · rw [if_pos h']
    refine View.read_writes_cons_unit_of_mem v f inb_S72x128_S1x128_65_0 _ _ y _ rfl fun a => ?_
    match a with
    | 0 => exact h'
    | 1 => exact (Nat.zero_add _).symm
  · rw [if_neg h']
    have ho : (y 0).val < 65 ∨ 65 + 1 ≤ (y 0).val := by omega
    refine (View.read_writes_cons_unit_of_not_mem v f inb_S72x128_S1x128_65_0 _ _ y rfl 0 ho).trans ?_
    refine View.read_writes_cons_unit_of_mem v f inb_S72x128_S8x128_64_0 _ _ y _ rfl fun a => ?_
    match a with
    | 0 => show (y 0).val = 64 + ((y 0).val - 64); omega
    | 1 => exact (Nat.zero_add _).symm

/-- A load of all of a buffer of two axes reads it. -/
theorem readAt_all {sp : Space} {n k : ℕ} {e : EltTy} (v : View sig .tc sp ⟨2, ![n, k]⟩ e)
    (inb : ∀ a, (![0, 0] : Fin 2 → ℕ) a + (Shape.mk 2 ![n, k]).size a ≤ (Shape.mk 2 ![n, k]).size a) (f : v.ty.Contents (Elt F)) :
    v.readAt (Elt F) (Rect.unit (s := ⟨2, ![n, k]⟩) ![0, 0] (Shape.mk 2 ![n, k]).size inb).toLoadRect f = v.read (Elt F) f := by
  funext i
  show v.read (Elt F) f _ = _
  congr 1
  funext a
  apply Fin.ext
  match a with
  | 0 => show 0 + 1 * (i 0).val = (i 0).val; omega
  | 1 => show 0 + 1 * (i 1).val = (i 1).val; omega

set_option maxHeartbeats 400000 in
/-- The body: from its inputs staged, whatever the output holds, to the table. -/
theorem prep_run (d : Dev nD) (x0 : FVec F S10x8 .f32) (x1 : FVec F S64x128 .f32) (x2 x3 x4 : FVec F S1x1 .f32) (y : FVec F S72x128 .f32)
    (Q : PUnit → sProp 𝕄) :
    iprop(ptB d cc0_stg0_0 x0 ∗ ptB d cc0_stg1_0 x1 ∗ ptB d cc0_stg2_0 x2 ∗ ptB d cc0_stg3_0 x3 ∗ ptB d cc0_stg4_0 x4 ∗ ptB d cc0_stg5_0 y
      ∗ (iprop(ptB d cc0_stg0_0 x0 ∗ ptB d cc0_stg1_0 x1 ∗ ptB d cc0_stg2_0 x2 ∗ ptB d cc0_stg3_0 x3 ∗ ptB d cc0_stg4_0 x4
          ∗ ptB d cc0_stg5_0 (prepOut x0 x1 x2 x3 x4)) -∗ Q ⟨⟩))
    ⊢ wp frame (wpE (defs₀ (F := F)) 𝒱₀ (T d) none) Set.univ
        (cc0__prep_kernel (Memref.whole cc0_stg0_0) (hstage0_0 0) (Memref.whole cc0_stg1_0) (hstage0_1 0) (Memref.whole cc0_stg2_0) (hstage0_2 0)
          (Memref.whole cc0_stg3_0) (hstage0_3 0) (Memref.whole cc0_stg4_0) (hstage0_4 0) (Memref.whole cc0_stg5_0) (hstage0_5 0)) Q := by
  rw [cc0__prep_kernel_eq_skeleton]
  unfold cc0__prep_kernel_skel
  rw [k0_part1_eq_skeleton]
  unfold k0_part1_skel
  iintro ⟨H0, H1, H2, H3, H4, H5, Hk⟩
  sl_exec!
  sl_step
  iapply Hk
  isplitl [H0]; · iexact H0
  isplitl [H1]; · iexact H1
  isplitl [H2]; · iexact H2
  isplitl [H3]; · iexact H3
  isplitl [H4]; · iexact H4
  unfold Cert.Proof.prep_run.sl.H5_3
  rw [show View.readAt (Elt F) (Memref.whole cc0_stg4_0).view (Rect.unit ![0, 0] S1x1.size inb_S1x1_S1x1_0_0).toLoadRect x4 = x4 from readAt_all (Memref.whole cc0_stg4_0).view _ x4,
    show View.readAt (Elt F) (Memref.whole cc0_stg3_0).view (Rect.unit ![0, 0] S1x1.size inb_S1x1_S1x1_0_0).toLoadRect x3 = x3 from readAt_all (Memref.whole cc0_stg3_0).view _ x3,
    show View.readAt (Elt F) (Memref.whole cc0_stg2_0).view (Rect.unit ![0, 0] S1x1.size inb_S1x1_S1x1_0_0).toLoadRect x2 = x2 from readAt_all (Memref.whole cc0_stg2_0).view _ x2,
    show View.readAt (Elt F) (Memref.whole cc0_stg1_0).view (Rect.unit ![0, 0] S64x128.size inb_S64x128_S64x128_0_0).toLoadRect x1 = x1 from readAt_all (Memref.whole cc0_stg1_0).view _ x1,
    show View.readAt (Elt F) (Memref.whole cc0_stg0_0).view (Rect.unit ![0, 0] S10x8.size inb_S10x8_S10x8_0_0).toLoadRect x0 = x0 from readAt_all (Memref.whole cc0_stg0_0).view _ x0]
  rw [← prep_reads (Memref.whole cc0_stg5_0).view x0 x1 x2 x3 x4 (Memref.whole cc0_stg5_0).view.junk]
  iexact H5

end Cert.Proof

end
-- ==== Proof.Region.lean ====
/-
  The preparation's region: its proof data, its body's obligation, and the custom call that runs it.
-/
module

public import proofs.«01_k».proof.Proof.Prep
public import proofs.«01_k».proof.Proof.Gen.KernelIdeal.Launch
public import proofs.«01_k».proof.Proof.Gen.KernelIdeal.Points
public import Idealize.ShloMosaic.Lib.Pipeline.Regions
public import Idealize.ShloMosaic.Lib.Pipeline.Value

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- A whole window's block is the array. -/
theorem blk_read0 (f : S10x8.Idx → F .f32) : ((cfg0.win 0).blk t0_0).view.read (Elt F) f = f := by
  funext y
  show f _ = f y
  congr 1
  funext a
  apply Fin.ext
  refine (Pipeline.Window.rect_emb_val_off (cfg0.win 0) t0_0 y a).trans ?_
  match a with
  | 0 => exact Nat.zero_add _
  | 1 => exact Nat.zero_add _

/-- The window of the table is the whole table. -/
theorem blk_read5 (f : S72x128.Idx → F .f32) : ((cfg0.win 5).blk t0_0).view.read (Elt F) f = f := by
  funext y
  show f _ = f y
  congr 1
  funext a
  apply Fin.ext
  refine (Pipeline.Window.rect_emb_val_off (cfg0.win 5) t0_0 y a).trans ?_
  match a with
  | 0 => exact Nat.zero_add _
  | 1 => exact Nat.zero_add _

variable (V : (d : Dev nD) → (b : Ref sig .tc) → Buf (Elt F) ((d.tc : Thread nD τ).loc b))

/-- The table of a device, from what its arrays hold at the region's entry. -/
def prepV (d : Dev nD) : S72x128.Idx → F .f32 := prepOut (V d main_arg0) (V d main_v3) (V d main_v0) (V d main_v1) (V d main_v2)

/-- What may have been waited for before the SparseCore call. -/
def lowSet (d : Dev nD) : Set (SemLoc sig × HIx 1) := fun p => (K (F := F)).lev ((d.tc : Thread nD τ), p.1) p.2 ≤ 0

/-- What the arrays of the preparation hold at its start and at its end. -/
def dats (_ : Fin 1) (d : Dev nD) : Dat τ (Elt F) (HIx 1) ℕ UU ℕ cfg0 d where
  A w := V d (Pipeline.arrRef spec0 w)
  after w _ := match w with
    | ⟨0, _⟩ => V d main_arg0
    | ⟨1, _⟩ => V d main_v3
    | ⟨2, _⟩ => V d main_v0
    | ⟨3, _⟩ => V d main_v1
    | ⟨4, _⟩ => V d main_v2
    | ⟨5, _⟩ => prepV V d
  Φ _ := Pipeline.scopedRest (Ix := HIx 1) (Name := ℕ) (U := UU) (Lvl := ℕ) (Val := Elt F) spec0 d
  q _ := fullShare
  owed _ := (K (F := F)).Otc d 0
  recorded _ := lowSet (F := F) d

/-- An array of a window holds, at the start, what the launch gives. -/
theorem A_eq (d : Dev nD) (w : Fin cfg0.W) : (dats V 0 d).A w = V d (Pipeline.arrRef spec0 w) := by
  dsimp only [dats]

/-- The window of the exponential draws is the whole array. -/
theorem blk_read1 (f : S64x128.Idx → F .f32) : ((cfg0.win 1).blk t0_0).view.read (Elt F) f = f := by
  funext y
  show f _ = f y
  congr 1
  funext a
  apply Fin.ext
  refine (Pipeline.Window.rect_emb_val_off (cfg0.win 1) t0_0 y a).trans ?_
  match a with
  | 0 => exact Nat.zero_add _
  | 1 => exact Nat.zero_add _

/-- A window of a single number is the whole array. -/
theorem blk_read2 (f : S1x1.Idx → F .f32) : ((cfg0.win 2).blk t0_0).view.read (Elt F) f = f := by
  funext y
  show f _ = f y
  congr 1
  funext a
  apply Fin.ext
  refine (Pipeline.Window.rect_emb_val_off (cfg0.win 2) t0_0 y a).trans ?_
  match a with
  | 0 => exact Nat.zero_add _
  | 1 => exact Nat.zero_add _

/-- The body finds the boundary events' intensities. -/
theorem before_0 (d : Dev nD) (x) : (dats V 0 d).before 0 t0_0 x = V d main_arg0 := by
  unfold Dat.before; rw [if_pos (by decide)]; exact blk_read0 (V d main_arg0)
/-- The body finds the exponential draws. -/
theorem before_1 (d : Dev nD) (x) : (dats V 0 d).before 1 t0_0 x = V d main_v3 := by
  unfold Dat.before; rw [if_pos (by decide)]; exact blk_read1 (V d main_v3)
/-- The body finds the last event's time. -/
theorem before_2 (d : Dev nD) (x) : (dats V 0 d).before 2 t0_0 x = V d main_v0 := by
  unfold Dat.before; rw [if_pos (by decide)]; exact blk_read2 (V d main_v0)
/-- The body finds the boundary. -/
theorem before_3 (d : Dev nD) (x) : (dats V 0 d).before 3 t0_0 x = V d main_v1 := by
  unfold Dat.before; rw [if_pos (by decide)]; exact blk_read2 (V d main_v1)
/-- The body finds the ratio. -/
theorem before_4 (d : Dev nD) (x) : (dats V 0 d).before 4 t0_0 x = V d main_v2 := by
  unfold Dat.before; rw [if_pos (by decide)]; exact blk_read2 (V d main_v2)

/-- The body, as the pipeline calls it. -/
theorem body_obligation (d : Dev nD) : BodyObligation (dats V 0 d) (defs₀ (F := F)) 𝒱₀ none Set.univ := fun t => by
  obtain rfl := fin_N0 t
  rw [bigSep_W0, bigSep_W0]
  simp only [owns_whole_eq]
  rw [show (dats V 0 d).Φ t0_0.castSucc = Pipeline.scopedRest spec0 d from rfl, show (dats V 0 d).Φ t0_0.succ = Pipeline.scopedRest spec0 d from rfl]
  unfold Dat.owesAt Pipeline.owesWithin
  iintro ⟨HΦ, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [before_0] at h0; rw [before_1] at h1; rw [before_2] at h2; rw [before_3] at h3; rw [before_4] at h4
  subst h0 h1 h2 h3 h4
  iapply (prep_run d (V d main_arg0) (V d main_v3) (V d main_v0) (V d main_v1) (V d main_v2) f5)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [HO]; · iexact HO
  isplitl [H0]; · iexists _; isplitr; swap; (· iexact H0); ipureintro; dsimp only [dats]
  isplitl [H1]; · iexists _; isplitr; swap; (· iexact H1); ipureintro; dsimp only [dats]
  isplitl [H2]; · iexists _; isplitr; swap; (· iexact H2); ipureintro; dsimp only [dats]
  isplitl [H3]; · iexists _; isplitr; swap; (· iexact H3); ipureintro; dsimp only [dats]
  isplitl [H4]; · iexists _; isplitr; swap; (· iexact H4); ipureintro; dsimp only [dats]
  iexists _; isplitr; swap; (· iexact H5); ipureintro; dsimp only [dats, prepV]

/-- What the TensorCore owes before the call is none of it at the transfers' index. -/
theorem Otc_none (d : Dev nD) (g : GSem nD τ sig) : (K (F := F)).Otc d 0 g none = 0 := by
  by_contra h
  have := (K (F := F)).lev_of_Otc_pos (Nat.pos_of_ne_zero h)
  rw [SparseCore.Cfg.lev_none] at this
  omega

/-- The table at the region's end. -/
theorem arrAt_5 (d : Dev nD) : (dats V 0 d).arrAt 5 cfg0.N = prepV V d := by
  refine (dats V 0 d).arrAt_eq_of_cover 5 (prepV V d) (fun t _ => ?_) (fun i => ⟨t0_0, flush0_5 t0_0, ?_⟩)
  · obtain rfl := fin_N0 t
    exact (blk_read5 (prepV V d)).symm
  · have h := (((cfg0.win 5).blk t0_0).view.emb_mem_set i)
    have e : ((cfg0.win 5).blk t0_0).view.emb i = i := by
      funext a
      apply Fin.ext
      refine (Pipeline.Window.rect_emb_val_off (cfg0.win 5) t0_0 i a).trans ?_
      match a with
      | 0 => exact Nat.zero_add _
      | 1 => exact Nat.zero_add _
    rw [e] at h
    exact h

/-- The pipeline of the preparation is admissible. -/
abbrev adm : (p : Fin 1) → (pcfgs (F := F) p).Adm := fun p => (cfgs p).toPCfg_adm

/-- What the TensorCore owes before the call, what it has waited for bounded. -/
abbrev owes0 (d : Dev nD) : sProp 𝕄 := iprop(∃ W, ⌜(K (F := F)).WBelow (T d) W 0⌝ ∗ owes (T d) ((K (F := F)).Otc d 0) W)

/-- The kernel has no semaphores of its own. -/
abbrev noSem : Fin 0 → SemLoc sig := fun i => i.elim0
/-- No semaphore of the kernel's own clashes with the pipeline's, there being none. -/
theorem noOwn : Pipeline.OwnSemFacts spec0 noSem := by decide

-- the launch lemmas are stated over `cfgs p` at the pinned configuration
set_option backward.isDefEq.respectTransparency.types false in
/-- The region of the preparation: from the unscoped buffers to the table written, all else as it was. -/
def reg0 : Pipeline.RegionSeg (pcfgs (F := F)) adm (dats V) none defs₀ 𝒱₀ (K (F := F)).L (K (F := F)).lev 0 where
  win := launch0.win.to₀
  block_pos := launch0.block_pos
  stage_whole := launch0.stage_whole
  K := Fin 0
  osem := noSem
  ho := noOwn
  hbody c := (body_obligation V c).loose
  hwaits c := Pipeline.cellsWaits_intro _ _ _ 0 c fun w s t => (K (F := F)).mayWait_none _ (Otc_none c)
  pre c := iprop(unscopedBufs c (V c) ∗ owes0 c)
  post c := iprop((dats V 0 c).arrays ((dats V 0 c).arrAt · cfg0.N) ∗ Pipeline.unscopedRest spec0 c (V c) ∗ owes0 c)
  X c := iprop(emp)
  Y c := iprop(emp)
  Z c := Pipeline.unscopedRest spec0 c (V c)
  hentry c := by
    have hsplit := (Pipeline.arrays_of_unscopedBufs (pcfgs (F := F)) adm (dats V) launch0.win launch0.arr_whole c
      ((dats V 0 c).share_full fun _ => rfl) (V c) (A_eq V c))
    iintro ⟨⟨Hub, HO⟩, Hos, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hr
  hin c := by
    rw [show (dats V 0 c).Φ 0 = Pipeline.scopedRest spec0 c from rfl]
    iintro ⟨-, -, Hr⟩
    iexact Hr
  hout c := by
    rw [show (dats V 0 c).Φ (Fin.last cfg0.N) = Pipeline.scopedRest spec0 c from rfl]
    iintro Hr
    isplitr; · iempintro
    isplitr; · unfold Pipeline.ownSems0; rw [show (Finset.univ : Finset (Fin 0)) = ∅ from rfl, BI.bigSep_empty]; iempintro
    iexact Hr
  hexit c := by
    iintro ⟨Ha, HO, -, HZ⟩
    imodintro
    isplitl [Ha]; · iexact Ha
    isplitl [HZ]; · iexact HZ
    unfold Pipeline.Dat.owesAt Pipeline.owesWithin
    icases HO with ⟨%W, %hW, HO⟩
    iexists W
    isplitr; swap; (· iexact HO)
    ipureintro
    intro p hp
    rcases hW hp with h | ⟨w, s, rfl⟩
    · exact h
    · exact le_of_eq ((K (F := F)).lev_none _)

/-- The custom call of the preparation, among the host program's own calls. -/
def prepProg : Prog (TpuEff nD τ sig (Elt F) (ΛP (F := F)) .tc) PUnit := .op (.customCall (Pipeline.entry 0) ()) .ret

/-- It runs the region. -/
theorem prep_inner [∀ e, Nonempty (Elt F e)] (d : Dev nD) (Q : PUnit → sProp 𝕄) :
    iprop((iprop(boundary (d.tc : Thread nD τ) ∗ (reg0 V).post d) -∗ wp frame (wpE (D (F := F)) 𝒱 (d.tc : Thread nD τ) none) Set.univ (.ret ⟨⟩) Q)
        ∗ boundary (d.tc : Thread nD τ) ∗ (reg0 V).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (prepProg (F := F)) Q :=
  Pipeline.RegionSeg.wp (pcfgs (F := F)) adm (dats V) none cellOf_inj EP defs₀ 𝒱₀ (K (F := F)).L (K (F := F)).lev (reg0 V) d none
    (fun u hu => nomatch hu) .ret Q

/-- A run of it there is a run of it in the whole program. -/
theorem prep_outer (d : Dev nD) (Q : PUnit → sProp 𝕄) :
    wp frame (wpE (D (F := F)) 𝒱 (d.tc : Thread nD τ) none) Set.univ (prepProg (F := F)) Q
      ⊢ wp frame (wpE ((K (F := F)).defs (D (F := F))) 𝒱 (d.tc : Thread nD τ) none) Set.univ
          (SparseCore.liftProg (prepProg (F := F))) Q :=
  (K (F := F)).wp_liftProg (D (F := F)) 𝒱 (d.tc : Thread nD τ) Set.univ none (prepProg (F := F)) Q

/-- The custom call of the preparation, within the host program. -/
theorem prep_call [∀ e, Nonempty (Elt F e)] (d : Dev nD) (Q : PUnit → sProp 𝕄) :
    iprop((iprop(boundary (d.tc : Thread nD τ) ∗ (reg0 V).post d) -∗ Q ⟨⟩)
        ∗ boundary (d.tc : Thread nD τ) ∗ (reg0 V).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (d.tc : Thread nD τ) none) Set.univ
          (Prog.lift (.customCall (SparseCore.inner (Pipeline.entry 0)) ())) Q := by
  refine BIBase.Entails.trans ?_ ((prep_inner V d Q).trans (prep_outer d Q))
  refine sep_mono (Laws.wand_mono .rfl ?_) .rfl
  rw [wp_ret]
  iintro H; imodintro; iexact H

end Cert.Proof

end
-- ==== Proof.Run.lean ====
/-
  The whole run: the host program on the TensorCore, the preparation, the tiles, and what the memory holds at the end.
-/
module

public import proofs.«01_k».proof.Proof.Deal
public import proofs.«01_k».proof.Proof.Region
public import Idealize.ShloMosaic.Lib.Pipeline.RegionsLoop
public import Idealize.ShloMosaic.Lib.Pipeline.Frame
public import Idealize.ShloMosaic.Lib.Pipeline.Kit

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host program's contents -/

/-- The four reshapes before the preparation. -/
abbrev before : List (HloOp τ sig (Elt F)) :=
  [StableHlo.reshape main_arg4 main_v0 (rfl : (.f32 : EltTy) = .f32) shapeCasts_S1_S1x1,
    StableHlo.reshape main_arg5 main_v1 (rfl : (.f32 : EltTy) = .f32) shapeCasts_S1_S1x1,
    StableHlo.reshape main_arg6 main_v2 (rfl : (.f32 : EltTy) = .f32) shapeCasts_S1_S1x1,
    StableHlo.reshape main_arg2 main_v3 (rfl : (.f32 : EltTy) = .f32) shapeCasts_S1x8192_S64x128]

/-- The reshape after it. -/
abbrev behind : HloOp τ sig (Elt F) := StableHlo.reshape main_v4 main_v5 (rfl : (.f32 : EltTy) = .f32) shapeCasts_S72x128_S9216

/-- What a device's buffers hold when the preparation begins. -/
def W1 (d : Dev nD) : Valuation τ sig (Elt F) := StableHlo.after before (fun b => m (d, b))

/-- The same, buffer by buffer. -/
abbrev V1 (d : Dev nD) (b : Ref sig .tc) : Buf (Elt F) ((d.tc : Thread nD τ).loc b) := W1 m d (Proc.devRef .tc b)

/-- What they hold when it has ended. -/
def W2 (d : Dev nD) : Valuation τ sig (Elt F) :=
  Function.update (W1 m d) (Proc.devRef .tc main_v4) (prepV (V1 m) d)

/-- What they hold when the tiles begin. -/
def W3 (d : Dev nD) : Valuation τ sig (Elt F) := (behind (F := F)).result (W2 m d)

/-- The table of times of a device. -/
def ftOf (d : Dev nD) : TT F := W3 m d (Proc.devRef .tc main_v5)

/-- The first reshapes write their four results alone. -/
theorem W1_of_ne (d : Dev nD) (b : Ref sig .tc) (h0 : b ≠ main_v0) (h1 : b ≠ main_v1) (h2 : b ≠ main_v2) (h3 : b ≠ main_v3) :
    W1 m d (Proc.devRef .tc b) = m (d, Proc.devRef .tc b) := by
  unfold W1
  rw [StableHlo.after_cons, StableHlo.after_cons, StableHlo.after_cons, StableHlo.after_cons, StableHlo.after_nil,
    StableHlo.reshape_result_ne _ _ _ _ _ _ _ h3, StableHlo.reshape_result_ne _ _ _ _ _ _ _ h2,
    StableHlo.reshape_result_ne _ _ _ _ _ _ _ h1, StableHlo.reshape_result_ne _ _ _ _ _ _ _ h0]

/-- The preparation writes its table. -/
theorem W2_self (d : Dev nD) : W2 m d (Proc.devRef .tc main_v4) = prepV (V1 m) d := Function.update_self _ _ _

/-- It writes nothing else. -/
theorem W2_of_ne (d : Dev nD) (b : Ref sig .tc) (h4 : b ≠ main_v4) : W2 m d (Proc.devRef .tc b) = W1 m d (Proc.devRef .tc b) :=
  Function.update_of_ne (StableHlo.devRef_ne_of_ne h4) _ _

/-- The last reshape writes the flat table alone. -/
theorem W3_of_ne (d : Dev nD) (b : Ref sig .tc) (h4 : b ≠ main_v4) (h5 : b ≠ main_v5) :
    W3 m d (Proc.devRef .tc b) = W1 m d (Proc.devRef .tc b) := by
  unfold W3
  rw [StableHlo.reshape_result_ne _ _ _ _ _ _ _ h5, W2_of_ne m d b h4]

/-- A buffer no host operation writes and the preparation does not write is as it was launched. -/
theorem W3_kept (d : Dev nD) (b : Ref sig .tc) (h0 : b ≠ main_v0) (h1 : b ≠ main_v1) (h2 : b ≠ main_v2) (h3 : b ≠ main_v3)
    (h4 : b ≠ main_v4) (h5 : b ≠ main_v5) : W3 m d (Proc.devRef .tc b) = m (d, Proc.devRef .tc b) :=
  (W3_of_ne m d b h4 h5).trans (W1_of_ne m d b h0 h1 h2 h3)

/-- The region's end is the buffers at the next contents. -/
theorem region_end (d : Dev nD) :
    iprop((dats (V1 m) 0 d).arrays ((dats (V1 m) 0 d).arrAt · cfg0.N) ∗ Pipeline.unscopedRest spec0 d (V1 m d))
      ⊢ (StableHlo.held (d.tc : Thread nD τ) (Pipeline.ucRefs τ sig) (W2 m d) : sProp 𝕄) := by
  rw [← Pipeline.unscopedBufs_held]
  refine Pipeline.unscopedBufs_of_arrays (pcfgs (F := F)) adm (p := 0) launch0.win launch0.arr_whole d (dats (V1 m))
    ((dats (V1 m) 0 d).share_full fun _ => rfl) (V1 m d) (fun b => W2 m d (Proc.devRef .tc b)) _ ?_ ?_
  · intro w
    match w with
    | ⟨0, _⟩ => exact ((dats (V1 m) 0 d).arrAt_in 0 rfl _).trans (W2_of_ne m d main_arg0 (by decide)).symm
    | ⟨1, _⟩ => exact ((dats (V1 m) 0 d).arrAt_in 1 rfl _).trans (W2_of_ne m d main_v3 (by decide)).symm
    | ⟨2, _⟩ => exact ((dats (V1 m) 0 d).arrAt_in 2 rfl _).trans (W2_of_ne m d main_v0 (by decide)).symm
    | ⟨3, _⟩ => exact ((dats (V1 m) 0 d).arrAt_in 3 rfl _).trans (W2_of_ne m d main_v1 (by decide)).symm
    | ⟨4, _⟩ => exact ((dats (V1 m) 0 d).arrAt_in 4 rfl _).trans (W2_of_ne m d main_v2 (by decide)).symm
    | ⟨5, _⟩ => exact (arrAt_5 (V1 m) d).trans (W2_self m d).symm
  · intro b hb
    refine W2_of_ne m d b ?_
    rintro rfl
    exact hb (Finset.mem_image.mpr ⟨5, Finset.mem_univ _, rfl⟩)

/-- The host program behind its first reshapes. -/
def mainRest (d : Dev nD) : Prog (TpuEff nD τ sig (Elt F) (SparseCore.Sig (ΛP (F := F)) 1) .tc) PUnit := do
  Prog.lift (.customCall (SparseCore.inner (Pipeline.entry 0)) ())
  hlo rfl (behind (F := F)) (fun _ => .ret ⟨⟩)
  (K (F := F)).run d 0
  pure ⟨⟩

/-- The host program, its straight line before the preparation apart. -/
theorem main_shape (d : Dev nD) : main (F := F) d = StableHlo.seq before >>= fun _ => mainRest d := rfl

/-- The buffers the tiles do not touch. -/
def idle (d : Dev nD) (b : (b : Ref sig .tc) → Buf (Elt F) ((d.tc : Thread nD τ).loc b)) : sProp 𝕄 :=
  iprop((((d.tc : Thread nD τ).loc main_arg0) ↦{fullShare} b main_arg0) ∗ (((d.tc : Thread nD τ).loc main_arg2) ↦{fullShare} b main_arg2)
    ∗ (((d.tc : Thread nD τ).loc main_arg4) ↦{fullShare} b main_arg4) ∗ (((d.tc : Thread nD τ).loc main_arg5) ↦{fullShare} b main_arg5)
    ∗ (((d.tc : Thread nD τ).loc main_arg6) ↦{fullShare} b main_arg6))

/-- The buffers as the tiles find them. -/
theorem all_split (d : Dev nD) :
    (StableHlo.held (d.tc : Thread nD τ) (Pipeline.ucRefs τ sig) (W3 m d) : sProp 𝕄)
      ⊢ iprop(idle d (fun b => m (d, Proc.devRef .tc b))
        ∗ five d (ftOf m d) (faOf m d) (fuOf m d) (m ((SparseCore.T d).loc main_v6_0)) (m ((SparseCore.T d).loc main_v6_1))) := by
  rw [← Pipeline.unscopedBufs_held]
  rw [Pipeline.unscopedBufs_split (Pipeline.pin (pcfgs (F := F)) adm) 0 launch0.win.arr_unscoped launch0.win.arr_inj d]
  refine BIBase.Entails.trans (BIClass.sep_mono (Entails.of_eq (bigSep_W0 _)) (Entails.of_eq (unscopedRest0_eq d _))) ?_
  unfold idle five
  beta_reduce
  have k0 := W3_kept m d main_arg0 (by decide) (by decide) (by decide) (by decide) (by decide) (by decide)
  have k1 := W3_kept m d main_arg1 (by decide) (by decide) (by decide) (by decide) (by decide) (by decide)
  have k2 := W3_kept m d main_arg2 (by decide) (by decide) (by decide) (by decide) (by decide) (by decide)
  have k3 := W3_kept m d main_arg3 (by decide) (by decide) (by decide) (by decide) (by decide) (by decide)
  have k4 := W3_kept m d main_arg4 (by decide) (by decide) (by decide) (by decide) (by decide) (by decide)
  have k5 := W3_kept m d main_arg5 (by decide) (by decide) (by decide) (by decide) (by decide) (by decide)
  have k6 := W3_kept m d main_arg6 (by decide) (by decide) (by decide) (by decide) (by decide) (by decide)
  have k7 := W3_kept m d main_v6_0 (by decide) (by decide) (by decide) (by decide) (by decide) (by decide)
  have k8 := W3_kept m d main_v6_1 (by decide) (by decide) (by decide) (by decide) (by decide) (by decide)
  rw [k1, k2, k3, k4, k5, k6, k7, k8]
  iintro ⟨⟨A0, -, -, -, -, -⟩, A1, A2, A3, A4, A5, A6, A7, A8, A9⟩
  isplitl [A0 A2 A4 A5 A6]
  · isplitl [A0]; · rw [← k0]; iexact A0
    isplitl [A2]; · iexact A2
    isplitl [A4]; · iexact A4
    isplitl [A5]; · iexact A5
    iexact A6
  isplitl [A7]; · iexact A7
  isplitl [A1]; · iexact A1
  isplitl [A3]; · iexact A3
  isplitl [A8]; · iexact A8
  iexact A9

/-! ## The host program's run -/

/-- What the TensorCore keeps at the end. -/
abbrev FIN (d : Dev nD) : sProp 𝕄 :=
  iprop(idle d (fun b => m (d, Proc.devRef .tc b))
    ∗ five d (ftOf m d) (faOf m d) (fuOf m d) (rstOf (ftOf m d) (faOf m d) (fuOf m d)) wOf)

/-- What the preparation's pipeline is dealt. -/
abbrev GG (d : Dev nD) : sProp 𝕄 :=
  iprop(Pipeline.cellsGhost (Pipeline.pin (pcfgs (F := F)) adm) EP 0 d ∗ Pipeline.toksInit (Pipeline.pin (pcfgs (F := F)) adm) EP 0 d)

/-- What the TensorCore holds of the handshakes before the call, what it owes apart. -/
theorem tcSt_owes (d : Dev nD) : ∃ R : sProp 𝕄, (K (F := F)).tcSt EH d 0 = iprop(owes0 d ∗ R) := ⟨_, rfl⟩

/-- What the preparation takes. -/
theorem reg0_pre (d : Dev nD) : (reg0 (V1 m)).pre d = iprop(unscopedBufs d (V1 m d) ∗ owes0 d) := rfl
/-- What the preparation gives back. -/
theorem reg0_post (d : Dev nD) : (reg0 (V1 m)).post d
    = iprop((dats (V1 m) 0 d).arrays ((dats (V1 m) 0 d).arrAt · cfg0.N) ∗ Pipeline.unscopedRest spec0 d (V1 m d) ∗ owes0 d) := rfl

/-- What the SparseCores are handed at the start, tile by tile. -/
theorem st0_eq (d : Dev nD) : (bigSep Finset.univ fun c : Fin ((K (F := F)).nCore 0) => (P m (ftOf m)).st 0 d c)
    = bigSep Finset.univ fun c : Fin 2 => bigSep Finset.univ fun i : Fin 16 =>
        iprop(tabs d (LV c i) (qs c i) (ftOf m d) (faOf m d) (fuOf m d)
          ∗ outs d (LV c i) (m ((SparseCore.T d).loc main_v6_0)) (m ((SparseCore.T d).loc main_v6_1))) := rfl
/-- What the SparseCores hand back at the end, tile by tile. -/
theorem dn0_eq (d : Dev nD) : (bigSep Finset.univ fun c : Fin ((K (F := F)).nCore 0) => (P m (ftOf m)).dn 0 d c)
    = bigSep Finset.univ fun c : Fin 2 => bigSep Finset.univ fun i : Fin 16 =>
        iprop(tabs d (LV c i) (qs c i) (ftOf m d) (faOf m d) (fuOf m d)
          ∗ outs d (LV c i) (rstOf (ftOf m d) (faOf m d) (fuOf m d)) wOf) := rfl

/-- The host program, from what its TensorCore is dealt. -/
theorem hmain [∀ e, Nonempty (Elt F e)] (κ : GSem nD τ sig → ℕ) (d : Dev nD) :
    iprop((K (F := F)).ctx EH (P m (ftOf m)) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  obtain ⟨R, hR⟩ := tcSt_owes (F := F) d
  rw [hR, main_shape,
    show (unscopedBufs d (fun b => m ((SparseCore.T d).loc b)) : sProp 𝕄)
      = StableHlo.held (d.tc : Thread nD τ) (Pipeline.ucRefs τ sig) (fun b => m (d, b)) from Pipeline.unscopedBufs_held d (fun b => m (d, b))]
  iintro ⟨#Hctx, ⟨HO, HR⟩, ⟨Hb, Hbufs, Hts, -⟩, Hg, Ht⟩
  iapply (StableHlo.wp_seq 𝒱 none Set.univ d (Pipeline.ucRefs τ sig) (fun _ => mainRest d) before
    (fun op h => Pipeline.sub_ucRefs op (by
      simp only [List.mem_cons, List.not_mem_nil, or_false] at h
      rcases h with rfl | rfl | rfl | rfl <;> exact StableHlo.reshape_bufs_sub _ _ _ _ _ _))
    (fun op h => by
      simp only [List.mem_cons, List.not_mem_nil, or_false] at h
      rcases h with rfl | rfl | rfl | rfl <;> rfl) (fun b => m (d, b))) $$ [Hb Hbufs]
  · isplitl [Hb]; · iexact Hb
    iexact Hbufs
  iintro ⟨Hb, Hbufs⟩
  unfold mainRest
  simp only [wp_bind, wp_pure]
  ihave #Hlev := ((K (F := F)).ctx_levAts κ) $$ Hctx
  iapply (prep_call (V1 m) d _)
  rw [reg0_pre, reg0_post]
  isplitr [Hb Hbufs HO Hg Ht]; swap
  · isplitl [Hb]; · iexact Hb
    isplitl [Hbufs HO]
    · isplitl [Hbufs]
      · rw [show (unscopedBufs d (V1 m d) : sProp 𝕄) = StableHlo.held (d.tc : Thread nD τ) (Pipeline.ucRefs τ sig) (W1 m d) from Pipeline.unscopedBufs_held d (W1 m d)]
        iexact Hbufs
      iexact HO
    isplitr; · iexact Hlev
    isplitl [Hg]; · iexact Hg
    iexact Ht
  iintro ⟨Hb, Ha, Hr, HO⟩
  ihave Hbufs := (region_end m d) $$ [Ha Hr]
  · isplitl [Ha]; · iexact Ha
    iexact Hr
  iapply (StableHlo.wp_hlo_within 𝒱 (d.tc : Thread nD τ) none Set.univ (op := behind)
    (Pipeline.sub_ucRefs _ (StableHlo.reshape_bufs_sub _ _ _ _ _ _)) (V := W2 m d)) $$ [Hb Hbufs]
  · isplitl [Hb]; · iexact Hb
    iexact Hbufs
  iintro ⟨Hb, Hbufs⟩
  rw [wp_ret]
  imodintro
  rw [show (behind (F := F)).result (W2 m d) = W3 m d from rfl]
  ihave H := (all_split m d) $$ Hbufs
  icases H with ⟨Hidle, Hfive⟩
  ihave Hfive' := (Entails.of_eq (five_deal d (ftOf m d) (faOf m d) (fuOf m d) (m ((SparseCore.T d).loc main_v6_0)) (m ((SparseCore.T d).loc main_v6_1)))) $$ Hfive
  icases Hfive' with ⟨Hk, Hst⟩
  ihave HT := (Entails.of_eq hR.symm) $$ [HO HR]
  · isplitl [HO]; · iexact HO
    iexact HR
  iapply ((K (F := F)).wp_run (D (F := F)) 𝒱 (EH := EH) (P := P m (ftOf m)) κ d 0) $$ [HT Hst Hidle Hk Hb Hts]
  isplitr; · iexact Hctx
  isplitl [HT]; · iexact HT
  isplitl [Hst]; · rw [st0_eq]; iexact Hst
  iintro ⟨Hst, Hdn⟩
  ihave Hdn' := (Entails.of_eq (dn0_eq m d)) $$ Hdn
  imodintro
  isplitl [Hst]; · iexact Hst
  isplitr [Hb Hts]
  · isplitl [Hidle]; · iexact Hidle
    rw [five_deal]
    isplitl [Hk]; · iexact Hk
    iexact Hdn'
  isplitl [Hb] <;> iassumption

/-! ## The launch's ghost state -/

/-- The ghost state at launch: the handshakes' rounds, the preparation's, no transfer counted. -/
def u₀ : UU := (initOf (K (F := F)).hsCells (K (F := F)).hsToks,
  (initOf (Pipeline.cells (nD := nD) (τ := τ) (Pipeline.pin (pcfgs (F := F)) adm) cellOf_inj)
    (Pipeline.launchToks (nD := nD) (τ := τ) (Pipeline.pin (pcfgs (F := F)) adm) cellOf_inj), 1))

/-- Nothing, many times over, is nothing. -/
theorem bigSep_none {I : Type} (s : Finset I) : (bigSep s fun _ => iprop(emp)) = (iprop(emp) : sProp 𝕄) := bigSep_emp_const s

/-- A family over one index is its one member. -/
theorem one_each {I : Type} (s : Finset I) (Φ : I → Fin 1 → sProp 𝕄) :
    (bigSep s fun d => Φ d 0) = bigSep s fun d => bigSep Finset.univ fun p => Φ d p :=
  bigSep_congr fun d _ => (bigSep_univ_of_subsingleton (0 : Fin 1)).symm

/-- What the preparation is dealt, the cells and the tokens apart. -/
theorem gg_eq : (bigSep Finset.univ fun d : Dev nD => GG (F := F) d)
    = iprop((bigSep Finset.univ fun d : Dev nD => bigSep Finset.univ fun p : Fin 1 => Pipeline.cellsGhost (Pipeline.pin (pcfgs (F := F)) adm) EP p d)
      ∗ (bigSep Finset.univ fun d : Dev nD => bigSep Finset.univ fun p : Fin 1 => Pipeline.toksInit (Pipeline.pin (pcfgs (F := F)) adm) EP p d)) := by
  rw [bigSep_sep']
  exact congrArg₂ _ (one_each _ fun d p => Pipeline.cellsGhost (Pipeline.pin (pcfgs (F := F)) adm) EP p d)
    (one_each _ fun d p => Pipeline.toksInit (Pipeline.pin (pcfgs (F := F)) adm) EP p d)

/-- It is dealt to the handshakes and to the preparation. -/
theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (P m (ftOf m)).x q thr) := by
  unfold u₀
  iintro Hu
  ihave H := (ownU_pair (initOf (K (F := F)).hsCells (K (F := F)).hsToks) _) $$ Hu
  icases H with ⟨HH, HR⟩
  ihave HR' := (own_pair_emb embR _ _) $$ HR
  icases HR' with ⟨HP, -⟩
  rw [show ((Emb.inl : Emb UP (UP × Counters)).trans (embR : Emb (UP × Counters) (MT nD τ sig (HIx 1) (Elt F) ℕ (UH × (UP × Counters)) ℕ))) = EP from rfl]
  imod (Pipeline.fund_ghost (Pipeline.pin (pcfgs (F := F)) adm) EP cellOf_inj) $$ HP with Hf
  icases Hf with ⟨Hg, Ht⟩
  imodintro
  isplitl [HH]; · iexact HH
  isplitl [Hg Ht]
  · rw [gg_eq]
    isplitl [Hg]; · iexact Hg
    iexact Ht
  rw [show (bigSep Finset.univ fun thr : Thread nD τ => bigSep Finset.univ fun q : Fin 1 => (P (F := F) m (ftOf m)).x q thr) = bigSep Finset.univ fun _ => iprop(emp) from
    bigSep_congr fun _ _ => bigSep_univ_of_subsingleton (0 : Fin 1), bigSep_none]
  iempintro

/-! ## The memory at the end -/

/-- What the memory holds at the end, device by device. -/
def fq (d : Dev nD) (s' : Phys nD τ sig (Elt F)) : Prop :=
  s'.mem.mem ((d.tc : Thread nD τ).loc main_v6_0) = rstOf (ftOf m d) (faOf m d) (fuOf m d)
    ∧ s'.mem.mem ((d.tc : Thread nD τ).loc main_v6_1) = wOf (F := F)
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5)
    ∧ s'.mem.mem ((d.tc : Thread nD τ).loc main_arg6) = m ((d.tc : Thread nD τ).loc main_arg6)

/-- A whole buffer held is what the memory holds there. -/
theorem held_read (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

/-- What the TensorCore keeps says so. -/
theorem hfin (d : Dev nD) (s' : Phys nD τ sig (Elt F)) : iprop(FIN m d ∗ SI s') ⊢ (⌜fq m d s'⌝ : sProp 𝕄) := by
  unfold FIN idle five
  beta_reduce
  iintro ⟨⟨⟨H0, H2, H4, H5, H6⟩, -, H1, H3, H7, H8⟩, HSI⟩
  ihave H := (held_read s' _ _) $$ [H0 HSI]
  · isplitl [H0] <;> iassumption
  icases H with ⟨%h0, HSI⟩
  ihave H := (held_read s' _ _) $$ [H1 HSI]
  · isplitl [H1] <;> iassumption
  icases H with ⟨%h1, HSI⟩
  ihave H := (held_read s' _ _) $$ [H2 HSI]
  · isplitl [H2] <;> iassumption
  icases H with ⟨%h2, HSI⟩
  ihave H := (held_read s' _ _) $$ [H3 HSI]
  · isplitl [H3] <;> iassumption
  icases H with ⟨%h3, HSI⟩
  ihave H := (held_read s' _ _) $$ [H4 HSI]
  · isplitl [H4] <;> iassumption
  icases H with ⟨%h4, HSI⟩
  ihave H := (held_read s' _ _) $$ [H5 HSI]
  · isplitl [H5] <;> iassumption
  icases H with ⟨%h5, HSI⟩
  ihave H := (held_read s' _ _) $$ [H6 HSI]
  · isplitl [H6] <;> iassumption
  icases H with ⟨%h6, HSI⟩
  ihave H := (held_read s' _ _) $$ [H7 HSI]
  · isplitl [H7] <;> iassumption
  icases H with ⟨%h7, HSI⟩
  ihave H := (held_read s' _ _) $$ [H8 HSI]
  · isplitl [H8] <;> iassumption
  icases H with ⟨%h8, -⟩
  ipureintro
  exact ⟨h7, h8, h0, h1, h2, h3, h4, h5, h6⟩

/-! ## The run -/

/-- What is claimed of the run, for any float values. -/
def QC : PUnit × MemSt nD τ sig (Elt F) → Prop := fun r =>
  (∀ c : Dev nD,
      r.2.mem ((c.tc : Thread nD τ).loc main_v6_0) = rstOf (ftOf m c) (faOf m c) (fuOf m c)
      ∧ r.2.mem ((c.tc : Thread nD τ).loc main_v6_1) = wOf (F := F)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0

/-- Every run ends, with the results the tiles compute, the arguments unchanged and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (ftOf m)) (A := ∅) facts v₀
    (fun q hq => match q with | 0 => nomatch hq)
    (fun q _ => match q with | 0 => tileObl m (ftOf m) facts)
    (fun q _ => match q with | 0 => SparseCore.Cfg.VecSplit.of_plain (vecSplit m (ftOf m)))
    m ρ main (fun d => GG (F := F) d) (FIN m) (u₀ (F := F)) (sep_elim_left.trans (hu₀ m)) (hmain m ρ) (fq m) (hfin m) (QC m) (fun _ h hz => ⟨h, hz⟩)

end Cert.Proof

end
-- ==== Proof.Frames.lean ====
/-
  The frames: every run of either program ends, its arguments unchanged and its semaphores at zero.
-/
module

public import proofs.«01_k».proof.Proof.Run
public import proofs.«01_k».proof.Proof.Gen.Kernel
public import proofs.«01_k».proof.Proof.Gen.ReferenceIdeal.Run
public import proofs.«01_k».proof.Proof.Gen.Pre_positive

@[expose] public section

noncomputable section

namespace Cert.Proof

open Idealize.ShloMosaic Idealize.SL.Sem

/-- Every run of the kernel's program ends, its arguments unchanged and its semaphores at zero. -/
theorem frame_any {F : FTy → Type} [FloatOps F] [∀ e, Nonempty (Elt F e)]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ fun r =>
      (∀ c : Dev Cert.KernelIdeal.nD,
        r.2.mem (c.tc.loc Cert.KernelIdeal.main_arg0) = m (c.tc.loc Cert.KernelIdeal.main_arg0) ∧
        r.2.mem (c.tc.loc Cert.KernelIdeal.main_arg1) = m (c.tc.loc Cert.KernelIdeal.main_arg1) ∧
        r.2.mem (c.tc.loc Cert.KernelIdeal.main_arg2) = m (c.tc.loc Cert.KernelIdeal.main_arg2) ∧
        r.2.mem (c.tc.loc Cert.KernelIdeal.main_arg3) = m (c.tc.loc Cert.KernelIdeal.main_arg3) ∧
        r.2.mem (c.tc.loc Cert.KernelIdeal.main_arg4) = m (c.tc.loc Cert.KernelIdeal.main_arg4) ∧
        r.2.mem (c.tc.loc Cert.KernelIdeal.main_arg5) = m (c.tc.loc Cert.KernelIdeal.main_arg5) ∧
        r.2.mem (c.tc.loc Cert.KernelIdeal.main_arg6) = m (c.tc.loc Cert.KernelIdeal.main_arg6)) ∧
      r.2.sem = fun _ => 0 :=
  (θ_run Cert.KernelIdeal.defs _ _).mono (fun _ h => ⟨fun c => (h.1 c).2.2, h.2⟩) (run_main (F := F) m ρ)

/-- The two printed programs have the same kernel bodies. -/
theorem bodies_eq {F : FTy → Type} [FloatOps F] :
    Cert.Kernel.defs₀ (F := F) = Cert.KernelIdeal.defs₀ (F := F) := by
  funext p ℓ a
  match p, ℓ, a with
  | .tc, 0, (t, s) => rfl
  | .tc, 1, _ => rfl
  | .scScalar _, 0, _ => rfl
  | .scScalar _, 1, _ => rfl
  | .scVector _ _, 0, _ => rfl
  | .scVector _ _, 1, _ => rfl

/-- They have the same body tables. -/
theorem tables_eq {F : FTy → Type} [FloatOps F] :
    Cert.Kernel.defs (F := F) = Cert.KernelIdeal.defs (F := F) :=
  congrArg (fun d => (Cert.KernelIdeal.sc (F := F)).defs (Pipeline.defs Cert.KernelIdeal.pcfgs d)) bodies_eq

/-- The kernel's frame, over machine floats. -/
theorem frame_kernel : Cert.quiescent_Kernel := by
  intro m ρ _
  rw [tables_eq]
  exact frame_any (F := Bits) m ρ

/-- The kernel's frame, over the extended reals. -/
theorem frame_ideal : Cert.quiescent_KernelIdeal := fun m ρ _ => frame_any (F := Ideal) m ρ

/-- The same, of the launches the value claim is about. -/
theorem frame_ideal_pre : Cert.quiescent_KernelIdeal_pre_positive := fun m ρ _ => frame_any (F := Ideal) m ρ

/-- The reference's frame. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same, of the launches the value claim is about. -/
theorem frame_ref_pre : Cert.quiescent_ReferenceIdeal_pre_positive := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof

end
-- ==== Proof.Num.lean ====
/-
  The arithmetic of the sampler over the extended reals: when a draw accepts a step, the running sum of the steps taken
  tile by tile, and the least accepted time of a row.
-/
module

public import Idealize.ShloMosaic.PureOps.Ideal.Laws
public import Idealize.ShloMosaic.Lib.IdealHost

@[expose] public section

noncomputable section

namespace Cert.Proof.Num

open Idealize.ShloMosaic

/-- A draw accepts a step when its uniform number is below the intensity's share of the bound. -/
theorem accept_iff {σ a ρ : ℝ} (hσ : 0 < σ) (ha : 0 < a) (hρ : 0 < ρ) (u : EReal) :
    Ideal.div (u * (σ : EReal)) ((a : EReal) * (ρ : EReal)) < 1 ↔ u < (a : EReal) * Ideal.div (ρ : EReal) (σ : EReal) := by
  have haρ := mul_pos ha hρ
  have h1 : 0 < 1 / (a * ρ) := one_div_pos.2 haρ
  rw [← EReal.coe_mul, Ideal.div_coe haρ.ne', Ideal.div_coe hσ.ne', ← EReal.coe_mul, ← EReal.coe_mul]
  induction u with
  | bot =>
    rw [EReal.bot_mul_coe_of_pos hσ, EReal.bot_mul_coe_of_pos h1]
    exact ⟨fun _ => EReal.bot_lt_coe _, fun _ => EReal.bot_lt_coe 1⟩
  | top =>
    rw [EReal.top_mul_coe_of_pos hσ, EReal.top_mul_coe_of_pos h1]
    exact ⟨fun h => absurd h (not_lt.2 le_top), fun h => absurd h (not_lt.2 le_top)⟩
  | coe u =>
    rw [← EReal.coe_mul, ← EReal.coe_mul, ← EReal.coe_one, EReal.coe_lt_coe_iff, EReal.coe_lt_coe_iff, mul_one_div,
      div_lt_one haρ, mul_one_div, ← mul_div_assoc, lt_div_iff₀ hσ]

/-- The largest value the clip leaves. -/
def cap : EReal := Ideal.ofBits .f32 0x3F7FFFFE#32

/-- It lies between zero and one. -/
theorem cap_mem : 0 ≤ cap ∧ cap ≤ 1 := by
  have h : cap = ((8388607 / 8388608 : ℝ) : EReal) := by
    unfold cap
    simp [Ideal.ofBits, Ideal.ieee, -EReal.coe_mul]; norm_num
  rw [h, ← EReal.coe_zero, ← EReal.coe_one, EReal.coe_le_coe_iff, EReal.coe_le_coe_iff]
  norm_num

/-- The word of minus infinity. -/
theorem word_bot : Ideal.ofBits .f32 0xFF800000#32 = ⊥ := by simp [Ideal.ofBits, Ideal.ieee]

/-- The word of plus infinity. -/
theorem word_top : Ideal.ofBits .f32 0x7F800000#32 = ⊤ := by simp [Ideal.ofBits, Ideal.ieee]

/-- The word of five. -/
theorem word_five : Ideal.ofBits .f32 0x40A00000#32 = ((5 : ℝ) : EReal) := by
  simp [Ideal.ofBits, Ideal.ieee, -EReal.coe_mul]; norm_num

/-- The word of the weight. -/
theorem word_weight : Ideal.ofBits .f32 0x39800000#32 = ((1 / 4096 : ℝ) : EReal) := by
  simp [Ideal.ofBits, Ideal.ieee, -EReal.coe_mul]; norm_num

/-- One step of the clock: the exponential number over the rate. -/
def step (x sr : EReal) : EReal := Ideal.div (-(Ideal.log1p (-(min cap (max 0 x))))) sr

/-- A step never goes back. -/
theorem step_nonneg (x : EReal) {σ : ℝ} (hσ : 0 < σ) : 0 ≤ step x (σ : EReal) := by
  have h1 : 0 < 1 / σ := one_div_pos.2 hσ
  have h0 : 0 ≤ min cap (max 0 x) := le_min cap_mem.1 (le_max_left _ _)
  have h2 : min cap (max 0 x) ≤ 1 := (min_le_left _ _).trans cap_mem.2
  unfold step
  generalize min cap (max 0 x) = c at h0 h2
  rw [Ideal.div_coe hσ.ne']
  induction c with
  | bot => exact absurd h0 (not_le.2 EReal.bot_lt_zero)
  | top => exact absurd h2 (not_le.2 (EReal.coe_lt_top 1))
  | coe c =>
    have hc0 : 0 ≤ c := EReal.coe_le_coe_iff.1 h0
    have hc1 : c ≤ 1 := EReal.coe_le_coe_iff.1 h2
    have e : (1 : EReal) + -(c : EReal) = ((1 - c : ℝ) : EReal) := by
      rw [← EReal.coe_neg, ← EReal.coe_one, ← EReal.coe_add, sub_eq_add_neg]
    unfold Ideal.log1p
    rw [e, Ideal.log_coe]
    split
    · rw [EReal.neg_bot, EReal.top_mul_coe_of_pos h1]
      exact le_top
    · rw [← EReal.coe_neg, ← EReal.coe_mul, ← EReal.coe_zero, EReal.coe_le_coe_iff]
      exact mul_nonneg (neg_nonneg.2 (Real.log_nonpos (by linarith) (by linarith))) h1.le

/-- The running sum of the steps up to `j`. -/
def cum (e : Fin 8192 → EReal) (j : Fin 8192) : EReal := ∑ i, if i ≤ j then e i else 0

/-- Times never go back. -/
theorem cum_mono {e : Fin 8192 → EReal} (he : ∀ i, 0 ≤ e i) (b : EReal) : Monotone fun j => cum e j + b := by
  intro j j' hj
  refine add_le_add (Finset.sum_le_sum fun i _ => ?_) le_rfl
  by_cases h : i ≤ j
  · rw [if_pos h, if_pos (h.trans hj)]
  · rw [if_neg h]
    split
    · exact he i
    · exact le_rfl

/-- The step `l` of tile `k`. -/
def fine (k : Fin 64) (l : Fin 128) : Fin 8192 := ⟨128 * k.val + l.val, by omega⟩

/-- A sum over all the steps is a sum over the tiles of sums over a tile's. -/
theorem sum_fine (f : Fin 8192 → EReal) : ∑ i, f i = ∑ k : Fin 64, ∑ l : Fin 128, f (fine k l) := by
  rw [← Fintype.sum_prod_type' (f := fun k l => f (fine k l))]
  refine (Fintype.sum_equiv (finProdFinEquiv (m := 64) (n := 128)) _ f fun p => congrArg f (Fin.ext ?_)).symm
  show 128 * p.1.val + p.2.val = p.2.val + 128 * p.1.val
  omega

/-- The running sum, tile by tile: the part of the last tile and the totals of the tiles before it. -/
theorem cum_tiles (e : Fin 8192 → EReal) (k : Fin 64) (l : Fin 128) :
    cum e (fine k l) = (∑ c : Fin 128, e (fine k c) * (if c ≤ l then 1 else 0))
      + ∑ k' : Fin 64, (if k' < k then 1 else 0) * ∑ c : Fin 128, e (fine k' c) := by
  have hx : (∑ c : Fin 128, e (fine k c) * (if c ≤ l then 1 else 0))
      = ∑ k' : Fin 64, if k' = k then ∑ c : Fin 128, e (fine k' c) * (if c ≤ l then 1 else 0) else 0 := by
    rw [Finset.sum_ite_eq' Finset.univ k fun k' => ∑ c : Fin 128, e (fine k' c) * (if c ≤ l then 1 else 0)]
    simp
  unfold cum
  rw [sum_fine, hx, ← Finset.sum_add_distrib]
  refine Finset.sum_congr rfl fun k' _ => ?_
  rcases lt_trichotomy k'.val k.val with h | h | h
  · have h1 : k' < k := h
    rw [if_neg h1.ne, if_pos h1, zero_add, one_mul]
    refine Finset.sum_congr rfl fun c _ => if_pos ?_
    show 128 * k'.val + c.val ≤ 128 * k.val + l.val
    omega
  · obtain rfl : k' = k := Fin.ext h
    rw [if_pos rfl, if_neg (lt_irrefl _), zero_mul, add_zero]
    refine Finset.sum_congr rfl fun c _ => ?_
    by_cases hc : c ≤ l
    · rw [if_pos hc, mul_one, if_pos]
      have : c.val ≤ l.val := hc
      show 128 * k'.val + c.val ≤ 128 * k'.val + l.val
      omega
    · rw [if_neg hc, mul_zero, if_neg]
      have : ¬ c.val ≤ l.val := hc
      show ¬ (128 * k'.val + c.val ≤ 128 * k'.val + l.val)
      omega
  · have h1 : ¬ k' < k := fun h' => absurd (show k'.val < k.val from h') (by omega)
    have h2 : k' ≠ k := fun h' => by subst h'; omega
    rw [if_neg h1, if_neg h2, zero_mul, zero_add]
    refine Finset.sum_eq_zero fun c _ => if_neg ?_
    show ¬ (128 * k'.val + c.val ≤ 128 * k.val + l.val)
    omega

/-- The running sum as a window of all the steps that ends at `j`. -/
theorem cum_window (e : Fin 8192 → EReal) (j : Fin 8192) :
    (∑ w : Fin 8192, if h : 8191 ≤ j.val + w.val ∧ j.val + w.val - 8191 < 8192 then e ⟨j.val + w.val - 8191, h.2⟩ else 0)
      = cum e j := by
  unfold cum
  rw [← Finset.sum_filter_ne_zero, ← Finset.sum_filter (s := Finset.univ) (fun i => i ≤ j)]
  refine (Finset.sum_filter_ne_zero _).trans ?_
  rw [← Finset.sum_subset (Finset.filter_subset (fun w : Fin 8192 => 8191 ≤ j.val + w.val) Finset.univ) fun w _ hw =>
    dif_neg fun h => hw (Finset.mem_filter.2 ⟨Finset.mem_univ _, h.1⟩)]
  refine Finset.sum_bij' (fun w hw => ⟨j.val + w.val - 8191, by omega⟩) (fun i hi => ⟨i.val + 8191 - j.val, ?_⟩) ?_ ?_ ?_ ?_ ?_
  · have : i.val ≤ j.val := (Finset.mem_filter.1 hi).2
    omega
  · intro w hw
    refine Finset.mem_filter.2 ⟨Finset.mem_univ _, ?_⟩
    show j.val + w.val - 8191 ≤ j.val
    omega
  · intro i hi
    have : i.val ≤ j.val := (Finset.mem_filter.1 hi).2
    refine Finset.mem_filter.2 ⟨Finset.mem_univ _, ?_⟩
    show 8191 ≤ j.val + (i.val + 8191 - j.val)
    omega
  · intro w hw
    have : 8191 ≤ j.val + w.val := (Finset.mem_filter.1 hw).2
    refine Fin.ext ?_
    show j.val + w.val - 8191 + 8191 - j.val = w.val
    omega
  · intro i hi
    have : i.val ≤ j.val := (Finset.mem_filter.1 hi).2
    refine Fin.ext ?_
    show j.val + (i.val + 8191 - j.val) - 8191 = i.val
    omega
  · intro w hw
    have : 8191 ≤ j.val + w.val := (Finset.mem_filter.1 hw).2
    rw [dif_pos ⟨this, by omega⟩]

/-- What lies one past the last time is no less than any time. -/
theorem le_add_one {x M : EReal} (h : x ≤ M) : x ≤ M + 1 := by
  calc x = x + 0 := (add_zero x).symm
    _ ≤ M + 1 := add_le_add h zero_le_one

/-- The least of a row's times, its rejected ones put past the end, is the time of its first accepted step. -/
theorem first_min {t : Fin 8192 → EReal} (ht : Monotone t) (hit : Fin 8192 → Prop) [DecidablePred hit] {M : EReal}
    (hM : ∀ j, t j ≤ M) (j₀ : Fin 8192) (h₀ : hit j₀) (hmin : ∀ j, hit j → j₀ ≤ j) :
    (Finset.univ : Finset (Fin 8192)).fold min ⊤ (fun j => if hit j then t j else M + 1) = t j₀ := by
  refine le_antisymm ?_ ?_
  · exact (Finset.fold_min_le _).2 (Or.inr ⟨j₀, Finset.mem_univ _, by rw [if_pos h₀]⟩)
  · refine (Finset.le_fold_min _).2 ⟨le_top, fun j _ => ?_⟩
    split
    · next h => exact ht (hmin j h)
    · exact le_add_one (hM j₀)

/-- The least of a row is below one when one of the row is. -/
theorem min_lt_one (f : Fin 8192 → EReal) :
    (Finset.univ : Finset (Fin 8192)).fold min ⊤ f < 1 ↔ ∃ j, f j < 1 := by
  rw [Finset.fold_min_lt]
  constructor
  · rintro (h | ⟨j, _, h⟩)
    · exact absurd h (not_lt.2 le_top)
    · exact ⟨j, h⟩
  · rintro ⟨j, h⟩
    exact Or.inr ⟨j, Finset.mem_univ _, h⟩

end Cert.Proof.Num

end
-- ==== Proof.Spec.lean ====
/-
  The sampler as plain mathematics over the extended reals: the rate, the times, the value of one sample; and the form in
  which the reference takes that value.
-/
module

public import proofs.«01_k».proof.Proof.Num

@[expose] public section

noncomputable section

namespace Cert.Proof.Num

open Idealize.ShloMosaic

/-- The largest total intensity of the boundary events. -/
def bound (b : Fin 10 → Fin 8 → EReal) : EReal := (Finset.univ : Finset (Fin 10)).fold max ⊥ fun i => ∑ k, b i k

/-- The rate of the clock: the largest total intensity, oversampled five times, at the sampling rate. -/
def rate (b : Fin 10 → Fin 8 → EReal) (r : EReal) : EReal := bound b * Ideal.ofBits .f32 0x40A00000#32 * r

/-- The time of step `j`. -/
def time (x : Fin 8192 → EReal) (sr tle : EReal) (j : Fin 8192) : EReal := cum (fun i => step (x i) sr) j + tle

/-- What a sample that accepts no step ends with: the last time or the boundary, whichever is later. -/
def none_time (t : Fin 8192 → EReal) (bnd : EReal) : EReal := if bnd < t ⟨8191, by omega⟩ then t ⟨8191, by omega⟩ else bnd

open Classical in
/-- What a sample ends with: the time of its first accepted step. -/
def result (t : Fin 8192 → EReal) (hit : Fin 8192 → Prop) (bnd : EReal) : EReal :=
  if h : ∃ j : ℕ, ∃ h : j < 8192, hit ⟨j, h⟩ then t ⟨Nat.find h, (Nat.find_spec h).1⟩ else none_time t bnd

/-- The same steps accepted, the same value. -/
theorem result_congr (t : Fin 8192 → EReal) {hit hit' : Fin 8192 → Prop} (h : ∀ j, hit j ↔ hit' j) (bnd : EReal) :
    result t hit bnd = result t hit' bnd := by
  rw [show hit = hit' from funext fun j => propext (h j)]

open Classical in
/-- The value of a sample whose first accepted step is `j₀`. -/
theorem result_first (t : Fin 8192 → EReal) (hit : Fin 8192 → Prop) (bnd : EReal) (j₀ : Fin 8192) (h₀ : hit j₀)
    (hmin : ∀ j, hit j → j₀ ≤ j) : result t hit bnd = t j₀ := by
  have h : ∃ j : ℕ, ∃ h : j < 8192, hit ⟨j, h⟩ := ⟨j₀.val, j₀.isLt, h₀⟩
  unfold result
  rw [dif_pos h]
  exact congrArg t (le_antisymm (Nat.find_min' h ⟨j₀.isLt, h₀⟩) (hmin _ (Nat.find_spec h).2))

/-- The value of a sample that accepts no step. -/
theorem result_none (t : Fin 8192 → EReal) (hit : Fin 8192 → Prop) (bnd : EReal) (h : ∀ j, ¬ hit j) :
    result t hit bnd = none_time t bnd := by
  unfold result
  rw [dif_neg fun ⟨j, hj, e⟩ => h ⟨j, hj⟩ e]

/-- The reference's value: the last time when nothing is accepted and the last time is past the boundary, else the least
    accepted time or the boundary. -/
theorem reference_result {t : Fin 8192 → EReal} (ht : Monotone t) (c : Fin 8192 → EReal) {M : EReal} (hM : ∀ j, t j ≤ M)
    (bnd : EReal) :
    (if ¬ ((Finset.univ : Finset (Fin 8192)).fold min ⊤ c < 1) ∧ bnd < t ⟨8191, by omega⟩ then t ⟨8191, by omega⟩
      else if (Finset.univ : Finset (Fin 8192)).fold min ⊤ c < 1 then
        (Finset.univ : Finset (Fin 8192)).fold min ⊤ (fun j => if c j < 1 then t j else M + 1)
      else bnd) = result t (fun j => c j < 1) bnd := by
  by_cases h : (Finset.univ : Finset (Fin 8192)).fold min ⊤ c < 1
  · have h' : ∃ j : ℕ, ∃ h : j < 8192, c ⟨j, h⟩ < 1 := by
      obtain ⟨j, hj⟩ := (min_lt_one c).1 h
      exact ⟨j.val, j.isLt, hj⟩
    obtain ⟨hj, hc⟩ := Nat.find_spec h'
    have hmin : ∀ j : Fin 8192, c j < 1 → ⟨Nat.find h', hj⟩ ≤ j := fun j e => Nat.find_min' h' ⟨j.isLt, e⟩
    rw [if_neg (fun e => e.1 h), if_pos h, result_first t (fun j => c j < 1) bnd _ hc hmin]
    exact first_min ht (fun j => c j < 1) hM _ hc hmin
  · rw [result_none t (fun j => c j < 1) bnd fun j e => h ((min_lt_one c).2 ⟨j, e⟩), if_neg h]
    unfold none_time
    by_cases hb : bnd < t ⟨8191, by omega⟩
    · rw [if_pos ⟨h, hb⟩, if_pos hb]
    · rw [if_neg fun e => hb e.2, if_neg hb]

end Cert.Proof.Num

end
-- ==== Proof.PayVal.lean ====
/-
  What the preparation computes, read index by index over the extended reals.
-/
module

public import proofs.«01_k».proof.Proof.Spec
public import proofs.«01_k».proof.Proof.Prep
public import Idealize.ShloMosaic.PureOps.Ideal.Laws
public import Idealize.ShloMosaic.Lib.Pointwise.Index
public import Idealize.ShloMosaic.Lib.Pipeline.Value
public import Idealize.ShloMosaic.Lib.MatmulPlain

@[expose] public section

set_option maxRecDepth 16384

noncomputable section

namespace Cert.Proof.Pay

open Cert.KernelIdeal Cert.KernelIdeal.Gen
open Idealize.ShloMosaic
open Cert.Proof.Num

/-- The scalar an array of one element holds. -/
def one (x : FVec Ideal S1x1 .f32) : EReal := x (ix2 (n0 := 1) (n1 := 1) 0 0)

/-- The element an array of one element is read at. -/
theorem extract_one (x : FVec Ideal S1x1 .f32) (h : ∀ a, (![0, 0] : Fin 2 → ℕ) a < S1x1.size a) : extractAt ![0, 0] x h = one x := by
  unfold extractAt one
  refine congrArg x (funext fun a => ?_)
  match a with
  | ⟨0, _⟩ => rfl
  | ⟨1, _⟩ => rfl

/-- The rate the preparation computes. -/
theorem rate_apply (r : FVec Ideal S1x1 .f32) (b : FVec Ideal S10x8 .f32) :
    k0_pay7 (F := Ideal) r b = rate (fun i k => b (ix2 (n0 := 10) (n1 := 8) i k)) (one r) := by
  unfold k0_pay7 k0_pay4 rate
  dsimp only
  rw [extract_one, extract_one, Ideal.scalar_mulf_def, Ideal.scalar_mulf_def]
  refine congrArg (fun e : EReal => e * Ideal.ofBits .f32 0x40A00000#32 * one r) ?_
  unfold one
  rw [shapeCast_apply _ _ _ (ix1 (n0 := 1) 0) (by rw [Shape.rowMajor_val_one, Shape.rowMajor_val_two]; rfl)]
  refine (Ideal.multiReduction_maximumf_single _ _ reduces_S1x10_S1 _ _ _).trans ?_
  show (Finset.univ : Finset (Fin 10)).fold max (Ideal.ofBits .f32 0xFF800000#32) _ = _
  rw [word_bot]
  unfold bound
  refine congrArg ((Finset.univ : Finset (Fin 10)).fold max ⊥) (funext fun a => ?_)
  show shapeCast S1x10 _ shapeCasts_S10_S1x10 _ = _
  rw [shapeCast_apply _ _ _ (ix1 (n0 := 10) a) (by rw [Shape.rowMajor_val_one, Shape.rowMajor_val_two]; show a.val = 0 * 10 + a.val; omega)]
  refine (Ideal.multiReduction_add_single _ _ reduces_S10x8_S10 _ _ _).trans ?_
  refine Finset.sum_congr rfl fun k _ => congrArg b (funext fun c => ?_)
  match c with
  | ⟨0, _⟩ => rfl
  | ⟨1, _⟩ => rfl

/-- A small count as a word is that count. -/
theorem toInt_small {a : ℕ} (ha : a < 128) : (BitVec.ofNat 32 a).toInt = (a : ℤ) := by
  rw [BitVec.toInt_eq_toNat_cond, BitVec.toNat_ofNat, Nat.mod_eq_of_lt (by omega), if_pos (by omega)]

/-- A comparison of two small counts as a number: one when the first is no greater. -/
theorem le_num {a b : ℕ} (ha : a < 128) (hb : b < 128) :
    (FloatOps.sitofp (F := Ideal) .f32 ((IntOp.cmpi .sle (BitVec.ofNat 32 a) (BitVec.ofNat 32 b)).setWidth 32) : EReal)
      = if a ≤ b then 1 else 0 := by
  have h : (BitVec.ofNat 32 a).sle (BitVec.ofNat 32 b) = decide (a ≤ b) := by
    rw [BitVec.sle_eq_decide, toInt_small ha, toInt_small hb]
    simp
  show ((((BitVec.ofBool ((BitVec.ofNat 32 a).sle (BitVec.ofNat 32 b))).setWidth 32).toInt : ℝ) : EReal) = _
  rw [h]
  by_cases hp : a ≤ b <;> simp [hp]

/-- A comparison of two small counts as a number: one when the first is less. -/
theorem lt_num {a b : ℕ} (ha : a < 128) (hb : b < 128) :
    (FloatOps.sitofp (F := Ideal) .f32 ((IntOp.cmpi .slt (BitVec.ofNat 32 a) (BitVec.ofNat 32 b)).setWidth 32) : EReal)
      = if a < b then 1 else 0 := by
  have h : (BitVec.ofNat 32 a).slt (BitVec.ofNat 32 b) = decide (a < b) := by
    rw [BitVec.slt_eq_decide, toInt_small ha, toInt_small hb]
    simp
  show ((((BitVec.ofBool ((BitVec.ofNat 32 a).slt (BitVec.ofNat 32 b))).setWidth 32).toInt : ℝ) : EReal) = _
  rw [h]
  by_cases hp : a < b <;> simp [hp]

/-- The printed product of a table of tiles is the plain one. -/
theorem dot_tile : dot_S64x128_S128x128_S64x128_1_0_0_1_n_n = DotDims.plain 64 128 128 := rfl

/-- The printed product of the tiles' totals is the plain one. -/
theorem dot_totals : dot_S64x64_S64x1_S64x1_1_0_0_1_n_n = DotDims.plain 64 64 1 := rfl

/-- The running sums within a tile. -/
theorem tile_apply (r : FVec Ideal S1x1 .f32) (b : FVec Ideal S10x8 .f32) (x : FVec Ideal S64x128 .f32) (k : Fin 64) (l : Fin 128) :
    k0_pay8 (F := Ideal) r b x (ix2 (n0 := 64) (n1 := 128) k l)
      = ∑ c : Fin 128, step (x (ix2 (n0 := 64) (n1 := 128) k c)) (k0_pay7 (F := Ideal) r b) * (if c ≤ l then (1 : EReal) else 0) := by
  unfold k0_pay8
  dsimp only
  rw [dot_tile, shapeCast_self]
  refine (Ideal.matmul_plain_apply _ _ _ _ _ _).trans ?_
  show Ideal.ofBits .f32 0x00000000#32 + _ = _
  rw [Ideal.ofBits_zero_f32, zero_add]
  refine Finset.sum_congr rfl fun c _ => congrArg₂ (fun a b : EReal => a * b) ?_ ?_
  · show Ideal.div (Ideal.ofBits .f32 0x00000000#32 - Ideal.log1p (Ideal.ofBits .f32 0x00000000#32 - min cap (max (Ideal.ofBits .f32 0x00000000#32) _))) _ = _
    rw [Ideal.ofBits_zero_f32, zero_sub, zero_sub]
    rfl
  · refine (congrArg₂ (fun a b : ℕ => (FloatOps.sitofp (F := Ideal) .f32 ((IntOp.cmpi .sle (BitVec.ofNat 32 a) (BitVec.ofNat 32 b)).setWidth 32) : EReal))
      (?_ : _ = c.val) (?_ : _ = l.val)).trans (le_num c.isLt l.isLt)
    · show 0 * 128 + c.val = c.val
      omega
    · show 0 * 128 + l.val = l.val
      omega

/-- The totals of the tiles before one, spread over its steps. -/
theorem carry_apply (r : FVec Ideal S1x1 .f32) (b : FVec Ideal S10x8 .f32) (x : FVec Ideal S64x128 .f32) (k : Fin 64) (l : Fin 128) :
    k0_pay9 (F := Ideal) r b x (ix2 (n0 := 64) (n1 := 128) k l)
      = ∑ k' : Fin 64, (if k' < k then (1 : EReal) else 0)
          * ∑ c : Fin 128, step (x (ix2 (n0 := 64) (n1 := 128) k' c)) (k0_pay7 (F := Ideal) r b) := by
  unfold k0_pay9
  dsimp only
  rw [dot_totals]
  refine (broadcastTo_apply _ _ _ (ix2 (n0 := 64) (n1 := 1) k 0) ?_).trans ?_
  · intro a
    match a with
    | ⟨0, _⟩ => rfl
    | ⟨1, _⟩ => rfl
  refine (Ideal.matmul_plain_apply _ _ _ _ _ _).trans ?_
  show Ideal.ofBits .f32 0x00000000#32 + _ = _
  rw [Ideal.ofBits_zero_f32, zero_add]
  refine Finset.sum_congr rfl fun k' _ => congrArg₂ (fun a b : EReal => a * b) ?_ ?_
  · refine (congrArg₂ (fun a b : ℕ => (FloatOps.sitofp (F := Ideal) .f32 ((IntOp.cmpi .slt (BitVec.ofNat 32 a) (BitVec.ofNat 32 b)).setWidth 32) : EReal))
      (?_ : _ = k'.val) (?_ : _ = k.val)).trans (lt_num (by omega) (by omega))
    · show 0 * 64 + k'.val = k'.val
      omega
    · show 0 * 64 + k.val = k.val
      omega
  · refine (extractStridedSlice_apply _ _ _ _ (ix2 (n0 := 64) (n1 := 128) k' ⟨127, by omega⟩) fun a => ?_).trans ?_
    · match a with
      | ⟨0, _⟩ => exact (Nat.zero_add _).symm
      | ⟨1, _⟩ => rfl
    · rw [tile_apply]
      refine Finset.sum_congr rfl fun c _ => ?_
      rw [if_pos (show c ≤ ⟨127, by omega⟩ from Nat.le_of_lt_succ c.isLt), mul_one]

/-- The times the preparation computes. -/
theorem time_apply (r tle : FVec Ideal S1x1 .f32) (b : FVec Ideal S10x8 .f32) (x : FVec Ideal S64x128 .f32) (e : Fin 8192 → EReal)
    (he : ∀ k l, x (ix2 (n0 := 64) (n1 := 128) k l) = e (fine k l)) (k : Fin 64) (l : Fin 128) :
    k0_pay1 (F := Ideal) (k0_pay5 tle) (k0_pay8 r b x) (k0_pay9 r b x) (ix2 (n0 := 64) (n1 := 128) k l)
      = time e (k0_pay7 (F := Ideal) r b) (one tle) (fine k l) := by
  unfold k0_pay1 time
  show (k0_pay8 (F := Ideal) r b x (ix2 (n0 := 64) (n1 := 128) k l) : EReal) + k0_pay9 (F := Ideal) r b x (ix2 (n0 := 64) (n1 := 128) k l)
    + k0_pay5 (F := Ideal) tle = _
  rw [tile_apply, carry_apply, cum_tiles]
  simp only [he]
  exact congrArg _ (extract_one tle _)

/-- The later of two times, as the preparation takes it. -/
theorem later_apply (a b : EReal) : Scalar.select (Scalar.cmpf (F := Ideal) (φ := .f32) .ogt a b) a b = if b < a then a else b := by
  show (if BitVec.ofBool (decide (b < a)) = 1#1 then a else b) = _
  by_cases hp : b < a <;> simp [hp]

/-- The fallback the preparation computes. -/
theorem none_apply (r tle bnd : FVec Ideal S1x1 .f32) (b : FVec Ideal S10x8 .f32) (x : FVec Ideal S64x128 .f32) (e : Fin 8192 → EReal)
    (he : ∀ k l, x (ix2 (n0 := 64) (n1 := 128) k l) = e (fine k l)) (i : S8x128.Idx) :
    k0_pay2 (F := Ideal) (k0_pay5 tle) (k0_pay6 bnd) (k0_pay8 r b x) (k0_pay9 r b x) i
      = none_time (time e (k0_pay7 (F := Ideal) r b) (one tle)) (one bnd) := by
  have h1 : extractAt ![0, 0] (extractStridedSlice S1x1 ![63, 127] (k0_pay1 (F := Ideal) (k0_pay5 tle) (k0_pay8 r b x) (k0_pay9 r b x))
      slices_S64x128_o63_127_S1x1) inpos_S1x1_p0_0 = time e (k0_pay7 (F := Ideal) r b) (one tle) ⟨8191, by omega⟩ := by
    rw [extract_one]
    unfold one
    rw [extractStridedSlice_apply _ _ _ _ (ix2 (n0 := 64) (n1 := 128) ⟨63, by omega⟩ ⟨127, by omega⟩) fun a => by
      match a with
      | ⟨0, _⟩ => rfl
      | ⟨1, _⟩ => rfl]
    exact time_apply r tle b x e he _ _
  have h2 : k0_pay6 (F := Ideal) bnd = one bnd := extract_one bnd _
  unfold k0_pay2 none_time
  refine (later_apply _ _).trans ?_
  rw [h1, h2]

/-- The table's rows of times. -/
theorem prep_time (r tle bnd : FVec Ideal S1x1 .f32) (b : FVec Ideal S10x8 .f32) (x : FVec Ideal S64x128 .f32) (e : Fin 8192 → EReal)
    (he : ∀ k l, x (ix2 (n0 := 64) (n1 := 128) k l) = e (fine k l)) (k : Fin 64) (l : Fin 128) :
    prepOut (F := Ideal) b x tle bnd r (ix2 (n0 := 72) (n1 := 128) ⟨k.val, by omega⟩ l)
      = time e (rate (fun i k => b (ix2 (n0 := 10) (n1 := 8) i k)) (one r)) (one tle) (fine k l) := by
  unfold prepOut
  rw [dif_pos (show ((ix2 (n0 := 72) (n1 := 128) ⟨k.val, by omega⟩ l) 0).val < 64 from k.isLt), ← rate_apply, ← time_apply r tle b x e he]
  refine congrArg _ (funext fun a => ?_)
  match a with
  | ⟨0, _⟩ => rfl
  | ⟨1, _⟩ => rfl

/-- The table's row of the fallback. -/
theorem prep_none (r tle bnd : FVec Ideal S1x1 .f32) (b : FVec Ideal S10x8 .f32) (x : FVec Ideal S64x128 .f32) (e : Fin 8192 → EReal)
    (he : ∀ k l, x (ix2 (n0 := 64) (n1 := 128) k l) = e (fine k l)) :
    prepOut (F := Ideal) b x tle bnd r (ix2 (n0 := 72) (n1 := 128) ⟨64, by omega⟩ 0)
      = none_time (time e (rate (fun i k => b (ix2 (n0 := 10) (n1 := 8) i k)) (one r)) (one tle)) (one bnd) := by
  unfold prepOut
  rw [dif_neg (show ¬ ((ix2 (n0 := 72) (n1 := 128) ⟨64, by omega⟩ 0) 0).val < 64 from Nat.lt_irrefl 64),
    if_neg (show ¬ ((ix2 (n0 := 72) (n1 := 128) ⟨64, by omega⟩ 0) 0).val = 65 from Nat.ne_of_lt (Nat.lt_succ_self 64)), ← rate_apply]
  exact none_apply r tle bnd b x e he _

/-- The table's row of the scale. -/
theorem prep_scale (r tle bnd : FVec Ideal S1x1 .f32) (b : FVec Ideal S10x8 .f32) (x : FVec Ideal S64x128 .f32) :
    prepOut (F := Ideal) b x tle bnd r (ix2 (n0 := 72) (n1 := 128) ⟨65, by omega⟩ 0)
      = Ideal.div (one r) (rate (fun i k => b (ix2 (n0 := 10) (n1 := 8) i k)) (one r)) := by
  unfold prepOut
  rw [dif_neg (show ¬ ((ix2 (n0 := 72) (n1 := 128) ⟨65, by omega⟩ 0) 0).val < 64 from Nat.not_lt.2 (Nat.le_succ 64)),
    if_pos (show ((ix2 (n0 := 72) (n1 := 128) ⟨65, by omega⟩ 0) 0).val = 65 from rfl), ← rate_apply]
  unfold k0_pay3
  show Ideal.div (k0_pay4 (F := Ideal) r) _ = _
  rw [show k0_pay4 (F := Ideal) r = one r from extract_one r _]

end Cert.Proof.Pay

end
-- ==== Proof.TabVal.lean ====
/-
  The table of times the tiles are given, read over the extended reals.
-/
module

public import proofs.«01_k».proof.Proof.PayVal
public import proofs.«01_k».proof.Proof.Run

@[expose] public section

set_option maxRecDepth 16384

noncomputable section

namespace Cert.Proof.Tab

open Cert.KernelIdeal Cert.KernelIdeal.Gen
open Idealize.ShloMosaic Idealize.ShloMosaic.TcCoe
open Cert.Proof.Num Cert.Proof.Pay

variable (m : (ℓ : Loc nD τ sig) → Buf (Elt Ideal) ℓ)

/-- The preparation is given the last event's time, reshaped. -/
theorem at_v0 (d : Dev nD) : W1 m d (Proc.devRef .tc main_v0) = shapeCast S1x1 (m ((d.tc : Thread nD τ).loc main_arg4)) shapeCasts_S1_S1x1 := by
  unfold W1 before
  rw [StableHlo.after_cons, StableHlo.after_cons, StableHlo.after_cons, StableHlo.after_cons, StableHlo.after_nil]
  rw [StableHlo.reshape_result_ne _ _ _ _ _ _ _ (by decide), StableHlo.reshape_result_ne _ _ _ _ _ _ _ (by decide),
    StableHlo.reshape_result_ne _ _ _ _ _ _ _ (by decide), StableHlo.reshape_result]
  rfl

/-- The preparation is given the boundary time, reshaped. -/
theorem at_v1 (d : Dev nD) : W1 m d (Proc.devRef .tc main_v1) = shapeCast S1x1 (m ((d.tc : Thread nD τ).loc main_arg5)) shapeCasts_S1_S1x1 := by
  unfold W1 before
  rw [StableHlo.after_cons, StableHlo.after_cons, StableHlo.after_cons, StableHlo.after_cons, StableHlo.after_nil]
  rw [StableHlo.reshape_result_ne _ _ _ _ _ _ _ (by decide), StableHlo.reshape_result_ne _ _ _ _ _ _ _ (by decide),
    StableHlo.reshape_result, StableHlo.reshape_result_ne _ _ _ _ _ _ _ (by decide)]
  rfl

/-- The preparation is given the sampling rate, reshaped. -/
theorem at_v2 (d : Dev nD) : W1 m d (Proc.devRef .tc main_v2) = shapeCast S1x1 (m ((d.tc : Thread nD τ).loc main_arg6)) shapeCasts_S1_S1x1 := by
  unfold W1 before
  rw [StableHlo.after_cons, StableHlo.after_cons, StableHlo.after_cons, StableHlo.after_cons, StableHlo.after_nil]
  rw [StableHlo.reshape_result_ne _ _ _ _ _ _ _ (by decide), StableHlo.reshape_result,
    StableHlo.reshape_result_ne _ _ _ _ _ _ _ (by decide), StableHlo.reshape_result_ne _ _ _ _ _ _ _ (by decide)]
  rfl

/-- The preparation is given the exponential numbers, tile by tile. -/
theorem at_v3 (d : Dev nD) :
    W1 m d (Proc.devRef .tc main_v3) = shapeCast S64x128 (m ((d.tc : Thread nD τ).loc main_arg2)) shapeCasts_S1x8192_S64x128 := by
  unfold W1 before
  rw [StableHlo.after_cons, StableHlo.after_cons, StableHlo.after_cons, StableHlo.after_cons, StableHlo.after_nil]
  rw [StableHlo.reshape_result,
    StableHlo.reshape_result_ne _ _ _ _ _ _ _ (by decide), StableHlo.reshape_result_ne _ _ _ _ _ _ _ (by decide),
    StableHlo.reshape_result_ne _ _ _ _ _ _ _ (by decide)]
  rfl

/-- The table the tiles are given is the preparation's, flattened. -/
theorem table_apply (d : Dev nD) (k : Fin 72) (l : Fin 128) (q : Fin 9216) (hq : q.val = 128 * k.val + l.val) :
    ftOf m d (ix1 (n0 := 9216) q)
      = prepOut (F := Ideal) (m ((d.tc : Thread nD τ).loc main_arg0))
          (shapeCast S64x128 (m ((d.tc : Thread nD τ).loc main_arg2)) shapeCasts_S1x8192_S64x128)
          (shapeCast S1x1 (m ((d.tc : Thread nD τ).loc main_arg4)) shapeCasts_S1_S1x1)
          (shapeCast S1x1 (m ((d.tc : Thread nD τ).loc main_arg5)) shapeCasts_S1_S1x1)
          (shapeCast S1x1 (m ((d.tc : Thread nD τ).loc main_arg6)) shapeCasts_S1_S1x1) (ix2 (n0 := 72) (n1 := 128) k l) := by
  have h0 : W1 m d (Proc.devRef .tc main_arg0) = m ((d.tc : Thread nD τ).loc main_arg0) :=
    W1_of_ne m d main_arg0 (by decide) (by decide) (by decide) (by decide)
  unfold ftOf W3 behind
  rw [StableHlo.reshape_result, W2_self]
  unfold prepV V1
  rw [at_v0, at_v1, at_v2, at_v3, h0]
  refine shapeCast_apply (s := S72x128) (t := S9216) _ _ _ (ix2 (n0 := 72) (n1 := 128) k l) ?_
  rw [Shape.rowMajor_val_one, Shape.rowMajor_val_two]
  show k.val * 128 + l.val = q.val
  omega

/-- A scalar reshaped is the same scalar. -/
theorem one_cast (x : FVec Ideal S1 .f32) (h : S1.ShapeCasts S1x1) : one (shapeCast S1x1 x h) = x (ix1 (n0 := 1) 0) :=
  shapeCast_apply _ _ _ _ (by rw [Shape.rowMajor_val_one, Shape.rowMajor_val_two]; rfl)

/-- The exponential numbers, tile by tile. -/
theorem tiles_cast (x : FVec Ideal S1x8192 .f32) (h : S1x8192.ShapeCasts S64x128) (k : Fin 64) (l : Fin 128) :
    shapeCast S64x128 x h (ix2 (n0 := 64) (n1 := 128) k l) = x (ix2 (n0 := 1) (n1 := 8192) 0 (fine k l)) :=
  shapeCast_apply _ _ _ _ (by
    rw [Shape.rowMajor_val_two, Shape.rowMajor_val_two]
    show 0 * 8192 + (128 * k.val + l.val) = k.val * 128 + l.val
    omega)

/-- The sum of eight numbers is their sum. -/
theorem sum8_eq (f : Fin 8 → EReal) : sum8 (F := Ideal) f = ∑ k, f k := by
  rw [Fin.sum_univ_eight]
  unfold sum8
  show Ideal.ofBits .f32 0x00000000#32 + f 0 + f 1 + f 2 + f 3 + f 4 + f 5 + f 6 + f 7 = _
  rw [Ideal.ofBits_zero_f32, zero_add]

open Classical in
/-- What a tile picks, in plain mathematics. -/
theorem pick_eq (t : TT Ideal) (a : TA Ideal) (u : TU Ideal) (n : Fin 4096) (τ : Fin 8192 → EReal) (bnd sc : EReal)
    (ht : ∀ j : Fin 8192, t (ix1 (n0 := 9216) ⟨j.val, by omega⟩) = τ j)
    (hn : t (ix1 (n0 := 9216) ⟨8192, by omega⟩) = none_time τ bnd) (hs : t (ix1 (n0 := 9216) ⟨8320, by omega⟩) = sc) :
    pick t a u n = result τ (fun j => (u (ix2 (n0 := 4096) (n1 := 8192) n j) : EReal)
      < (∑ k : Fin 8, a (ix3 (n0 := 1) (n1 := 8192) (n2 := 8) 0 j k)) * sc) bnd := by
  have hit : ∀ j : Fin 8192, Hit t a u n j.val ↔ (u (ix2 (n0 := 4096) (n1 := 8192) n j) : EReal)
      < (∑ k : Fin 8, a (ix3 (n0 := 1) (n1 := 8192) (n2 := 8) 0 j k)) * sc := fun j => by
    have e : thr t a j = ((∑ k : Fin 8, a (ix3 (n0 := 1) (n1 := 8192) (n2 := 8) 0 j k)) * sc : EReal) := by
      unfold thr
      show (sum8 (F := Ideal) (inten a j) : EReal) * t (ix1 (n0 := 9216) ⟨8320, _⟩) = _
      rw [hs, sum8_eq]
      rfl
    unfold Hit
    rw [← e]
    refine Iff.trans ⟨fun ⟨_, h⟩ => h, fun h => ⟨j.isLt, h⟩⟩ ?_
    show BitVec.ofBool (decide ((u (ix2 (n0 := 4096) (n1 := 8192) n j) : EReal) < thr t a j)) = 1#1 ↔ _
    by_cases hp : (u (ix2 (n0 := 4096) (n1 := 8192) n j) : EReal) < thr t a j <;> simp [hp]
  unfold pick
  by_cases h : ∃ j, Hit t a u n j
  · obtain ⟨hj, _⟩ := Nat.find_spec h
    rw [dif_pos h, result_first τ _ bnd ⟨Nat.find h, hj⟩ ((hit _).1 (Nat.find_spec h)) fun j e => Nat.find_min' h ((hit j).2 e)]
    exact ht ⟨Nat.find h, hj⟩
  · rw [dif_neg h, hn, result_none _ _ _ fun j e => h ⟨j.val, (hit j).2 e⟩]

/-- The first result of the kernel, one sample of it, in plain mathematics. -/
theorem kernel_apply (d : Dev nD) (a : TA Ideal) (u : TU Ideal) (n : Fin 4096)
    (x0 : FVec Ideal S10x8 .f32) (x2 : FVec Ideal S1x8192 .f32) (x4 x5 x6 : FVec Ideal S1 .f32)
    (h0 : m ((d.tc : Thread nD τ).loc main_arg0) = x0) (h2 : m ((d.tc : Thread nD τ).loc main_arg2) = x2)
    (h4 : m ((d.tc : Thread nD τ).loc main_arg4) = x4) (h5 : m ((d.tc : Thread nD τ).loc main_arg5) = x5)
    (h6 : m ((d.tc : Thread nD τ).loc main_arg6) = x6) :
    pick (ftOf m d) a u n
      = result (time (fun i => x2 (ix2 (n0 := 1) (n1 := 8192) 0 i))
            (rate (fun i k => x0 (ix2 (n0 := 10) (n1 := 8) i k)) (x6 (ix1 (n0 := 1) 0))) (x4 (ix1 (n0 := 1) 0)))
          (fun j => (u (ix2 (n0 := 4096) (n1 := 8192) n j) : EReal)
            < (∑ k : Fin 8, a (ix3 (n0 := 1) (n1 := 8192) (n2 := 8) 0 j k))
              * Ideal.div (x6 (ix1 (n0 := 1) 0)) (rate (fun i k => x0 (ix2 (n0 := 10) (n1 := 8) i k)) (x6 (ix1 (n0 := 1) 0))))
          (x5 (ix1 (n0 := 1) 0)) := by
  have key := table_apply m d
  rw [h0, h2, h4, h5, h6] at key
  refine pick_eq _ a u n _ _ _ (fun j => ?_) ?_ ?_
  · have hj := j.isLt
    have e := key ⟨j.val / 128, by omega⟩ ⟨j.val % 128, by omega⟩ ⟨j.val, by omega⟩ (by show j.val = 128 * (j.val / 128) + j.val % 128; omega)
    refine e.trans ((prep_time _ _ _ x0 _ (fun i => x2 (ix2 (n0 := 1) (n1 := 8192) 0 i)) (tiles_cast x2 _) ⟨j.val / 128, by omega⟩ ⟨j.val % 128, by omega⟩).trans ?_)
    rw [one_cast, one_cast]
    exact congrArg _ (Fin.ext (show 128 * (j.val / 128) + j.val % 128 = j.val by omega))
  · refine (key ⟨64, by omega⟩ 0 ⟨8192, by omega⟩ rfl).trans ((prep_none _ _ _ x0 _ (fun i => x2 (ix2 (n0 := 1) (n1 := 8192) 0 i)) (tiles_cast x2 _)).trans ?_)
    rw [one_cast, one_cast, one_cast]
  · refine (key ⟨65, by omega⟩ 0 ⟨8320, by omega⟩ rfl).trans ((prep_scale _ _ _ x0 _).trans ?_)
    rw [one_cast]

end Cert.Proof.Tab

end
-- ==== Proof.RefVal.lean ====
/-
  What the reference's run leaves, read index by index over the extended reals.
-/
module

public import proofs.«01_k».proof.Proof.Spec
public import proofs.«01_k».proof.Proof.Gen.ReferenceIdeal.Run
public import Idealize.ShloMosaic.PureOps.Reduce
public import Idealize.ShloMosaic.PureOps.Ideal.Laws
public import Idealize.ShloMosaic.Lib.IdealHost
public import Idealize.ShloMosaic.Lib.Pointwise.Index
public import Idealize.ShloMosaic.Lib.Pipeline.Value

@[expose] public section

set_option maxRecDepth 16384

noncomputable section

namespace Cert.Proof.Ref

open Cert.ReferenceIdeal Cert.ReferenceIdeal.Gen
open Idealize.ShloMosaic
open Cert.Proof.Num

/-- The scalar an array of one element holds. -/
def one (x : FVec Ideal S1 .f32) : EReal := x (ix1 (n0 := 1) 0)

/-- An array of one element taken as a scalar reads that element. -/
theorem scalar_apply (x : FVec Ideal S1 .f32) (i : S_.Idx) : shapeCast S_ x shapeCasts_S1_S_ i = one x := by
  unfold shapeCast one
  refine congrArg x (funext fun a => ?_)
  match a with
  | ⟨0, _⟩ => exact Subsingleton.elim (α := Fin 1) _ _

/-- A scalar spread over an array reads the scalar. -/
theorem spread_apply {T : Shape} {α : Type} (h : S_.BroadcastsInDim T ![]) (x : S_.Idx → α) (j : T.Idx) (i : S_.Idx) :
    broadcastInDim T ![] h x j = x i :=
  congrArg x (funext fun a => a.elim0)

/-- The rate as the reference takes it. -/
def tRate (x0 : FVec Ideal S10x8 .f32) (x6 : FVec Ideal S1 .f32) : FVec Ideal S_ .f32 :=
  mulf (mulf (Host.reduce FloatOps.maximumf (Host.reduceAdd x0 (constant S_ .f32 0x00000000#32) reducesTo_S10x8_S10_d1 h_S_)
    (constant S_ .f32 0xFF800000#32) reducesTo_S10_S_d0 h_S_) (constant S_ .f32 0x40A00000#32)) (shapeCast _ x6 shapeCasts_S1_S_)

/-- The acceptance ratios as the reference takes them. -/
def tCrit (x0 : FVec Ideal S10x8 .f32) (x1 : FVec Ideal S1x8192x8 .f32) (x3 : FVec Ideal S4096x8192 .f32) (x6 : FVec Ideal S1 .f32) :
    FVec Ideal S4096x8192 .f32 :=
  Host.divf (mulf x3 (broadcastInDim S4096x8192 ![] bcast_S_S4096x8192 (tRate x0 x6)))
    (broadcastInDim S4096x8192 ![0, 1] bcast_S1x8192_S4096x8192_0_1
      (mulf (Host.reduceAdd x1 (constant S_ .f32 0x00000000#32) reducesTo_S1x8192x8_S1x8192_d2 h_S_)
        (broadcastInDim S1x8192 ![] bcast_S_S1x8192 (shapeCast _ x6 shapeCasts_S1_S_))))

/-- Which samples accept a step. -/
def tAcc (c : FVec Ideal S4096x8192 .f32) : IVec S4096 1 :=
  cmpf .olt (Host.reduce FloatOps.minimumf c (constant S_ .f32 0x7F800000#32) reducesTo_S4096x8192_S4096_d1 h_S_)
    (broadcastInDim S4096 ![] bcast_S_S4096 (constant S_ .f32 0x3F800000#32))

/-- The last times. -/
def tLast (t : FVec Ideal S4096x8192 .f32) : FVec Ideal S4096 .f32 :=
  shapeCast _ (extractStridedSlice S4096x1 ![0, 8191] t slices_S4096x8192_S4096x1_0_8191) shapeCasts_S4096x1_S4096

/-- The first result, from the ratios, the times and the boundary. -/
def tOut (c t : FVec Ideal S4096x8192 .f32) (x5 : FVec Ideal S1 .f32) : FVec Ideal S4096 .f32 :=
  select (andi (noti (tAcc c)) (cmpf .ogt (tLast t) (broadcastInDim S4096 ![] bcast_S_S4096 (shapeCast _ x5 shapeCasts_S1_S_)))) (tLast t)
    (select (tAcc c)
      (Host.reduce FloatOps.minimumf
        (select (cmpf .oge c (broadcastInDim S4096x8192 ![] bcast_S_S4096x8192 (constant S_ .f32 0x3F800000#32)))
          (broadcastInDim S4096x8192 ![] bcast_S_S4096x8192
            (addf (Host.reduce FloatOps.maximumf t (constant S_ .f32 0xFF800000#32) reducesTo_S4096x8192_S_d0_1 h_S_)
              (constant S_ .f32 0x3F800000#32))) t)
        (constant S_ .f32 0x7F800000#32) reducesTo_S4096x8192_S4096_d1 h_S_)
      (broadcastInDim S4096 ![] bcast_S_S4096 (shapeCast _ x5 shapeCasts_S1_S_)))

/-- A maximum over the indices of a rank-one array is one over its positions. -/
theorem fold_ix1 (f : S10.Idx → EReal) :
    (Finset.univ : Finset S10.Idx).fold max ⊥ f = (Finset.univ : Finset (Fin 10)).fold max ⊥ fun a => f (ix1 (n0 := 10) a) := by
  refine le_antisymm ((Finset.fold_max_le _).2 ⟨bot_le, fun i _ => ?_⟩) ((Finset.fold_max_le _).2 ⟨bot_le, fun a _ => ?_⟩)
  · rw [eq_ix1 i]
    exact (Finset.le_fold_max _).2 (Or.inr ⟨i 0, Finset.mem_univ _, le_rfl⟩)
  · exact (Finset.le_fold_max _).2 (Or.inr ⟨ix1 (n0 := 10) a, Finset.mem_univ _, le_rfl⟩)

/-- The largest total intensity of the boundary events, in plain mathematics. -/
theorem bound_apply (x0 : FVec Ideal S10x8 .f32) (i : S_.Idx) :
    Host.reduce FloatOps.maximumf (Host.reduceAdd x0 (constant S_ .f32 0x00000000#32) reducesTo_S10x8_S10_d1 h_S_)
      (constant S_ .f32 0xFF800000#32) reducesTo_S10_S_d0 h_S_ i = bound fun i k => x0 (ix2 (n0 := 10) (n1 := 8) i k) := by
  have h1 : S10x8.Reduces [1] S10 := by decide
  rw [Host.reduce_eq_fold FloatOps.maximumf _ _ reducesTo_S10_S_d0 h_S_ i,
    Finset.filter_true_of_mem fun k _ => funext fun a => a.elim0]
  show (Finset.univ : Finset S10.Idx).fold max (Ideal.ofBits .f32 0xFF800000#32) _ = _
  rw [word_bot, fold_ix1]
  unfold bound
  refine congrArg ((Finset.univ : Finset (Fin 10)).fold max ⊥) (funext fun a => ?_)
  rw [ValueIdx.hostReduceAdd_apply, Ideal.hostReduceAdd_single reducesTo_S10x8_S10_d1 h1]
  show Ideal.ofBits .f32 0x00000000#32 + _ = _
  rw [Ideal.ofBits_zero_f32, zero_add]
  refine Finset.sum_congr rfl fun k _ => congrArg x0 (funext fun b => ?_)
  match b with
  | ⟨0, _⟩ => rfl
  | ⟨1, _⟩ => rfl

/-- The rate, in plain mathematics. -/
theorem tRate_apply (x0 : FVec Ideal S10x8 .f32) (x6 : FVec Ideal S1 .f32) (i : S_.Idx) :
    tRate x0 x6 i = rate (fun i k => x0 (ix2 (n0 := 10) (n1 := 8) i k)) (one x6) := by
  unfold tRate rate
  show Host.reduce FloatOps.maximumf _ _ _ _ i * _ * shapeCast S_ x6 shapeCasts_S1_S_ i = _
  rw [scalar_apply]
  exact congrArg (· * _ * one x6) (bound_apply x0 i)

/-- A fold over a running count is the sum, begun where the fold begins. -/
theorem foldl_sum {n : ℕ} (f : Fin n → EReal) (v : EReal) :
    (List.finRange n).foldl (fun r i => r + f i) v = v + ∑ i, f i := by
  rw [← List.sum_ofFn, List.ofFn_eq_map]
  generalize List.finRange n = l
  induction l generalizing v with
  | nil => simp
  | cons a l ih => rw [List.foldl_cons, ih, List.map_cons, List.sum_cons, add_assoc]

/-- A sum of windows, read at an index: the elements of the operand the window there covers. -/
theorem window_sum {s t u : Shape} (window strides lo hi : Fin s.rank → Nat) (x : FVec Ideal s .f32) (z : FVec Ideal u .f32)
    (h : s.ReduceWindows window strides lo hi t) (hu : 0 < u.numel) (hz : ∀ i, z i = (0 : EReal)) (j : t.Idx) :
    (Host.reduceWindowAdd window strides lo hi x z h hu j : EReal)
      = ∑ w : (⟨s.rank, window⟩ : Shape).Idx,
          if hin : ∀ a, lo a ≤ (j (a.cast h.1.symm)).val * strides a + (w a).val
              ∧ (j (a.cast h.1.symm)).val * strides a + (w a).val - lo a < s.size a then
            x (fun a => ⟨(j (a.cast h.1.symm)).val * strides a + (w a).val - lo a, (hin a).2⟩) else 0 := by
  show Ideal.hostReduceWindowAdd window strides lo hi h x (z (Shape.Idx.first hu)) j = _
  rw [hz]
  unfold Ideal.hostReduceWindowAdd Host.reduceWindow
  dsimp only
  rw [foldl_sum, zero_add, ← Equiv.sum_comp (Shape.rowMajor (⟨s.rank, window⟩ : Shape))]
  refine Finset.sum_congr rfl fun w _ => ?_
  simp only [Equiv.symm_apply_apply]

/-- The window of the running sum, read at a step. -/
theorem window_apply (x : FVec Ideal S1x8192 .f32) (z : FVec Ideal S_ .f32) (hz : ∀ i, z i = (0 : EReal)) (j : Fin 8192) :
    Host.reduceWindowAdd ![1, 8192] ![1, 1] ![0, 8191] ![0, 0] x z reduceWindows_S1x8192_S1x8192_w1s1p0_0_w8192s1p8191_0 h_S_
      (ix2 (n0 := 1) (n1 := 8192) 0 j) = cum (fun i => x (ix2 (n0 := 1) (n1 := 8192) 0 i)) j := by
  have e := window_sum (s := S1x8192) (t := S1x8192) (u := S_) ![1, 8192] ![1, 1] ![0, 8191] ![0, 0] x z reduceWindows_S1x8192_S1x8192_w1s1p0_0_w8192s1p8191_0 h_S_ hz
    (ix2 (n0 := 1) (n1 := 8192) 0 j)
  refine e.trans ?_
  clear e
  refine (sum_idx2 (n0 := 1) (n1 := 8192) _).trans ?_
  refine (Fin.sum_univ_one _).trans ?_
  refine Eq.trans ?_ (cum_window _ j)
  refine Finset.sum_congr rfl fun w _ => ?_
  by_cases h : 8191 ≤ j.val + w.val ∧ j.val + w.val - 8191 < 8192
  · rw [dif_pos h, dif_pos]
    · refine congrArg x (funext fun a => Fin.ext ?_)
      match a with
      | ⟨0, _⟩ => rfl
      | ⟨1, _⟩ =>
        show j.val * 1 + w.val - 8191 = j.val + w.val - 8191
        rw [mul_one]
    · intro a
      match a with
      | ⟨0, _⟩ => exact ⟨Nat.zero_le _, Nat.zero_lt_one⟩
      | ⟨1, _⟩ =>
        show 8191 ≤ j.val * 1 + w.val ∧ j.val * 1 + w.val - 8191 < 8192
        rw [mul_one]
        exact h
  · rw [dif_neg h, dif_neg]
    intro h'
    have h1 : 8191 ≤ j.val * 1 + w.val ∧ j.val * 1 + w.val - 8191 < 8192 := h' 1
    rw [mul_one] at h1
    exact h h1

/-- The steps of the clock as the reference takes them. -/
def tStep (x0 : FVec Ideal S10x8 .f32) (x2 : FVec Ideal S1x8192 .f32) (x6 : FVec Ideal S1 .f32) : FVec Ideal S1x8192 .f32 :=
  Host.divf (Host.negf (Host.log1p (Host.negf (minimumf (broadcastInDim S1x8192 ![] bcast_S_S1x8192 (id (constant S_ .f32 0x3F7FFFFE#32)))
    (maximumf (broadcastInDim S1x8192 ![] bcast_S_S1x8192 (id (constant S_ .f32 0x00000000#32))) x2)))))
    (broadcastInDim S1x8192 ![] bcast_S_S1x8192 (tRate x0 x6))

/-- One step of the clock, in plain mathematics. -/
theorem tStep_apply (x0 : FVec Ideal S10x8 .f32) (x2 : FVec Ideal S1x8192 .f32) (x6 : FVec Ideal S1 .f32) (i : S1x8192.Idx) :
    tStep x0 x2 x6 i = step (x2 i) (rate (fun i k => x0 (ix2 (n0 := 10) (n1 := 8) i k)) (one x6)) := by
  have i0 : S_.Idx := fun a => a.elim0
  have h1 : broadcastInDim S1x8192 ![] bcast_S_S1x8192 (id (constant (F := Ideal) S_ .f32 0x3F7FFFFE#32)) i = cap := spread_apply _ _ _ i0
  have h2 : broadcastInDim S1x8192 ![] bcast_S_S1x8192 (id (constant (F := Ideal) S_ .f32 0x00000000#32)) i = 0 :=
    (spread_apply _ _ _ i0).trans Ideal.ofBits_zero_f32
  have h3 := (spread_apply bcast_S_S1x8192 (tRate x0 x6) i i0).trans (tRate_apply x0 x6 i0)
  unfold tStep step
  show Ideal.div (-(Ideal.log1p (-(min (broadcastInDim S1x8192 ![] bcast_S_S1x8192 (id (constant (F := Ideal) S_ .f32 0x3F7FFFFE#32)) i)
    (max (broadcastInDim S1x8192 ![] bcast_S_S1x8192 (id (constant (F := Ideal) S_ .f32 0x00000000#32)) i) (x2 i))))))
    (broadcastInDim S1x8192 ![] bcast_S_S1x8192 (tRate x0 x6) i) = _
  rw [h1, h2, h3]

/-- The times as the reference takes them. -/
def tTime (x0 : FVec Ideal S10x8 .f32) (x2 : FVec Ideal S1x8192 .f32) (x4 x6 : FVec Ideal S1 .f32) : FVec Ideal S1x8192 .f32 :=
  addf (Host.reduceWindowAdd ![1, 8192] ![1, 1] ![0, 8191] ![0, 0] (tStep x0 x2 x6)
    (broadcastInDim S_ ![] bcast_S_S_ (constant S_ .f32 0x00000000#32)) reduceWindows_S1x8192_S1x8192_w1s1p0_0_w8192s1p8191_0 h_S_)
    (broadcastInDim S1x8192 ![] bcast_S_S1x8192 (shapeCast _ x4 shapeCasts_S1_S_))

/-- The times, in plain mathematics. -/
theorem tTime_apply (x0 : FVec Ideal S10x8 .f32) (x2 : FVec Ideal S1x8192 .f32) (x4 x6 : FVec Ideal S1 .f32) (j : Fin 8192) :
    tTime x0 x2 x4 x6 (ix2 (n0 := 1) (n1 := 8192) 0 j)
      = time (fun i => x2 (ix2 (n0 := 1) (n1 := 8192) 0 i)) (rate (fun i k => x0 (ix2 (n0 := 10) (n1 := 8) i k)) (one x6)) (one x4) j := by
  have i0 : S_.Idx := fun a => a.elim0
  have h4 := (spread_apply bcast_S_S1x8192 (shapeCast S_ x4 shapeCasts_S1_S_) (ix2 (n0 := 1) (n1 := 8192) 0 j) i0).trans (scalar_apply x4 i0)
  have hw := window_apply (tStep x0 x2 x6) (broadcastInDim S_ ![] bcast_S_S_ (constant S_ .f32 0x00000000#32))
    (fun i => (spread_apply _ _ i i0).trans Ideal.ofBits_zero_f32) j
  unfold tTime time
  refine (congrArg₂ (fun a b : EReal => a + b) hw h4).trans ?_
  refine congrArg (fun e => cum e j + one x4) (funext fun i => ?_)
  exact tStep_apply x0 x2 x6 _

/-- The times, a row of them for each sample. -/
def tTimes (x0 : FVec Ideal S10x8 .f32) (x2 : FVec Ideal S1x8192 .f32) (x4 x6 : FVec Ideal S1 .f32) : FVec Ideal S4096x8192 .f32 :=
  broadcastInDim S4096x8192 ![0, 1] bcast_S1x8192_S4096x8192_0_1 (tTime x0 x2 x4 x6)

/-- A row of the times is the times. -/
theorem tTimes_apply (x0 : FVec Ideal S10x8 .f32) (x2 : FVec Ideal S1x8192 .f32) (x4 x6 : FVec Ideal S1 .f32) (n : Fin 4096) (j : Fin 8192) :
    tTimes x0 x2 x4 x6 (ix2 (n0 := 4096) (n1 := 8192) n j) = tTime x0 x2 x4 x6 (ix2 (n0 := 1) (n1 := 8192) 0 j) := by
  unfold tTimes
  refine broadcastInDim_apply _ _ _ _ _ fun a => ?_
  match a with
  | ⟨0, _⟩ => rfl
  | ⟨1, _⟩ => rfl

/-- The total intensity of a step, in plain mathematics. -/
theorem total_apply (x1 : FVec Ideal S1x8192x8 .f32) (j : Fin 8192) :
    Host.reduceAdd x1 (constant S_ .f32 0x00000000#32) reducesTo_S1x8192x8_S1x8192_d2 h_S_ (ix2 (n0 := 1) (n1 := 8192) 0 j)
      = ∑ k : Fin 8, x1 (ix3 (n0 := 1) (n1 := 8192) (n2 := 8) 0 j k) := by
  have h1 : S1x8192x8.Reduces [2] S1x8192 := by decide
  rw [ValueIdx.hostReduceAdd_apply, Ideal.hostReduceAdd_single reducesTo_S1x8192x8_S1x8192_d2 h1]
  show Ideal.ofBits .f32 0x00000000#32 + _ = _
  rw [Ideal.ofBits_zero_f32, zero_add]
  refine Finset.sum_congr rfl fun k _ => congrArg x1 (funext fun b => ?_)
  match b with
  | ⟨0, _⟩ => rfl
  | ⟨1, _⟩ => rfl
  | ⟨2, _⟩ => rfl

/-- A ratio, in plain mathematics. -/
theorem tCrit_apply (x0 : FVec Ideal S10x8 .f32) (x1 : FVec Ideal S1x8192x8 .f32) (x3 : FVec Ideal S4096x8192 .f32) (x6 : FVec Ideal S1 .f32)
    (n : Fin 4096) (j : Fin 8192) :
    tCrit x0 x1 x3 x6 (ix2 (n0 := 4096) (n1 := 8192) n j)
      = Ideal.div (x3 (ix2 (n0 := 4096) (n1 := 8192) n j) * rate (fun i k => x0 (ix2 (n0 := 10) (n1 := 8) i k)) (one x6))
          ((∑ k : Fin 8, x1 (ix3 (n0 := 1) (n1 := 8192) (n2 := 8) 0 j k)) * one x6) := by
  have i0 : S_.Idx := fun a => a.elim0
  unfold tCrit
  show Ideal.div (x3 _ * broadcastInDim S4096x8192 ![] bcast_S_S4096x8192 (tRate x0 x6) _)
    (broadcastInDim (s := S1x8192) S4096x8192 ![0, 1] bcast_S1x8192_S4096x8192_0_1 _ _) = _
  rw [spread_apply _ _ _ i0, tRate_apply]
  refine congrArg (Ideal.div _) ?_
  rw [broadcastInDim_apply _ _ _ _ (ix2 (n0 := 1) (n1 := 8192) 0 j) fun a => by
    match a with
    | ⟨0, _⟩ => rfl
    | ⟨1, _⟩ => rfl]
  exact congrArg₂ (fun a b : EReal => a * b) (total_apply x1 j) ((spread_apply _ _ _ i0).trans (scalar_apply x6 i0))

/-- The least of a row. -/
theorem rowMin_apply (c : FVec Ideal S4096x8192 .f32) (n : Fin 4096) :
    Host.reduce FloatOps.minimumf c (constant S_ .f32 0x7F800000#32) reducesTo_S4096x8192_S4096_d1 h_S_ (ix1 (n0 := 4096) n)
      = (Finset.univ : Finset (Fin 8192)).fold min ⊤ fun j => c (ix2 (n0 := 4096) (n1 := 8192) n j) := by
  have h1 : S4096x8192.Reduces [1] S4096 := by decide
  rw [Host.reduce_eq_fold_single FloatOps.minimumf _ _ reducesTo_S4096x8192_S4096_d1 h1]
  show (Finset.univ : Finset (Fin 8192)).fold min (Ideal.ofBits .f32 0x7F800000#32) _ = _
  rw [word_top]
  refine congrArg ((Finset.univ : Finset (Fin 8192)).fold min ⊤) (funext fun a => congrArg c (funext fun b => ?_))
  match b with
  | ⟨0, _⟩ => rfl
  | ⟨1, _⟩ => rfl

/-- No element is above the greatest. -/
theorem le_allMax (t : FVec Ideal S4096x8192 .f32) (i : S_.Idx) (k : S4096x8192.Idx) :
    t k ≤ Host.reduce FloatOps.maximumf t (constant S_ .f32 0xFF800000#32) reducesTo_S4096x8192_S_d0_1 h_S_ i := by
  rw [Host.reduce_eq_fold FloatOps.maximumf _ _ reducesTo_S4096x8192_S_d0_1 h_S_ i,
    Finset.filter_true_of_mem fun k _ => funext fun a => a.elim0]
  show t k ≤ (Finset.univ : Finset S4096x8192.Idx).fold max _ t
  exact (Finset.le_fold_max _).2 (Or.inr ⟨k, Finset.mem_univ _, le_rfl⟩)

/-- The last time of a row. -/
theorem tLast_apply (t : FVec Ideal S4096x8192 .f32) (n : Fin 4096) :
    tLast t (ix1 (n0 := 4096) n) = t (ix2 (n0 := 4096) (n1 := 8192) n ⟨8191, by omega⟩) := by
  unfold tLast
  rw [shapeCast_apply _ _ _ (ix2 (n0 := 4096) (n1 := 1) n 0) (by
    rw [Shape.rowMajor_val_one, Shape.rowMajor_val_two]
    show n.val * 1 + 0 = n.val
    omega)]
  refine extractStridedSlice_apply _ _ _ _ _ fun a => ?_
  match a with
  | ⟨0, _⟩ => exact (Nat.zero_add _).symm
  | ⟨1, _⟩ => rfl

/-- A choice by a bit is the choice by what the bit says. -/
theorem choose {α : Type} {p : Prop} [Decidable p] {b : BitVec 1} (h : b = 1#1 ↔ p) (x y : α) :
    (if b = 1#1 then x else y) = if p then x else y := by
  by_cases hp : p
  · rw [if_pos hp, if_pos (h.2 hp)]
  · rw [if_neg hp, if_neg fun e => hp (h.1 e)]

/-- The bit of a conjunction with a negated bit. -/
theorem and_not_iff (b b' : BitVec 1) : IntOp.andi (~~~ b) b' = 1#1 ↔ ¬ b = 1#1 ∧ b' = 1#1 := by
  revert b b'
  decide

/-- The bit of a decided statement. -/
theorem bit_iff (p : Prop) [Decidable p] : BitVec.ofBool (decide p) = 1#1 ↔ p := by
  by_cases hp : p <;> simp [hp]

/-- An element of a comparison. -/
theorem lt_iff {s : Shape} (x y : FVec Ideal s .f32) (i : s.Idx) {a b : EReal} (ha : x i = a) (hb : y i = b) :
    cmpf .olt x y i = 1#1 ↔ a < b := by
  subst ha hb
  exact bit_iff _

/-- An element of a comparison. -/
theorem gt_iff {s : Shape} (x y : FVec Ideal s .f32) (i : s.Idx) {a b : EReal} (ha : x i = a) (hb : y i = b) :
    cmpf .ogt x y i = 1#1 ↔ b < a := by
  subst ha hb
  exact bit_iff _

/-- An element of a comparison. -/
theorem ge_iff {s : Shape} (x y : FVec Ideal s .f32) (i : s.Idx) {a b : EReal} (ha : x i = a) (hb : y i = b) :
    cmpf .oge x y i = 1#1 ↔ b ≤ a := by
  subst ha hb
  exact bit_iff _

/-- An element of a choice. -/
theorem select_apply {s : Shape} {α : Type} (b : IVec s 1) (x y : s.Idx → α) (i : s.Idx) :
    select b x y i = if b i = 1#1 then x i else y i := rfl

/-- An element of a conjunction with a negation. -/
theorem and_not_apply {s : Shape} (b b' : IVec s 1) (i : s.Idx) : andi (noti b) b' i = IntOp.andi (~~~ (b i)) (b' i) := rfl

/-- An element of a sum. -/
theorem add_apply {s : Shape} (x y : FVec Ideal s .f32) (i : s.Idx) {a b : EReal} (ha : x i = a) (hb : y i = b) : addf x y i = a + b := by
  subst ha hb
  rfl

/-- The one, spread over an array. -/
theorem ones_apply {T : Shape} (h : S_.BroadcastsInDim T ![]) (k : T.Idx) :
    broadcastInDim T ![] h (constant (F := Ideal) S_ .f32 0x3F800000#32) k = (1 : EReal) :=
  (spread_apply h _ k (fun a => a.elim0)).trans Ideal.ofBits_one_f32

/-- Which samples accept a step, in plain mathematics. -/
theorem tAcc_iff (c : FVec Ideal S4096x8192 .f32) (n : Fin 4096) :
    tAcc c (ix1 (n0 := 4096) n) = 1#1
      ↔ (Finset.univ : Finset (Fin 8192)).fold min ⊤ (fun j => (c (ix2 (n0 := 4096) (n1 := 8192) n j) : EReal)) < 1 :=
  lt_iff _ _ _ (rowMin_apply c n) (ones_apply _ _)

/-- The times of a row, the rejected ones put past the end. -/
theorem pushed_apply (c t : FVec Ideal S4096x8192 .f32) (M : FVec Ideal S_ .f32) (k : S4096x8192.Idx) (i0 : S_.Idx) {a b μ : EReal}
    (ha : c k = a) (hb : t k = b) (hM : M i0 = μ) :
    select (cmpf .oge c (broadcastInDim S4096x8192 ![] bcast_S_S4096x8192 (constant S_ .f32 0x3F800000#32)))
        (broadcastInDim S4096x8192 ![] bcast_S_S4096x8192 (addf M (constant S_ .f32 0x3F800000#32))) t k
      = if a < 1 then b else μ + 1 := by
  rw [select_apply, choose (ge_iff _ _ _ ha (ones_apply _ _)), spread_apply _ _ _ i0, add_apply _ _ _ hM Ideal.ofBits_one_f32, hb]
  by_cases h : a < 1
  · rw [if_pos h, if_neg (not_le.2 h)]
  · rw [if_neg h, if_pos (not_lt.1 h)]

/-- The first result of the reference, one sample of it, when the times never go back. -/
theorem tOut_apply (c t : FVec Ideal S4096x8192 .f32) (x5 : FVec Ideal S1 .f32) (n : Fin 4096) (τ : Fin 8192 → EReal) (hτ : Monotone τ)
    (ht : ∀ j, t (ix2 (n0 := 4096) (n1 := 8192) n j) = τ j) :
    tOut c t x5 (ix1 (n0 := 4096) n) = result τ (fun j => c (ix2 (n0 := 4096) (n1 := 8192) n j) < (1 : EReal)) (one x5) := by
  have i0 : S_.Idx := fun a => a.elim0
  have h5 := (spread_apply bcast_S_S4096 (shapeCast S_ x5 shapeCasts_S1_S_) (ix1 (n0 := 4096) n) i0).trans (scalar_apply x5 i0)
  have hl := (tLast_apply t n).trans (ht ⟨8191, by omega⟩)
  unfold tOut
  have hM : ∀ j, τ j ≤ Host.reduce FloatOps.maximumf t (constant S_ .f32 0xFF800000#32) reducesTo_S4096x8192_S_d0_1 h_S_ i0 := fun j => by
    rw [← ht]; exact le_allMax t i0 _
  generalize Host.reduce FloatOps.maximumf t (constant S_ .f32 0xFF800000#32) reducesTo_S4096x8192_S_d0_1 h_S_ = M at hM
  rw [select_apply, select_apply, and_not_apply, choose (and_not_iff _ _), rowMin_apply, h5, hl,
    ← reference_result hτ (fun j => c (ix2 (n0 := 4096) (n1 := 8192) n j)) hM,
    ← choose (tAcc_iff c n)]
  have hg := gt_iff _ _ _ hl h5
  rw [funext fun j => pushed_apply c t M _ i0 rfl (ht j) rfl]
  simp only [hg, tAcc_iff]

/-- The second result of the reference. -/
theorem weight_apply (k : S4096.Idx) :
    Host.divf (broadcastInDim S4096 ![] bcast_S_S4096 (constant (F := Ideal) S_ .f32 0x3F800000#32))
      (broadcastInDim S4096 ![] bcast_S_S4096 (Host.reduceAdd (broadcastInDim S4096 ![] bcast_S_S4096 (constant S_ .f32 0x3F800000#32))
        (constant S_ .f32 0x00000000#32) reducesTo_S4096_S_d0 h_S_)) k = Ideal.ofBits .f32 0x39800000#32 := by
  have i0 : S_.Idx := fun a => a.elim0
  have h1 : ∀ k, broadcastInDim S4096 ![] bcast_S_S4096 (constant (F := Ideal) S_ .f32 0x3F800000#32) k = (1 : EReal) := fun k =>
    (spread_apply _ _ k i0).trans Ideal.ofBits_one_f32
  have hs : Host.reduceAdd (broadcastInDim S4096 ![] bcast_S_S4096 (constant (F := Ideal) S_ .f32 0x3F800000#32))
        (constant S_ .f32 0x00000000#32) reducesTo_S4096_S_d0 h_S_ i0 = ((4096 : ℝ) : EReal) := by
    rw [ValueIdx.hostReduceAdd_apply, Ideal.hostReduceAdd_total _ fun b => b.elim0]
    show Ideal.ofBits .f32 0x00000000#32 + _ = _
    rw [Ideal.ofBits_zero_f32, zero_add, Finset.sum_congr rfl fun k _ => h1 k]
    refine (sum_idx1 (n0 := 4096) _).trans ?_
    rw [Finset.sum_const, Finset.card_univ, Fintype.card_fin, nsmul_one]
    norm_cast
  rw [ValueIdx.hostDivf_apply, h1, spread_apply _ _ _ i0, hs, Ideal.div_coe (by norm_num), one_mul, word_weight]

end Cert.Proof.Ref

end
-- ==== Proof.RefOut.lean ====
/-
  The reference's run, its two results in plain mathematics.
-/
module

public import proofs.«01_k».proof.Proof.RefVal

@[expose] public section

set_option maxRecDepth 16384

noncomputable section

namespace Cert.Proof.Ref

open Cert.ReferenceIdeal Cert.ReferenceIdeal.Gen
open Idealize.ShloMosaic
open Cert.Proof.Num

/-- The first result of the reference is put together of its parts. -/
theorem out_eq (m : (ℓ : Loc nD τ sig) → Buf (Elt Ideal) ℓ) (c : Dev nD) :
    Value.res_main_v47 m c = tOut
      (tCrit (m ((c.tc : Thread nD τ).loc main_arg0)) (m ((c.tc : Thread nD τ).loc main_arg1)) (m ((c.tc : Thread nD τ).loc main_arg3)) (m ((c.tc : Thread nD τ).loc main_arg6)))
      (tTimes (m ((c.tc : Thread nD τ).loc main_arg0)) (m ((c.tc : Thread nD τ).loc main_arg2)) (m ((c.tc : Thread nD τ).loc main_arg4)) (m ((c.tc : Thread nD τ).loc main_arg6)))
      (m ((c.tc : Thread nD τ).loc main_arg5)) := by
  unfold Value.res_main_v47 tOut tAcc tLast tCrit tTimes tTime tStep tRate
  rfl

/-- The first result of the reference, one sample of it, in plain mathematics, when the rate is a positive number. -/
theorem parts_apply (x0 : FVec Ideal S10x8 .f32) (x1 : FVec Ideal S1x8192x8 .f32) (x2 : FVec Ideal S1x8192 .f32)
    (x3 : FVec Ideal S4096x8192 .f32) (x4 x5 x6 : FVec Ideal S1 .f32) (n : Fin 4096) {σ : ℝ} (hσ : 0 < σ)
    (hr : rate (fun i k => x0 (ix2 (n0 := 10) (n1 := 8) i k)) (one x6) = (σ : EReal)) :
    tOut (tCrit x0 x1 x3 x6) (tTimes x0 x2 x4 x6) x5 (ix1 (n0 := 4096) n)
      = result (time (fun i => x2 (ix2 (n0 := 1) (n1 := 8192) 0 i)) (σ : EReal) (one x4))
          (fun j => Ideal.div (x3 (ix2 (n0 := 4096) (n1 := 8192) n j) * (σ : EReal))
            ((∑ k : Fin 8, x1 (ix3 (n0 := 1) (n1 := 8192) (n2 := 8) 0 j k)) * one x6) < 1) (one x5) := by
  refine (tOut_apply _ _ _ n _ (cum_mono (fun i => step_nonneg _ hσ) (one x4)) fun j => ?_).trans (result_congr _ (fun j => ?_) _)
  · rw [tTimes_apply, tTime_apply, hr]
    rfl
  · rw [tCrit_apply, hr]

end Cert.Proof.Ref

end
-- ==== Proof.PreVal.lean ====
/-
  What the precondition says: the largest total intensity of the boundary events, the sampling rate and every step's total
  intensity are positive numbers.
-/
module

public import proofs.«01_k».proof.Proof.RefVal
public import proofs.«01_k».proof.Proof.Gen.Pre_positive

@[expose] public section

set_option maxRecDepth 16384

noncomputable section

namespace Cert.Proof.Pre

open Cert.Pre_positive Cert.Pre_positive.Gen
open Idealize.ShloMosaic
open Cert.Proof.Num

/-- An element of a conjunction. -/
theorem and_iff {s : Shape} (b b' : IVec s 1) (i : s.Idx) : andi b b' i = 1#1 ↔ b i = 1#1 ∧ b' i = 1#1 := by
  show IntOp.andi (b i) (b' i) = 1#1 ↔ _
  generalize b i = p
  generalize b' i = q
  revert p q
  decide

/-- A conjunction over an array holds at every element. -/
theorem all_of {b : IVec S1x8192 1} {v : IVec S_ 1} {i : S_.Idx}
    (h : Host.reduce IntOp.andi b v reducesTo_S1x8192_S_d0_1 h_S_ i = 1#1) (k : S1x8192.Idx) : b k = 1#1 := by
  rw [Host.reduce_eq_fold, Finset.filter_true_of_mem fun k _ => funext fun a => a.elim0] at h
  have e := (Finset.fold_op_rel_iff_and (op := IntOp.andi) (r := fun (_ y : BitVec 1) => y = 1#1) (fun {_ y z} => by
    revert y z
    decide) (c := 1#1)).1 h
  exact e.2 k (Finset.mem_univ _)

/-- A number above zero and below infinity is a positive real. -/
theorem real_of {x : EReal} (h0 : 0 < x) (h1 : x < ⊤) : ∃ y : ℝ, 0 < y ∧ x = (y : EReal) := by
  induction x with
  | bot => exact absurd h0 (not_lt.2 bot_le)
  | top => exact absurd h1 (lt_irrefl _)
  | coe y => exact ⟨y, EReal.coe_pos.1 h0, rfl⟩

/-- The precondition, in plain mathematics. -/
theorem positive_of (x0 : FVec Ideal S10x8 .f32) (x1 : FVec Ideal S1x8192x8 .f32) (x2 : FVec Ideal S1x8192 .f32)
    (x3 : FVec Ideal S4096x8192 .f32) (x4 x5 x6 : FVec Ideal S1 .f32) (h : fn (F := Ideal) x0 x1 x2 x3 x4 x5 x6 = fun _ => 1#1) :
    (∃ β : ℝ, 0 < β ∧ bound (fun i k => x0 (ix2 (n0 := 10) (n1 := 8) i k)) = (β : EReal))
      ∧ (∃ ρ : ℝ, 0 < ρ ∧ x6 (ix1 (n0 := 1) 0) = (ρ : EReal))
      ∧ ∀ j, ∃ α : ℝ, 0 < α ∧ (∑ k : Fin 8, x1 (ix3 (n0 := 1) (n1 := 8192) (n2 := 8) 0 j k) : EReal) = (α : EReal) := by
  have i0 : S_.Idx := fun a => a.elim0
  have e := congrFun h i0
  unfold fn fn_part1 at e
  dsimp only at e
  rw [and_iff, and_iff, and_iff, and_iff, and_iff] at e
  obtain ⟨⟨⟨⟨⟨e1, e2⟩, e3⟩, e4⟩, e5⟩, e6⟩ := e
  have z : (constant (F := Ideal) S_ .f32 0x00000000#32) i0 = (0 : EReal) := Ideal.ofBits_zero_f32
  have t : (constant (F := Ideal) S_ .f32 0x7F800000#32) i0 = (⊤ : EReal) := word_top
  have hb := Ref.bound_apply x0 i0
  have h6 := Ref.scalar_apply x6 i0
  refine ⟨real_of ((Ref.gt_iff _ _ _ hb z).1 e1) ((Ref.lt_iff _ _ _ hb t).1 e2),
    real_of ((Ref.gt_iff _ _ _ h6 z).1 e3) ((Ref.lt_iff _ _ _ h6 t).1 e4), fun j => ?_⟩
  have ht := Ref.total_apply x1 j
  exact real_of ((Ref.gt_iff _ _ _ ht ((Ref.spread_apply _ _ _ i0).trans z)).1 (all_of e5 _))
    ((Ref.lt_iff _ _ _ ht ((Ref.spread_apply _ _ _ i0).trans t)).1 (all_of e6 _))

end Cert.Proof.Pre

end
-- ==== Proof.Value.lean ====
/-
  The value claim: over the extended reals, of launches whose intensities are positive, the kernel and the reference return
  the same samples and the same weights.
-/
module

public import proofs.«01_k».proof.Defs
public import proofs.«01_k».proof.Proof.TabVal
public import proofs.«01_k».proof.Proof.RefOut
public import proofs.«01_k».proof.Proof.PreVal
public import proofs.«01_k».proof.Proof.Gen.ReferenceIdeal.Run

@[expose] public section

set_option maxRecDepth 16384

noncomputable section

namespace Cert.Proof

open Idealize.ShloMosaic Idealize.SL.Sem
open Cert.Proof.Num

/-- A positive bound times the factor of five times a positive number of events is a positive rate. -/
theorem rate_real {b : Fin 10 → Fin 8 → EReal} {r : EReal} {β ρ : ℝ} (hb : bound b = (β : EReal)) (hr : r = (ρ : EReal)) :
    rate b r = ((β * 5 * ρ : ℝ) : EReal) := by
  unfold rate
  rw [hb, hr, word_five, EReal.coe_mul, EReal.coe_mul]

/-- One sample: what a tile picks is what the reference returns. -/
theorem sample_eq (m : (ℓ : Loc Cert.KernelIdeal.nD Cert.KernelIdeal.τ Cert.KernelIdeal.sig) → Buf (Elt Ideal) ℓ)
    (d : Dev Cert.KernelIdeal.nD) (n : Fin 4096)
    (x0 : FVec Ideal Cert.KernelIdeal.S10x8 .f32) (x1 : FVec Ideal Cert.KernelIdeal.S1x8192x8 .f32)
    (x2 : FVec Ideal Cert.KernelIdeal.S1x8192 .f32) (x3 : FVec Ideal Cert.KernelIdeal.S4096x8192 .f32)
    (x4 x5 x6 : FVec Ideal Cert.KernelIdeal.S1 .f32)
    (h0 : m ((d.tc : Thread Cert.KernelIdeal.nD Cert.KernelIdeal.τ).loc Cert.KernelIdeal.main_arg0) = x0)
    (h2 : m ((d.tc : Thread Cert.KernelIdeal.nD Cert.KernelIdeal.τ).loc Cert.KernelIdeal.main_arg2) = x2)
    (h4 : m ((d.tc : Thread Cert.KernelIdeal.nD Cert.KernelIdeal.τ).loc Cert.KernelIdeal.main_arg4) = x4)
    (h5 : m ((d.tc : Thread Cert.KernelIdeal.nD Cert.KernelIdeal.τ).loc Cert.KernelIdeal.main_arg5) = x5)
    (h6 : m ((d.tc : Thread Cert.KernelIdeal.nD Cert.KernelIdeal.τ).loc Cert.KernelIdeal.main_arg6) = x6)
    (hp : Cert.Pre_positive.fn (F := Ideal) x0 x1 x2 x3 x4 x5 x6 = fun _ => 1#1) :
    Ref.tOut (Ref.tCrit x0 x1 x3 x6) (Ref.tTimes x0 x2 x4 x6) x5 (ix1 (n0 := 4096) n) = pick (ftOf m d) x1 x3 n := by
  obtain ⟨⟨β, hβ, eβ⟩, ⟨ρ, hρ, eρ⟩, ht⟩ := Pre.positive_of x0 x1 x2 x3 x4 x5 x6 hp
  have hσ : 0 < β * 5 * ρ := by positivity
  have er := rate_real eβ eρ
  refine (Ref.parts_apply x0 x1 x2 x3 x4 x5 x6 n hσ er).trans ?_
  refine Eq.trans ?_ (Tab.kernel_apply m d x1 x3 n x0 x2 x4 x5 x6 h0 h2 h4 h5 h6).symm
  rw [er]
  refine result_congr _ (fun j => ?_) _
  obtain ⟨α, hα, eα⟩ := ht j
  rw [eα]
  have e6 : Ref.one x6 = (ρ : EReal) := eρ
  rw [e6, eρ]
  exact accept_iff hσ hα hρ _

/-- The value claim. -/
theorem algebraic : Cert.algebraic_KernelIdeal_ReferenceIdeal_pre_positive := by
  intro m g m' g' hp hm
  refine ⟨fun c => rstOf (ftOf m c) (faOf m c) (fuOf m c), fun _ => wOf (F := Ideal), ?_, ?_⟩
  · exact (θ_run Cert.KernelIdeal.defs _ _).mono (fun _ h => h.1) (run_main (F := Ideal) m g)
  · refine (θ_run Cert.ReferenceIdeal.defs _ _).mono (fun r h c => ?_) (Cert.ReferenceIdeal.Value.run (F := Ideal) m' g')
    obtain ⟨e, w, rest⟩ := h c
    obtain ⟨a0, a1, a2, a3, a4, a5, a6⟩ := hm c
    refine ⟨(e.trans (Ref.out_eq m' c)).trans ?_, w.trans ?_, rest⟩
    · rw [a0, a1, a2, a3, a4, a5, a6]
      funext i
      obtain ⟨n, rfl⟩ : ∃ n : Fin 4096, i = ix1 (n0 := 4096) n := ⟨i 0, funext fun a => match a with | ⟨0, _⟩ => rfl⟩
      exact sample_eq m c n _ _ _ _ _ _ _ rfl rfl rfl rfl rfl (hp c)
    · funext k
      exact Ref.weight_apply k

end Cert.Proof

end
-- ==== Proof.lean ====
/-
  The claims, proved.
-/
module

public import proofs.«01_k».proof.Defs
public import proofs.«01_k».proof.Proof.Frames
public import proofs.«01_k».proof.Proof.Value

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_positive.Gen.facts,
    frame_kernel, frame_ideal, frame_ideal_pre, frame_ref, frame_ref_pre, trivial, algebraic⟩

end Cert.Proof

end
